-- ==== Defs.lean ====
def Pre_Kernel [hPre_in_table : Cert.Pre_in_table.Facts] (m : (ℓ : Loc Cert.Kernel.nD Cert.Kernel.τ Cert.Kernel.sig) → Buf (Elt Bits) ℓ) : Prop :=
  ∀ c : Dev Cert.Kernel.nD,
    (Cert.Pre_in_table.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_in_table : Cert.Pre_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_table [hPre_in_table : Cert.Pre_in_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def quiescent_Kernel [hKernel : Cert.Kernel.Facts] [hPre_in_table : Cert.Pre_in_table.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] [hPre_in_table : Cert.Pre_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_in_table [hReferenceIdeal : Cert.ReferenceIdeal.Facts] [hPre_in_table : Cert.Pre_in_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_table : Cert.Pre_in_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v185) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_in_table : Cert.Pre_in_table.Facts),
    quiescent_Kernel (hKernel := hKernel) (hPre_in_table := hPre_in_table)
    ∧ quiescent_KernelIdeal (hKernelIdeal := hKernelIdeal) (hPre_in_table := hPre_in_table)
    ∧ quiescent_ReferenceIdeal (hReferenceIdeal := hReferenceIdeal)
    ∧ quiescent_ReferenceIdeal_pre_in_table (hReferenceIdeal := hReferenceIdeal) (hPre_in_table := hPre_in_table)
    ∧ preserves_Kernel_KernelIdeal
    ∧ algebraic_KernelIdeal_ReferenceIdeal (hKernelIdeal := hKernelIdeal) (hReferenceIdeal := hReferenceIdeal) (hPre_in_table := hPre_in_table)
-- ==== Pre_in_table.lean ====
abbrev S1024x3x32x32 : Shape := ⟨4, ![1024, 3, 32, 32]⟩
abbrev S50000x3x32x32 : Shape := ⟨4, ![50000, 3, 32, 32]⟩
abbrev S50000x10 : Shape := ⟨2, ![50000, 10]⟩
abbrev S6x3x5x5 : Shape := ⟨4, ![6, 3, 5, 5]⟩
abbrev S6 : Shape := ⟨1, ![6]⟩
abbrev S16x6x5x5 : Shape := ⟨4, ![16, 6, 5, 5]⟩
abbrev S16 : Shape := ⟨1, ![16]⟩
abbrev S12x400 : Shape := ⟨2, ![12, 400]⟩
abbrev S12 : Shape := ⟨1, ![12]⟩
abbrev S120x400 : Shape := ⟨2, ![120, 400]⟩
abbrev S120 : Shape := ⟨1, ![120]⟩
abbrev S10x10 : Shape := ⟨2, ![10, 10]⟩
abbrev S10 : Shape := ⟨1, ![10]⟩
abbrev S1024 : Shape := ⟨1, ![1024]⟩
abbrev S1024x8 : Shape := ⟨2, ![1024, 8]⟩
abbrev S_ : Shape := ⟨0, ![]⟩

class Facts : Prop where
  bcast_S_S1024x8 : S_.BroadcastsInDim S1024x8 (![] : Fin 0 → Fin S1024x8.rank)
  reducesTo_S1024x8_S_d0_1 : S1024x8.ReducesTo [0, 1] S_
  h_S_ : 0 < S_.numel

variable [Facts]

def fn {F : FTy → Type} [FloatOps F] (main_arg0 : FVec F S1024x3x32x32 .f32) (main_arg1 : FVec F S50000x3x32x32 .f32) (main_arg2 : FVec F S50000x10 .f32) (main_arg3 : FVec F S6x3x5x5 .f32) (main_arg4 : FVec F S6 .f32) (main_arg5 : FVec F S16x6x5x5 .f32) (main_arg6 : FVec F S16 .f32) (main_arg7 : FVec F S12x400 .f32) (main_arg8 : FVec F S12 .f32) (main_arg9 : FVec F S120x400 .f32) (main_arg10 : FVec F S120 .f32) (main_arg11 : FVec F S10x10 .f32) (main_arg12 : FVec F S10 .f32) (main_arg13 : IVec S1024 32) (main_arg14 : IVec S1024x8 32) : IVec S_ 1 :=
  let main_c : IVec S_ 32 := constantI S_ 32 0#32
  let main_v0 : IVec S1024x8 32 := broadcastInDim S1024x8 ![] bcast_S_S1024x8 main_c
  let main_v1 : IVec S1024x8 1 := cmpi .sge main_arg14 main_v0
  let main_c_0 : IVec S_ 32 := constantI S_ 32 50000#32
  let main_v2 : IVec S1024x8 32 := broadcastInDim S1024x8 ![] bcast_S_S1024x8 main_c_0
  let main_v3 : IVec S1024x8 1 := cmpi .slt main_arg14 main_v2
  let main_v4 : IVec S1024x8 1 := andi main_v1 main_v3
  let main_c_1 : IVec S_ 1 := constantI S_ 1 1#1
  let main_v5 : IVec S_ 1 := (fun x v => Host.reduce IntOp.andi x v reducesTo_S1024x8_S_d0_1 h_S_) main_v4 main_c_1
  main_v5
-- ==== Kernel.lean ====
abbrev S1024x3x32x32 : Shape := ⟨4, ![1024, 3, 32, 32]⟩
abbrev S50000x3x32x32 : Shape := ⟨4, ![50000, 3, 32, 32]⟩
abbrev S50000x10 : Shape := ⟨2, ![50000, 10]⟩
abbrev S6x3x5x5 : Shape := ⟨4, ![6, 3, 5, 5]⟩
abbrev S6 : Shape := ⟨1, ![6]⟩
abbrev S16x6x5x5 : Shape := ⟨4, ![16, 6, 5, 5]⟩
abbrev S16 : Shape := ⟨1, ![16]⟩
abbrev S12x400 : Shape := ⟨2, ![12, 400]⟩
abbrev S12 : Shape := ⟨1, ![12]⟩
abbrev S120x400 : Shape := ⟨2, ![120, 400]⟩
abbrev S120 : Shape := ⟨1, ![120]⟩
abbrev S10x10 : Shape := ⟨2, ![10, 10]⟩
abbrev S10 : Shape := ⟨1, ![10]⟩
abbrev S1024 : Shape := ⟨1, ![1024]⟩
abbrev S1024x8 : Shape := ⟨2, ![1024, 8]⟩
abbrev S5x32x28 : Shape := ⟨3, ![5, 32, 28]⟩
abbrev S5x14x10 : Shape := ⟨3, ![5, 14, 10]⟩
abbrev S168 : Shape := ⟨1, ![168]⟩
abbrev S160 : Shape := ⟨1, ![160]⟩
abbrev S400 : Shape := ⟨1, ![400]⟩
abbrev S6x3x5x32x28 : Shape := ⟨5, ![6, 3, 5, 32, 28]⟩
abbrev S3x5x32x6x28 : Shape := ⟨5, ![3, 5, 32, 6, 28]⟩
abbrev S15x32x168 : Shape := ⟨3, ![15, 32, 168]⟩
abbrev S16x6x5x14x10 : Shape := ⟨5, ![16, 6, 5, 14, 10]⟩
abbrev S6x5x14x16x10 : Shape := ⟨5, ![6, 5, 14, 16, 10]⟩
abbrev S30x14x160 : Shape := ⟨3, ![30, 14, 160]⟩
abbrev S_ : Shape := ⟨0, ![]⟩
abbrev S168x1 : Shape := ⟨2, ![168, 1]⟩
abbrev S160x1 : Shape := ⟨2, ![160, 1]⟩
abbrev S6x14 : Shape := ⟨2, ![6, 14]⟩
abbrev S84 : Shape := ⟨1, ![84]⟩
abbrev S1x84 : Shape := ⟨2, ![1, 84]⟩
abbrev S2x84 : Shape := ⟨2, ![2, 84]⟩
abbrev S1x168 : Shape := ⟨2, ![1, 168]⟩
abbrev S16x5 : Shape := ⟨2, ![16, 5]⟩
abbrev S80 : Shape := ⟨1, ![80]⟩
abbrev S1x80 : Shape := ⟨2, ![1, 80]⟩
abbrev S2x80 : Shape := ⟨2, ![2, 80]⟩
abbrev S1x160 : Shape := ⟨2, ![1, 160]⟩
abbrev S400x1 : Shape := ⟨2, ![400, 1]⟩
abbrev S12x5x80 : Shape := ⟨3, ![12, 5, 80]⟩
abbrev S5x80x12 : Shape := ⟨3, ![5, 80, 12]⟩
abbrev S120x5x80 : Shape := ⟨3, ![120, 5, 80]⟩
abbrev S5x80x120 : Shape := ⟨3, ![5, 80, 120]⟩
abbrev S1x12 : Shape := ⟨2, ![1, 12]⟩
abbrev S1x120 : Shape := ⟨2, ![1, 120]⟩
abbrev S1x10 : Shape := ⟨2, ![1, 10]⟩
abbrev S8192 : Shape := ⟨1, ![8192]⟩
abbrev S50000x1x10 : Shape := ⟨3, ![50000, 1, 10]⟩
abbrev S8192x3x32x32 : Shape := ⟨4, ![8192, 3, 32, 32]⟩
abbrev S8192x1x10 : Shape := ⟨3, ![8192, 1, 10]⟩
abbrev S1x3x32x32 : Shape := ⟨4, ![1, 3, 32, 32]⟩
abbrev S1 : Shape := ⟨1, ![1]⟩
abbrev S1x1x10 : Shape := ⟨3, ![1, 1, 10]⟩
abbrev S32x3x32x32 : Shape := ⟨4, ![32, 3, 32, 32]⟩
abbrev S32x1x10 : Shape := ⟨3, ![32, 1, 10]⟩
abbrev S3x32x32 : Shape := ⟨3, ![3, 32, 32]⟩
abbrev S1024x5x80 : Shape := ⟨3, ![1024, 5, 80]⟩
abbrev S128x3x32x32 : Shape := ⟨4, ![128, 3, 32, 32]⟩
abbrev S128x5x80 : Shape := ⟨3, ![128, 5, 80]⟩
abbrev S128x1x28x32 : Shape := ⟨4, ![128, 1, 28, 32]⟩
abbrev S128x28x32 : Shape := ⟨3, ![128, 28, 32]⟩
abbrev S3584x32 : Shape := ⟨2, ![3584, 32]⟩
abbrev S1x32x168 : Shape := ⟨3, ![1, 32, 168]⟩
abbrev S32x168 : Shape := ⟨2, ![32, 168]⟩
abbrev S3584x168 : Shape := ⟨2, ![3584, 168]⟩
abbrev S3584x84 : Shape := ⟨2, ![3584, 84]⟩
abbrev S1792x2x84 : Shape := ⟨3, ![1792, 2, 84]⟩
abbrev S1792x84 : Shape := ⟨2, ![1792, 84]⟩
abbrev S128x14x84 : Shape := ⟨3, ![128, 14, 84]⟩
abbrev S128x10x14 : Shape := ⟨3, ![128, 10, 14]⟩
abbrev S1280x14 : Shape := ⟨2, ![1280, 14]⟩
abbrev S1x14x160 : Shape := ⟨3, ![1, 14, 160]⟩
abbrev S14x160 : Shape := ⟨2, ![14, 160]⟩
abbrev S1280x160 : Shape := ⟨2, ![1280, 160]⟩
abbrev S1280x80 : Shape := ⟨2, ![1280, 80]⟩
abbrev S640x2x80 : Shape := ⟨3, ![640, 2, 80]⟩
abbrev S640x80 : Shape := ⟨2, ![640, 80]⟩
abbrev S8192x5x80 : Shape := ⟨3, ![8192, 5, 80]⟩
abbrev S1024x10 : Shape := ⟨2, ![1024, 10]⟩
abbrev S1024x1x10 : Shape := ⟨3, ![1024, 1, 10]⟩
abbrev S128x10 : Shape := ⟨2, ![128, 10]⟩
abbrev S128x1x80 : Shape := ⟨3, ![128, 1, 80]⟩
abbrev S128x80 : Shape := ⟨2, ![128, 80]⟩
abbrev S1x80x12 : Shape := ⟨3, ![1, 80, 12]⟩
abbrev S80x12 : Shape := ⟨2, ![80, 12]⟩
abbrev S128x12 : Shape := ⟨2, ![128, 12]⟩
abbrev S1024x1x80 : Shape := ⟨3, ![1024, 1, 80]⟩
abbrev S1024x80 : Shape := ⟨2, ![1024, 80]⟩
abbrev S1024x12 : Shape := ⟨2, ![1024, 12]⟩
abbrev S1x80x120 : Shape := ⟨3, ![1, 80, 120]⟩
abbrev S80x120 : Shape := ⟨2, ![80, 120]⟩
abbrev S128x120 : Shape := ⟨2, ![128, 120]⟩
abbrev S128x8x12 : Shape := ⟨3, ![128, 8, 12]⟩
abbrev S128x1x12 : Shape := ⟨3, ![128, 1, 12]⟩
abbrev S128x8x10 : Shape := ⟨3, ![128, 8, 10]⟩
abbrev S128x1x10 : Shape := ⟨3, ![128, 1, 10]⟩
abbrev S128x8x1 : Shape := ⟨3, ![128, 8, 1]⟩
abbrev S128x8 : Shape := ⟨2, ![128, 8]⟩
abbrev S128 : Shape := ⟨1, ![128]⟩
abbrev S128x1 : Shape := ⟨2, ![128, 1]⟩

abbrev nBuf : Space → Nat
  | .hbm => 80
  | .vmem => 162
  | .smem => 1
  | _ => 0

abbrev vmemTy0_0 (i : Nat) : BufTy := match i % 128 with
  | 0 => ⟨S1x3x32x32, .f32⟩
  | 1 => ⟨S1x3x32x32, .f32⟩
  | 2 => ⟨S1x3x32x32, .f32⟩
  | 3 => ⟨S1x3x32x32, .f32⟩
  | 4 => ⟨S1x3x32x32, .f32⟩
  | 5 => ⟨S1x3x32x32, .f32⟩
  | 6 => ⟨S1x3x32x32, .f32⟩
  | 7 => ⟨S1x3x32x32, .f32⟩
  | 8 => ⟨S1x3x32x32, .f32⟩
  | 9 => ⟨S1x3x32x32, .f32⟩
  | 10 => ⟨S1x3x32x32, .f32⟩
  | 11 => ⟨S1x3x32x32, .f32⟩
  | 12 => ⟨S1x3x32x32, .f32⟩
  | 13 => ⟨S1x3x32x32, .f32⟩
  | 14 => ⟨S1x3x32x32, .f32⟩
  | 15 => ⟨S1x3x32x32, .f32⟩
  | 16 => ⟨S1x3x32x32, .f32⟩
  | 17 => ⟨S1x3x32x32, .f32⟩
  | 18 => ⟨S1x3x32x32, .f32⟩
  | 19 => ⟨S1x3x32x32, .f32⟩
  | 20 => ⟨S1x3x32x32, .f32⟩
  | 21 => ⟨S1x3x32x32, .f32⟩
  | 22 => ⟨S1x3x32x32, .f32⟩
  | 23 => ⟨S1x3x32x32, .f32⟩
  | 24 => ⟨S1x3x32x32, .f32⟩
  | 25 => ⟨S1x3x32x32, .f32⟩
  | 26 => ⟨S1x3x32x32, .f32⟩
  | 27 => ⟨S1x3x32x32, .f32⟩
  | 28 => ⟨S1x3x32x32, .f32⟩
  | 29 => ⟨S1x3x32x32, .f32⟩
  | 30 => ⟨S1x3x32x32, .f32⟩
  | 31 => ⟨S1x3x32x32, .f32⟩
  | 32 => ⟨S1x3x32x32, .f32⟩
  | 33 => ⟨S1x3x32x32, .f32⟩
  | 34 => ⟨S1x3x32x32, .f32⟩
  | 35 => ⟨S1x3x32x32, .f32⟩
  | 36 => ⟨S1x3x32x32, .f32⟩
  | 37 => ⟨S1x3x32x32, .f32⟩
  | 38 => ⟨S1x3x32x32, .f32⟩
  | 39 => ⟨S1x3x32x32, .f32⟩
  | 40 => ⟨S1x3x32x32, .f32⟩
  | 41 => ⟨S1x3x32x32, .f32⟩
  | 42 => ⟨S1x3x32x32, .f32⟩
  | 43 => ⟨S1x3x32x32, .f32⟩
  | 44 => ⟨S1x3x32x32, .f32⟩
  | 45 => ⟨S1x3x32x32, .f32⟩
  | 46 => ⟨S1x3x32x32, .f32⟩
  | 47 => ⟨S1x3x32x32, .f32⟩
  | 48 => ⟨S1x3x32x32, .f32⟩
  | 49 => ⟨S1x3x32x32, .f32⟩
  | 50 => ⟨S1x3x32x32, .f32⟩
  | 51 => ⟨S1x3x32x32, .f32⟩
  | 52 => ⟨S1x3x32x32, .f32⟩
  | 53 => ⟨S1x3x32x32, .f32⟩
  | 54 => ⟨S1x3x32x32, .f32⟩
  | 55 => ⟨S1x3x32x32, .f32⟩
  | 56 => ⟨S1x3x32x32, .f32⟩
  | 57 => ⟨S1x3x32x32, .f32⟩
  | 58 => ⟨S1x3x32x32, .f32⟩
  | 59 => ⟨S1x3x32x32, .f32⟩
  | 60 => ⟨S1x3x32x32, .f32⟩
  | 61 => ⟨S1x3x32x32, .f32⟩
  | 62 => ⟨S1x3x32x32, .f32⟩
  | 63 => ⟨S1x3x32x32, .f32⟩
  | 64 => ⟨S1x1x10, .f32⟩
  | 65 => ⟨S1x1x10, .f32⟩
  | 66 => ⟨S1x1x10, .f32⟩
  | 67 => ⟨S1x1x10, .f32⟩
  | 68 => ⟨S1x1x10, .f32⟩
  | 69 => ⟨S1x1x10, .f32⟩
  | 70 => ⟨S1x1x10, .f32⟩
  | 71 => ⟨S1x1x10, .f32⟩
  | 72 => ⟨S1x1x10, .f32⟩
  | 73 => ⟨S1x1x10, .f32⟩
  | 74 => ⟨S1x1x10, .f32⟩
  | 75 => ⟨S1x1x10, .f32⟩
  | 76 => ⟨S1x1x10, .f32⟩
  | 77 => ⟨S1x1x10, .f32⟩
  | 78 => ⟨S1x1x10, .f32⟩
  | 79 => ⟨S1x1x10, .f32⟩
  | 80 => ⟨S1x1x10, .f32⟩
  | 81 => ⟨S1x1x10, .f32⟩
  | 82 => ⟨S1x1x10, .f32⟩
  | 83 => ⟨S1x1x10, .f32⟩
  | 84 => ⟨S1x1x10, .f32⟩
  | 85 => ⟨S1x1x10, .f32⟩
  | 86 => ⟨S1x1x10, .f32⟩
  | 87 => ⟨S1x1x10, .f32⟩
  | 88 => ⟨S1x1x10, .f32⟩
  | 89 => ⟨S1x1x10, .f32⟩
  | 90 => ⟨S1x1x10, .f32⟩
  | 91 => ⟨S1x1x10, .f32⟩
  | 92 => ⟨S1x1x10, .f32⟩
  | 93 => ⟨S1x1x10, .f32⟩
  | 94 => ⟨S1x1x10, .f32⟩
  | 95 => ⟨S1x1x10, .f32⟩
  | 96 => ⟨S1x1x10, .f32⟩
  | 97 => ⟨S1x1x10, .f32⟩
  | 98 => ⟨S1x1x10, .f32⟩
  | 99 => ⟨S1x1x10, .f32⟩
  | 100 => ⟨S1x1x10, .f32⟩
  | 101 => ⟨S1x1x10, .f32⟩
  | 102 => ⟨S1x1x10, .f32⟩
  | 103 => ⟨S1x1x10, .f32⟩
  | 104 => ⟨S1x1x10, .f32⟩
  | 105 => ⟨S1x1x10, .f32⟩
  | 106 => ⟨S1x1x10, .f32⟩
  | 107 => ⟨S1x1x10, .f32⟩
  | 108 => ⟨S1x1x10, .f32⟩
  | 109 => ⟨S1x1x10, .f32⟩
  | 110 => ⟨S1x1x10, .f32⟩
  | 111 => ⟨S1x1x10, .f32⟩
  | 112 => ⟨S1x1x10, .f32⟩
  | 113 => ⟨S1x1x10, .f32⟩
  | 114 => ⟨S1x1x10, .f32⟩
  | 115 => ⟨S1x1x10, .f32⟩
  | 116 => ⟨S1x1x10, .f32⟩
  | 117 => ⟨S1x1x10, .f32⟩
  | 118 => ⟨S1x1x10, .f32⟩
  | 119 => ⟨S1x1x10, .f32⟩
  | 120 => ⟨S1x1x10, .f32⟩
  | 121 => ⟨S1x1x10, .f32⟩
  | 122 => ⟨S1x1x10, .f32⟩
  | 123 => ⟨S1x1x10, .f32⟩
  | 124 => ⟨S1x1x10, .f32⟩
  | 125 => ⟨S1x1x10, .f32⟩
  | 126 => ⟨S1x1x10, .f32⟩
  | 127 => ⟨S1x1x10, .f32⟩
  | _ => ⟨S1024x3x32x32, .f32⟩

abbrev vmemTy0_1 (i : Nat) : BufTy := match i % 128 with
  | 0 => ⟨S32x3x32x32, .f32⟩
  | 1 => ⟨S32x3x32x32, .f32⟩
  | 2 => ⟨S32x1x10, .f32⟩
  | 3 => ⟨S32x1x10, .f32⟩
  | 4 => ⟨S128x3x32x32, .f32⟩
  | 5 => ⟨S128x3x32x32, .f32⟩
  | 6 => ⟨S15x32x168, .f32⟩
  | 7 => ⟨S1x168, .f32⟩
  | 8 => ⟨S30x14x160, .f32⟩
  | 9 => ⟨S1x160, .f32⟩
  | 10 => ⟨S128x5x80, .f32⟩
  | 11 => ⟨S128x5x80, .f32⟩
  | 12 => ⟨S128x3x32x32, .f32⟩
  | 13 => ⟨S128x3x32x32, .f32⟩
  | 14 => ⟨S15x32x168, .f32⟩
  | 15 => ⟨S1x168, .f32⟩
  | 16 => ⟨S30x14x160, .f32⟩
  | 17 => ⟨S1x160, .f32⟩
  | 18 => ⟨S128x5x80, .f32⟩
  | 19 => ⟨S128x5x80, .f32⟩
  | 20 => ⟨S128x5x80, .f32⟩
  | 21 => ⟨S128x5x80, .f32⟩
  | 22 => ⟨S1024x5x80, .f32⟩
  | 23 => ⟨S1024x5x80, .f32⟩
  | 24 => ⟨S1024x1x10, .f32⟩
  | 25 => ⟨S1024x1x10, .f32⟩
  | 26 => ⟨S5x80x12, .f32⟩
  | 27 => ⟨S1x12, .f32⟩
  | 28 => ⟨S5x80x120, .f32⟩
  | 29 => ⟨S1x120, .f32⟩
  | 30 => ⟨S10x10, .f32⟩
  | 31 => ⟨S1x10, .f32⟩
  | 32 => ⟨S128x10, .f32⟩
  | 33 => ⟨S128x10, .f32⟩
  | _ => ⟨S1024x3x32x32, .f32⟩

abbrev vmemTy (i : Nat) : BufTy := match i / 128 with
  | 0 => vmemTy0_0 i
  | 1 => vmemTy0_1 i
  | _ => ⟨S1024x3x32x32, .f32⟩

abbrev bufTy : (tb : Table) → Fin (tcTables nBuf tb) → BufTy
  | .hbm, ⟨0, _⟩ => ⟨S1024x3x32x32, .f32⟩
  | .hbm, ⟨1, _⟩ => ⟨S50000x3x32x32, .f32⟩
  | .hbm, ⟨2, _⟩ => ⟨S50000x10, .f32⟩
  | .hbm, ⟨3, _⟩ => ⟨S6x3x5x5, .f32⟩
  | .hbm, ⟨4, _⟩ => ⟨S6, .f32⟩
  | .hbm, ⟨5, _⟩ => ⟨S16x6x5x5, .f32⟩
  | .hbm, ⟨6, _⟩ => ⟨S16, .f32⟩
  | .hbm, ⟨7, _⟩ => ⟨S12x400, .f32⟩
  | .hbm, ⟨8, _⟩ => ⟨S12, .f32⟩
  | .hbm, ⟨9, _⟩ => ⟨S120x400, .f32⟩
  | .hbm, ⟨10, _⟩ => ⟨S120, .f32⟩
  | .hbm, ⟨11, _⟩ => ⟨S10x10, .f32⟩
  | .hbm, ⟨12, _⟩ => ⟨S10, .f32⟩
  | .hbm, ⟨13, _⟩ => ⟨S1024, .i32⟩
  | .hbm, ⟨14, _⟩ => ⟨S1024x8, .i32⟩
  | .hbm, ⟨15, _⟩ => ⟨S5x32x28, .f32⟩
  | .hbm, ⟨16, _⟩ => ⟨S5x14x10, .f32⟩
  | .hbm, ⟨17, _⟩ => ⟨S168, .i32⟩
  | .hbm, ⟨18, _⟩ => ⟨S168, .i1⟩
  | .hbm, ⟨19, _⟩ => ⟨S160, .i32⟩
  | .hbm, ⟨20, _⟩ => ⟨S160, .i1⟩
  | .hbm, ⟨21, _⟩ => ⟨S400, .i32⟩
  | .hbm, ⟨22, _⟩ => ⟨S400, .i1⟩
  | .hbm, ⟨23, _⟩ => ⟨S400, .i1⟩
  | .hbm, ⟨24, _⟩ => ⟨S6x3x5x32x28, .f32⟩
  | .hbm, ⟨25, _⟩ => ⟨S3x5x32x6x28, .f32⟩
  | .hbm, ⟨26, _⟩ => ⟨S15x32x168, .f32⟩
  | .hbm, ⟨27, _⟩ => ⟨S16x6x5x14x10, .f32⟩
  | .hbm, ⟨28, _⟩ => ⟨S6x5x14x16x10, .f32⟩
  | .hbm, ⟨29, _⟩ => ⟨S30x14x160, .f32⟩
  | .hbm, ⟨30, _⟩ => ⟨S_, .i32⟩
  | .hbm, ⟨31, _⟩ => ⟨S168, .i32⟩
  | .hbm, ⟨32, _⟩ => ⟨S168, .i32⟩
  | .hbm, ⟨33, _⟩ => ⟨S168, .i32⟩
  | .hbm, ⟨34, _⟩ => ⟨S168x1, .i32⟩
  | .hbm, ⟨35, _⟩ => ⟨S15x32x168, .f32⟩
  | .hbm, ⟨36, _⟩ => ⟨S_, .i32⟩
  | .hbm, ⟨37, _⟩ => ⟨S160, .i32⟩
  | .hbm, ⟨38, _⟩ => ⟨S160, .i32⟩
  | .hbm, ⟨39, _⟩ => ⟨S160, .i32⟩
  | .hbm, ⟨40, _⟩ => ⟨S160x1, .i32⟩
  | .hbm, ⟨41, _⟩ => ⟨S30x14x160, .f32⟩
  | .hbm, ⟨42, _⟩ => ⟨S6x14, .f32⟩
  | .hbm, ⟨43, _⟩ => ⟨S84, .f32⟩
  | .hbm, ⟨44, _⟩ => ⟨S1x84, .f32⟩
  | .hbm, ⟨45, _⟩ => ⟨S2x84, .f32⟩
  | .hbm, ⟨46, _⟩ => ⟨S168, .f32⟩
  | .hbm, ⟨47, _⟩ => ⟨S1x168, .f32⟩
  | .hbm, ⟨48, _⟩ => ⟨S16x5, .f32⟩
  | .hbm, ⟨49, _⟩ => ⟨S80, .f32⟩
  | .hbm, ⟨50, _⟩ => ⟨S1x80, .f32⟩
  | .hbm, ⟨51, _⟩ => ⟨S2x80, .f32⟩
  | .hbm, ⟨52, _⟩ => ⟨S160, .f32⟩
  | .hbm, ⟨53, _⟩ => ⟨S1x160, .f32⟩
  | .hbm, ⟨54, _⟩ => ⟨S_, .i32⟩
  | .hbm, ⟨55, _⟩ => ⟨S400, .i32⟩
  | .hbm, ⟨56, _⟩ => ⟨S400, .i32⟩
  | .hbm, ⟨57, _⟩ => ⟨S400, .i32⟩
  | .hbm, ⟨58, _⟩ => ⟨S400x1, .i32⟩
  | .hbm, ⟨59, _⟩ => ⟨S12x400, .f32⟩
  | .hbm, ⟨60, _⟩ => ⟨S12x5x80, .f32⟩
  | .hbm, ⟨61, _⟩ => ⟨S5x80x12, .f32⟩
  | .hbm, ⟨62, _⟩ => ⟨S_, .i32⟩
  | .hbm, ⟨63, _⟩ => ⟨S400, .i32⟩
  | .hbm, ⟨64, _⟩ => ⟨S400, .i32⟩
  | .hbm, ⟨65, _⟩ => ⟨S400, .i32⟩
  | .hbm, ⟨66, _⟩ => ⟨S400x1, .i32⟩
  | .hbm, ⟨67, _⟩ => ⟨S120x400, .f32⟩
  | .hbm, ⟨68, _⟩ => ⟨S120x5x80, .f32⟩
  | .hbm, ⟨69, _⟩ => ⟨S5x80x120, .f32⟩
  | .hbm, ⟨70, _⟩ => ⟨S1x12, .f32⟩
  | .hbm, ⟨71, _⟩ => ⟨S1x120, .f32⟩
  | .hbm, ⟨72, _⟩ => ⟨S10x10, .f32⟩
  | .hbm, ⟨73, _⟩ => ⟨S1x10, .f32⟩
  | .hbm, ⟨74, _⟩ => ⟨S50000x1x10, .f32⟩
  | .hbm, ⟨75, _⟩ => ⟨S8192x3x32x32, .f32⟩
  | .hbm, ⟨76, _⟩ => ⟨S8192x1x10, .f32⟩
  | .hbm, ⟨77, _⟩ => ⟨S1024x5x80, .f32⟩
  | .hbm, ⟨78, _⟩ => ⟨S8192x5x80, .f32⟩
  | .hbm, ⟨79, _⟩ => ⟨S1024x10, .f32⟩
  | .local _ .vmem, ⟨i, _⟩ => vmemTy i
  | .local _ .smem, ⟨0, _⟩ => ⟨S8192, .i32⟩
  | _, _ => ⟨S1024x3x32x32, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 162 → Bool
  | ⟨i, _⟩ => dmaSemScopedAt i

abbrev sig : RefSig :=
  ofTc nBuf bufTy 0 162 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_cst_0 : Ref sig .tc := ⟨.hbm, 16, rfl⟩
abbrev main_c : Ref sig .tc := ⟨.hbm, 17, rfl⟩
abbrev main_c_1 : Ref sig .tc := ⟨.hbm, 18, rfl⟩
abbrev main_c_2 : Ref sig .tc := ⟨.hbm, 19, rfl⟩
abbrev main_c_3 : Ref sig .tc := ⟨.hbm, 20, rfl⟩
abbrev main_c_4 : Ref sig .tc := ⟨.hbm, 21, rfl⟩
abbrev main_c_5 : Ref sig .tc := ⟨.hbm, 22, rfl⟩
abbrev main_c_6 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_c_7 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_c_8 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_c_9 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_c_10 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v47 : Ref sig .tc := ⟨.hbm, 74, rfl⟩
abbrev main_v48_0 : Ref sig .tc := ⟨.hbm, 75, rfl⟩
abbrev main_v48_1 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v46 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_stg23_0 : Ref sig .tc := ⟨.vmem, 46, rfl⟩
abbrev cc0_stg23_1 : Ref sig .tc := ⟨.vmem, 47, rfl⟩
abbrev cc0_stg24_0 : Ref sig .tc := ⟨.vmem, 48, rfl⟩
abbrev cc0_stg24_1 : Ref sig .tc := ⟨.vmem, 49, rfl⟩
abbrev cc0_stg25_0 : Ref sig .tc := ⟨.vmem, 50, rfl⟩
abbrev cc0_stg25_1 : Ref sig .tc := ⟨.vmem, 51, rfl⟩
abbrev cc0_stg26_0 : Ref sig .tc := ⟨.vmem, 52, rfl⟩
abbrev cc0_stg26_1 : Ref sig .tc := ⟨.vmem, 53, rfl⟩
abbrev cc0_stg27_0 : Ref sig .tc := ⟨.vmem, 54, rfl⟩
abbrev cc0_stg27_1 : Ref sig .tc := ⟨.vmem, 55, rfl⟩
abbrev cc0_stg28_0 : Ref sig .tc := ⟨.vmem, 56, rfl⟩
abbrev cc0_stg28_1 : Ref sig .tc := ⟨.vmem, 57, rfl⟩
abbrev cc0_stg29_0 : Ref sig .tc := ⟨.vmem, 58, rfl⟩
abbrev cc0_stg29_1 : Ref sig .tc := ⟨.vmem, 59, rfl⟩
abbrev cc0_stg30_0 : Ref sig .tc := ⟨.vmem, 60, rfl⟩
abbrev cc0_stg30_1 : Ref sig .tc := ⟨.vmem, 61, rfl⟩
abbrev cc0_stg31_0 : Ref sig .tc := ⟨.vmem, 62, rfl⟩
abbrev cc0_stg31_1 : Ref sig .tc := ⟨.vmem, 63, rfl⟩
abbrev cc0_stg32_0 : Ref sig .tc := ⟨.vmem, 64, rfl⟩
abbrev cc0_stg32_1 : Ref sig .tc := ⟨.vmem, 65, rfl⟩
abbrev cc0_stg33_0 : Ref sig .tc := ⟨.vmem, 66, rfl⟩
abbrev cc0_stg33_1 : Ref sig .tc := ⟨.vmem, 67, rfl⟩
abbrev cc0_stg34_0 : Ref sig .tc := ⟨.vmem, 68, rfl⟩
abbrev cc0_stg34_1 : Ref sig .tc := ⟨.vmem, 69, rfl⟩
abbrev cc0_stg35_0 : Ref sig .tc := ⟨.vmem, 70, rfl⟩
abbrev cc0_stg35_1 : Ref sig .tc := ⟨.vmem, 71, rfl⟩
abbrev cc0_stg36_0 : Ref sig .tc := ⟨.vmem, 72, rfl⟩
abbrev cc0_stg36_1 : Ref sig .tc := ⟨.vmem, 73, rfl⟩
abbrev cc0_stg37_0 : Ref sig .tc := ⟨.vmem, 74, rfl⟩
abbrev cc0_stg37_1 : Ref sig .tc := ⟨.vmem, 75, rfl⟩
abbrev cc0_stg38_0 : Ref sig .tc := ⟨.vmem, 76, rfl⟩
abbrev cc0_stg38_1 : Ref sig .tc := ⟨.vmem, 77, rfl⟩
abbrev cc0_stg39_0 : Ref sig .tc := ⟨.vmem, 78, rfl⟩
abbrev cc0_stg39_1 : Ref sig .tc := ⟨.vmem, 79, rfl⟩
abbrev cc0_stg40_0 : Ref sig .tc := ⟨.vmem, 80, rfl⟩
abbrev cc0_stg40_1 : Ref sig .tc := ⟨.vmem, 81, rfl⟩
abbrev cc0_stg41_0 : Ref sig .tc := ⟨.vmem, 82, rfl⟩
abbrev cc0_stg41_1 : Ref sig .tc := ⟨.vmem, 83, rfl⟩
abbrev cc0_stg42_0 : Ref sig .tc := ⟨.vmem, 84, rfl⟩
abbrev cc0_stg42_1 : Ref sig .tc := ⟨.vmem, 85, rfl⟩
abbrev cc0_stg43_0 : Ref sig .tc := ⟨.vmem, 86, rfl⟩
abbrev cc0_stg43_1 : Ref sig .tc := ⟨.vmem, 87, rfl⟩
abbrev cc0_stg44_0 : Ref sig .tc := ⟨.vmem, 88, rfl⟩
abbrev cc0_stg44_1 : Ref sig .tc := ⟨.vmem, 89, rfl⟩
abbrev cc0_stg45_0 : Ref sig .tc := ⟨.vmem, 90, rfl⟩
abbrev cc0_stg45_1 : Ref sig .tc := ⟨.vmem, 91, rfl⟩
abbrev cc0_stg46_0 : Ref sig .tc := ⟨.vmem, 92, rfl⟩
abbrev cc0_stg46_1 : Ref sig .tc := ⟨.vmem, 93, rfl⟩
abbrev cc0_stg47_0 : Ref sig .tc := ⟨.vmem, 94, rfl⟩
abbrev cc0_stg47_1 : Ref sig .tc := ⟨.vmem, 95, rfl⟩
abbrev cc0_stg48_0 : Ref sig .tc := ⟨.vmem, 96, rfl⟩
abbrev cc0_stg48_1 : Ref sig .tc := ⟨.vmem, 97, rfl⟩
abbrev cc0_stg49_0 : Ref sig .tc := ⟨.vmem, 98, rfl⟩
abbrev cc0_stg49_1 : Ref sig .tc := ⟨.vmem, 99, rfl⟩
abbrev cc0_stg50_0 : Ref sig .tc := ⟨.vmem, 100, rfl⟩
abbrev cc0_stg50_1 : Ref sig .tc := ⟨.vmem, 101, rfl⟩
abbrev cc0_stg51_0 : Ref sig .tc := ⟨.vmem, 102, rfl⟩
abbrev cc0_stg51_1 : Ref sig .tc := ⟨.vmem, 103, rfl⟩
abbrev cc0_stg52_0 : Ref sig .tc := ⟨.vmem, 104, rfl⟩
abbrev cc0_stg52_1 : Ref sig .tc := ⟨.vmem, 105, rfl⟩
abbrev cc0_stg53_0 : Ref sig .tc := ⟨.vmem, 106, rfl⟩
abbrev cc0_stg53_1 : Ref sig .tc := ⟨.vmem, 107, rfl⟩
abbrev cc0_stg54_0 : Ref sig .tc := ⟨.vmem, 108, rfl⟩
abbrev cc0_stg54_1 : Ref sig .tc := ⟨.vmem, 109, rfl⟩
abbrev cc0_stg55_0 : Ref sig .tc := ⟨.vmem, 110, rfl⟩
abbrev cc0_stg55_1 : Ref sig .tc := ⟨.vmem, 111, rfl⟩
abbrev cc0_stg56_0 : Ref sig .tc := ⟨.vmem, 112, rfl⟩
abbrev cc0_stg56_1 : Ref sig .tc := ⟨.vmem, 113, rfl⟩
abbrev cc0_stg57_0 : Ref sig .tc := ⟨.vmem, 114, rfl⟩
abbrev cc0_stg57_1 : Ref sig .tc := ⟨.vmem, 115, rfl⟩
abbrev cc0_stg58_0 : Ref sig .tc := ⟨.vmem, 116, rfl⟩
abbrev cc0_stg58_1 : Ref sig .tc := ⟨.vmem, 117, rfl⟩
abbrev cc0_stg59_0 : Ref sig .tc := ⟨.vmem, 118, rfl⟩
abbrev cc0_stg59_1 : Ref sig .tc := ⟨.vmem, 119, rfl⟩
abbrev cc0_stg60_0 : Ref sig .tc := ⟨.vmem, 120, rfl⟩
abbrev cc0_stg60_1 : Ref sig .tc := ⟨.vmem, 121, rfl⟩
abbrev cc0_stg61_0 : Ref sig .tc := ⟨.vmem, 122, rfl⟩
abbrev cc0_stg61_1 : Ref sig .tc := ⟨.vmem, 123, rfl⟩
abbrev cc0_stg62_0 : Ref sig .tc := ⟨.vmem, 124, rfl⟩
abbrev cc0_stg62_1 : Ref sig .tc := ⟨.vmem, 125, rfl⟩
abbrev cc0_stg63_0 : Ref sig .tc := ⟨.vmem, 126, rfl⟩
abbrev cc0_stg63_1 : Ref sig .tc := ⟨.vmem, 127, rfl⟩
abbrev cc0_stg64_0 : Ref sig .tc := ⟨.vmem, 128, rfl⟩
abbrev cc0_stg64_1 : Ref sig .tc := ⟨.vmem, 129, rfl⟩
abbrev cc0_stg65_0 : Ref sig .tc := ⟨.vmem, 130, rfl⟩
abbrev cc0_stg65_1 : Ref sig .tc := ⟨.vmem, 131, rfl⟩
abbrev cc1_stg0_0 : Ref sig .tc := ⟨.vmem, 132, rfl⟩
abbrev cc1_stg0_1 : Ref sig .tc := ⟨.vmem, 133, rfl⟩
abbrev cc1_stg1_0 : Ref sig .tc := ⟨.vmem, 134, rfl⟩
abbrev cc1_stg2_0 : Ref sig .tc := ⟨.vmem, 135, rfl⟩
abbrev cc1_stg3_0 : Ref sig .tc := ⟨.vmem, 136, rfl⟩
abbrev cc1_stg4_0 : Ref sig .tc := ⟨.vmem, 137, rfl⟩
abbrev cc1_stg5_0 : Ref sig .tc := ⟨.vmem, 138, rfl⟩
abbrev cc1_stg5_1 : Ref sig .tc := ⟨.vmem, 139, rfl⟩
abbrev cc2_stg0_0 : Ref sig .tc := ⟨.vmem, 140, rfl⟩
abbrev cc2_stg0_1 : Ref sig .tc := ⟨.vmem, 141, rfl⟩
abbrev cc2_stg1_0 : Ref sig .tc := ⟨.vmem, 142, rfl⟩
abbrev cc2_stg2_0 : Ref sig .tc := ⟨.vmem, 143, rfl⟩
abbrev cc2_stg3_0 : Ref sig .tc := ⟨.vmem, 144, rfl⟩
abbrev cc2_stg4_0 : Ref sig .tc := ⟨.vmem, 145, rfl⟩
abbrev cc2_stg5_0 : Ref sig .tc := ⟨.vmem, 146, rfl⟩
abbrev cc2_stg5_1 : Ref sig .tc := ⟨.vmem, 147, rfl⟩
abbrev cc3_stg0_0 : Ref sig .tc := ⟨.vmem, 148, rfl⟩
abbrev cc3_stg0_1 : Ref sig .tc := ⟨.vmem, 149, rfl⟩
abbrev cc3_stg1_0 : Ref sig .tc := ⟨.vmem, 150, rfl⟩
abbrev cc3_stg1_1 : Ref sig .tc := ⟨.vmem, 151, rfl⟩
abbrev cc3_stg2_0 : Ref sig .tc := ⟨.vmem, 152, rfl⟩
abbrev cc3_stg2_1 : Ref sig .tc := ⟨.vmem, 153, rfl⟩
abbrev cc3_stg3_0 : Ref sig .tc := ⟨.vmem, 154, rfl⟩
abbrev cc3_stg4_0 : Ref sig .tc := ⟨.vmem, 155, rfl⟩
abbrev cc3_stg5_0 : Ref sig .tc := ⟨.vmem, 156, rfl⟩
abbrev cc3_stg6_0 : Ref sig .tc := ⟨.vmem, 157, rfl⟩
abbrev cc3_stg7_0 : Ref sig .tc := ⟨.vmem, 158, rfl⟩
abbrev cc3_stg8_0 : Ref sig .tc := ⟨.vmem, 159, rfl⟩
abbrev cc3_stg9_0 : Ref sig .tc := ⟨.vmem, 160, rfl⟩
abbrev cc3_stg9_1 : Ref sig .tc := ⟨.vmem, 161, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45
abbrev cc0_sem23_0 : DmaSem sig := 46
abbrev cc0_sem23_1 : DmaSem sig := 47
abbrev cc0_sem24_0 : DmaSem sig := 48
abbrev cc0_sem24_1 : DmaSem sig := 49
abbrev cc0_sem25_0 : DmaSem sig := 50
abbrev cc0_sem25_1 : DmaSem sig := 51
abbrev cc0_sem26_0 : DmaSem sig := 52
abbrev cc0_sem26_1 : DmaSem sig := 53
abbrev cc0_sem27_0 : DmaSem sig := 54
abbrev cc0_sem27_1 : DmaSem sig := 55
abbrev cc0_sem28_0 : DmaSem sig := 56
abbrev cc0_sem28_1 : DmaSem sig := 57
abbrev cc0_sem29_0 : DmaSem sig := 58
abbrev cc0_sem29_1 : DmaSem sig := 59
abbrev cc0_sem30_0 : DmaSem sig := 60
abbrev cc0_sem30_1 : DmaSem sig := 61
abbrev cc0_sem31_0 : DmaSem sig := 62
abbrev cc0_sem31_1 : DmaSem sig := 63
abbrev cc0_sem32_0 : DmaSem sig := 64
abbrev cc0_sem32_1 : DmaSem sig := 65
abbrev cc0_sem33_0 : DmaSem sig := 66
abbrev cc0_sem33_1 : DmaSem sig := 67
abbrev cc0_sem34_0 : DmaSem sig := 68
abbrev cc0_sem34_1 : DmaSem sig := 69
abbrev cc0_sem35_0 : DmaSem sig := 70
abbrev cc0_sem35_1 : DmaSem sig := 71
abbrev cc0_sem36_0 : DmaSem sig := 72
abbrev cc0_sem36_1 : DmaSem sig := 73
abbrev cc0_sem37_0 : DmaSem sig := 74
abbrev cc0_sem37_1 : DmaSem sig := 75
abbrev cc0_sem38_0 : DmaSem sig := 76
abbrev cc0_sem38_1 : DmaSem sig := 77
abbrev cc0_sem39_0 : DmaSem sig := 78
abbrev cc0_sem39_1 : DmaSem sig := 79
abbrev cc0_sem40_0 : DmaSem sig := 80
abbrev cc0_sem40_1 : DmaSem sig := 81
abbrev cc0_sem41_0 : DmaSem sig := 82
abbrev cc0_sem41_1 : DmaSem sig := 83
abbrev cc0_sem42_0 : DmaSem sig := 84
abbrev cc0_sem42_1 : DmaSem sig := 85
abbrev cc0_sem43_0 : DmaSem sig := 86
abbrev cc0_sem43_1 : DmaSem sig := 87
abbrev cc0_sem44_0 : DmaSem sig := 88
abbrev cc0_sem44_1 : DmaSem sig := 89
abbrev cc0_sem45_0 : DmaSem sig := 90
abbrev cc0_sem45_1 : DmaSem sig := 91
abbrev cc0_sem46_0 : DmaSem sig := 92
abbrev cc0_sem46_1 : DmaSem sig := 93
abbrev cc0_sem47_0 : DmaSem sig := 94
abbrev cc0_sem47_1 : DmaSem sig := 95
abbrev cc0_sem48_0 : DmaSem sig := 96
abbrev cc0_sem48_1 : DmaSem sig := 97
abbrev cc0_sem49_0 : DmaSem sig := 98
abbrev cc0_sem49_1 : DmaSem sig := 99
abbrev cc0_sem50_0 : DmaSem sig := 100
abbrev cc0_sem50_1 : DmaSem sig := 101
abbrev cc0_sem51_0 : DmaSem sig := 102
abbrev cc0_sem51_1 : DmaSem sig := 103
abbrev cc0_sem52_0 : DmaSem sig := 104
abbrev cc0_sem52_1 : DmaSem sig := 105
abbrev cc0_sem53_0 : DmaSem sig := 106
abbrev cc0_sem53_1 : DmaSem sig := 107
abbrev cc0_sem54_0 : DmaSem sig := 108
abbrev cc0_sem54_1 : DmaSem sig := 109
abbrev cc0_sem55_0 : DmaSem sig := 110
abbrev cc0_sem55_1 : DmaSem sig := 111
abbrev cc0_sem56_0 : DmaSem sig := 112
abbrev cc0_sem56_1 : DmaSem sig := 113
abbrev cc0_sem57_0 : DmaSem sig := 114
abbrev cc0_sem57_1 : DmaSem sig := 115
abbrev cc0_sem58_0 : DmaSem sig := 116
abbrev cc0_sem58_1 : DmaSem sig := 117
abbrev cc0_sem59_0 : DmaSem sig := 118
abbrev cc0_sem59_1 : DmaSem sig := 119
abbrev cc0_sem60_0 : DmaSem sig := 120
abbrev cc0_sem60_1 : DmaSem sig := 121
abbrev cc0_sem61_0 : DmaSem sig := 122
abbrev cc0_sem61_1 : DmaSem sig := 123
abbrev cc0_sem62_0 : DmaSem sig := 124
abbrev cc0_sem62_1 : DmaSem sig := 125
abbrev cc0_sem63_0 : DmaSem sig := 126
abbrev cc0_sem63_1 : DmaSem sig := 127
abbrev cc0_sem64_0 : DmaSem sig := 128
abbrev cc0_sem64_1 : DmaSem sig := 129
abbrev cc0_sem65_0 : DmaSem sig := 130
abbrev cc0_sem65_1 : DmaSem sig := 131
abbrev cc1_sem0_0 : DmaSem sig := 132
abbrev cc1_sem0_1 : DmaSem sig := 133
abbrev cc1_sem1_0 : DmaSem sig := 134
abbrev cc1_sem2_0 : DmaSem sig := 135
abbrev cc1_sem3_0 : DmaSem sig := 136
abbrev cc1_sem4_0 : DmaSem sig := 137
abbrev cc1_sem5_0 : DmaSem sig := 138
abbrev cc1_sem5_1 : DmaSem sig := 139
abbrev cc2_sem0_0 : DmaSem sig := 140
abbrev cc2_sem0_1 : DmaSem sig := 141
abbrev cc2_sem1_0 : DmaSem sig := 142
abbrev cc2_sem2_0 : DmaSem sig := 143
abbrev cc2_sem3_0 : DmaSem sig := 144
abbrev cc2_sem4_0 : DmaSem sig := 145
abbrev cc2_sem5_0 : DmaSem sig := 146
abbrev cc2_sem5_1 : DmaSem sig := 147
abbrev cc3_sem0_0 : DmaSem sig := 148
abbrev cc3_sem0_1 : DmaSem sig := 149
abbrev cc3_sem1_0 : DmaSem sig := 150
abbrev cc3_sem1_1 : DmaSem sig := 151
abbrev cc3_sem2_0 : DmaSem sig := 152
abbrev cc3_sem2_1 : DmaSem sig := 153
abbrev cc3_sem3_0 : DmaSem sig := 154
abbrev cc3_sem4_0 : DmaSem sig := 155
abbrev cc3_sem5_0 : DmaSem sig := 156
abbrev cc3_sem6_0 : DmaSem sig := 157
abbrev cc3_sem7_0 : DmaSem sig := 158
abbrev cc3_sem8_0 : DmaSem sig := 159
abbrev cc3_sem9_0 : DmaSem sig := 160
abbrev cc3_sem9_1 : DmaSem sig := 161

abbrev nD : Nat := 1
abbrev τ : Topo := Topo.v7x

variable {F : FTy → Type} [FloatOps F]

abbrev grid0 : Pipeline.Grid := ⟨1, ![256], ![false]⟩

abbrev pre0 : Pipeline.Prefetch sig := ⟨1, ![main_v46.idx], fun | 0 => main_v46.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32 : BitVec 32) : Fin 1 → Nat :=
  let arg0 : BitVec 32 := BitVec.ofNat 32 (i 0).val
  let c32_i32 : BitVec 32 := 32#32
  let v0 : BitVec 32 := Scalar.muli arg0 c32_i32
  let v1 : BitVec 32 := Scalar.addi v0 c0_i32
  let v2 : Index := Scalar.indexCast v1
  ![v2.toNat]
def cc0_transform_0 (k0_off1_inb : ∀ i : grid0.Coords, ∀ (r : Fin 32), ∀ a, (k0_off1 i (BitVec.ofNat 32 r.val)) a + S1.size a ≤ S8192.size a) (numel1_S1 : S1.numel = 1) (pf : pre0.Contents (Elt F)) (i : grid0.Coords) : Fin 4 → Nat :=
  let arg0 : BitVec 32 := BitVec.ofNat 32 (i 0).val
  let c32_i32 : BitVec 32 := 32#32
  let v0 : BitVec 32 := Scalar.muli arg0 c32_i32
  let c0_i32 : BitVec 32 := 0#32
  let v1 : BitVec 32 := Scalar.addi v0 c0_i32
  let v2 : Index := Scalar.indexCast v1
  let v3 : BitVec 32 := pf.at 0 (Rect.unit (s := S8192) ![v2.toNat] S1.size (k0_off1_inb i 0)) numel1_S1
  let c0_i32_0 : BitVec 32 := 0#32
  let c0_i32_1 : BitVec 32 := 0#32
  let c0_i32_2 : BitVec 32 := 0#32
  let c0_i32_3 : BitVec 32 := 0#32
  ![v3.toNat, c0_i32_0.toNat, c0_i32_1.toNat, c0_i32_2.toNat]

def cc0_transform_1 (k0_off1_inb : ∀ i : grid0.Coords, ∀ (r : Fin 32), ∀ a, (k0_off1 i (BitVec.ofNat 32 r.val)) a + S1.size a ≤ S8192.size a) (numel1_S1 : S1.numel = 1) (pf : pre0.Contents (Elt F)) (i : grid0.Coords) : Fin 4 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.addi v0 c1_i32
  let v2 : Index := Scalar.indexCast v1
  let v3 : BitVec 32 := pf.at 0 (Rect.unit (s := S8192) ![v2.toNat] S1.size (k0_off1_inb i 1)) numel1_S1
  let c0_i32 : BitVec 32 := 0#32
  let c0_i32_0 : BitVec 32 := 0#32
  let c0_i32_1 : BitVec 32 := 0#32
  let c0_i32_2 : BitVec 32 := 0#32
  ![v3.toNat, c0_i32.toNat, c0_i32_0.toNat, c0_i32_1.toNat]

def cc0_transform_2 (k0_off1_inb : ∀ i : grid0.Coords, ∀ (r : Fin 32), ∀ a, (k0_off1 i (BitVec.ofNat 32 r.val)) a + S1.size a ≤ S8192.size a) (numel1_S1 : S1.numel = 1) (pf : pre0.Contents (Elt F)) (i : grid0.Coords) : Fin 4 → Nat :=
  let arg0 : BitVec 32 := BitVec.ofNat 32 (i 0).val
  let c32_i32 : BitVec 32 := 32#32
  let v0 : BitVec 32 := Scalar.muli arg0 c32_i32
  let c2_i32 : BitVec 32 := 2#32
  let v1 : BitVec 32 := Scalar.addi v0 c2_i32
  let v2 : Index := Scalar.indexCast v1
  let v3 : BitVec 32 := pf.at 0 (Rect.unit (s := S8192) ![v2.toNat] S1.size (k0_off1_inb i 2)) numel1_S1
  let c0_i32 : BitVec 32 := 0#32
  let c0_i32_0 : BitVec 32 := 0#32
  let c0_i32_1 : BitVec 32 := 0#32
  let c0_i32_2 : BitVec 32 := 0#32
  ![v3.toNat, c0_i32.toNat, c0_i32_0.toNat, c0_i32_1.toNat]

def cc0_transform_3 (k0_off1_inb : ∀ i : grid0.Coords, ∀ (r : Fin 32), ∀ a, (k0_off1 i (BitVec.ofNat 32 r.val)) a + S1.size a ≤ S8192.size a) (numel1_S1 : S1.numel = 1) (pf : pre0.Contents (Elt F)) (i : grid0.Coords) : Fin 4 → Nat :=
  let arg0 : BitVec 32 := BitVec.ofNat 32 (i 0).val
  let c32_i32 : BitVec 32 := 32#32
  let v0 : BitVec 32 := Scalar.muli arg0 c32_i32
  let c3_i32 : BitVec 32 := 3#32
  let v1 : BitVec 32 := Scalar.addi v0 c3_i32
  let v2 : Index := Scalar.indexCast v1
  let v3 : BitVec 32 := pf.at 0 (Rect.unit (s := S8192) ![v2.toNat] S1.size (k0_off1_inb i 3)) numel1_S1
  let c0_i32 : BitVec 32 := 0#32
  let c0_i32_0 : BitVec 32 := 0#32
  let c0_i32_1 : BitVec 32 := 0#32
  let c0_i32_2 : BitVec 32 := 0#32
  ![v3.toNat, c0_i32.toNat, c0_i32_0.toNat, c0_i32_1.toNat]

def cc0_transform_4 (k0_off1_inb : ∀ i : grid0.Coords, ∀ (r : Fin 32), ∀ a, (k0_off1 i (BitVec.ofNat 32 r.val)) a + S1.size a ≤ S8192.size a) (numel1_S1 : S1.numel = 1) (pf : pre0.Contents (Elt F)) (i : grid0.Coords) : Fin 4 → Nat :=
  let arg0 : BitVec 32 := BitVec.ofNat 32 (i 0).val
  let c32_i32 : BitVec 32 := 32#32
  let v0 : BitVec 32 := Scalar.muli arg0 c32_i32
  let c4_i32 : BitVec 32 := 4#32
  let v1 : BitVec 32 := Scalar.addi v0 c4_i32
  let v2 : Index := Scalar.indexCast v1
  let v3 : BitVec 32 := pf.at 0 (Rect.unit (s := S8192) ![v2.toNat] S1.size (k0_off1_inb i 4)) numel1_S1
  let c0_i32 : BitVec 32 := 0#32
  let c0_i32_0 : BitVec 32 := 0#32
  let c0_i32_1 : BitVec 32 := 0#32
  let c0_i32_2 : BitVec 32 := 0#32
  ![v3.toNat, c0_i32.toNat, c0_i32_0.toNat, c0_i32_1.toNat]

def cc0_transform_5 (k0_off1_inb : ∀ i : grid0.Coords, ∀ (r : Fin 32), ∀ a, (k0_off1 i (BitVec.ofNat 32 r.val)) a + S1.size a ≤ S8192.size a) (numel1_S1 : S1.numel = 1) (pf : pre0.Contents (Elt F)) (i : grid0.Coords) : Fin 4 → Nat :=
  let arg0 : BitVec 32 := BitVec.ofNat 32 (i 0).val
  let c32_i32 : BitVec 32 := 32#32
  let v0 : BitVec 32 := Scalar.muli arg0 c32_i32
  let c5_i32 : BitVec 32 := 5#32
  let v1 : BitVec 32 := Scalar.addi v0 c5_i32
  let v2 : Index := Scalar.indexCast v1
  let v3 : BitVec 32 := pf.at 0 (Rect.unit (s := S8192) ![v2.toNat] S1.size (k0_off1_inb i 5)) numel1_S1
  let c0_i32 : BitVec 32 := 0#32
  let c0_i32_0 : BitVec 32 := 0#32
  let c0_i32_1 : BitVec 32 := 0#32
  let c0_i32_2 : BitVec 32 := 0#32
  ![v3.toNat, c0_i32.toNat, c0_i32_0.toNat, c0_i32_1.toNat]

def cc0_transform_6 (k0_off1_inb : ∀ i : grid0.Coords, ∀ (r : Fin 32), ∀ a, (k0_off1 i (BitVec.ofNat 32 r.val)) a + S1.size a ≤ S8192.size a) (numel1_S1 : S1.numel = 1) (pf : pre0.Contents (Elt F)) (i : grid0.Coords) : Fin 4 → Nat :=
  let arg0 : BitVec 32 := BitVec.ofNat 32 (i 0).val
  let c32_i32 : BitVec 32 := 32#32
  let v0 : BitVec 32 := Scalar.muli arg0 c32_i32
  let c6_i32 : BitVec 32 := 6#32
  let v1 : BitVec 32 := Scalar.addi v0 c6_i32
  let v2 : Index := Scalar.indexCast v1
  let v3 : BitVec 32 := pf.at 0 (Rect.unit (s := S8192) ![v2.toNat] S1.size (k0_off1_inb i 6)) numel1_S1
  let c0_i32 : BitVec 32 := 0#32
  let c0_i32_0 : BitVec 32 := 0#32
  let c0_i32_1 : BitVec 32 := 0#32
  let c0_i32_2 : BitVec 32 := 0#32
  ![v3.toNat, c0_i32.toNat, c0_i32_0.toNat, c0_i32_1.toNat]

def cc0_transform_7 (k0_off1_inb : ∀ i : grid0.Coords, ∀ (r : Fin 32), ∀ a, (k0_off1 i (BitVec.ofNat 32 r.val)) a + S1.size a ≤ S8192.size a) (numel1_S1 : S1.numel = 1) (pf : pre0.Contents (Elt F)) (i : grid0.Coords) : Fin 4 → Nat :=
  let arg0 : BitVec 32 := BitVec.ofNat 32 (i 0).val
  let c32_i32 : BitVec 32 := 32#32
  let v0 : BitVec 32 := Scalar.muli arg0 c32_i32
  let c7_i32 : BitVec 32 := 7#32
  let v1 : BitVec 32 := Scalar.addi v0 c7_i32
  let v2 : Index := Scalar.indexCast v1
  let v3 : BitVec 32 := pf.at 0 (Rect.unit (s := S8192) ![v2.toNat] S1.size (k0_off1_inb i 7)) numel1_S1
  let c0_i32 : BitVec 32 := 0#32
  let c0_i32_0 : BitVec 32 := 0#32
  let c0_i32_1 : BitVec 32 := 0#32
  let c0_i32_2 : BitVec 32 := 0#32
  ![v3.toNat, c0_i32.toNat, c0_i32_0.toNat, c0_i32_1.toNat]

def cc0_transform_8 (k0_off1_inb : ∀ i : grid0.Coords, ∀ (r : Fin 32), ∀ a, (k0_off1 i (BitVec.ofNat 32 r.val)) a + S1.size a ≤ S8192.size a) (numel1_S1 : S1.numel = 1) (pf : pre0.Contents (Elt F)) (i : grid0.Coords) : Fin 4 → Nat :=
  let arg0 : BitVec 32 := BitVec.ofNat 32 (i 0).val
  let c32_i32 : BitVec 32 := 32#32
  let v0 : BitVec 32 := Scalar.muli arg0 c32_i32
  let c8_i32 : BitVec 32 := 8#32
  let v1 : BitVec 32 := Scalar.addi v0 c8_i32
  let v2 : Index := Scalar.indexCast v1
  let v3 : BitVec 32 := pf.at 0 (Rect.unit (s := S8192) ![v2.toNat] S1.size (k0_off1_inb i 8)) numel1_S1
  let c0_i32 : BitVec 32 := 0#32
  let c0_i32_0 : BitVec 32 := 0#32
  let c0_i32_1 : BitVec 32 := 0#32
  let c0_i32_2 : BitVec 32 := 0#32
  ![v3.toNat, c0_i32.toNat, c0_i32_0.toNat, c0_i32_1.toNat]

def cc0_transform_9 (k0_off1_inb : ∀ i : grid0.Coords, ∀ (r : Fin 32), ∀ a, (k0_off1 i (BitVec.ofNat 32 r.val)) a + S1.size a ≤ S8192.size a) (numel1_S1 : S1.numel = 1) (pf : pre0.Contents (Elt F)) (i : grid0.Coords) : Fin 4 → Nat :=
  let arg0 : BitVec 32 := BitVec.ofNat 32 (i 0).val
  let c32_i32 : BitVec 32 := 32#32
  let v0 : BitVec 32 := Scalar.muli arg0 c32_i32
  let c9_i32 : BitVec 32 := 9#32
  let v1 : BitVec 32 := Scalar.addi v0 c9_i32
  let v2 : Index := Scalar.indexCast v1
  let v3 : BitVec 32 := pf.at 0 (Rect.unit (s := S8192) ![v2.toNat] S1.size (k0_off1_inb i 9)) numel1_S1
  let c0_i32 : BitVec 32 := 0#32
  let c0_i32_0 : BitVec 32 := 0#32
  let c0_i32_1 : BitVec 32 := 0#32
  let c0_i32_2 : BitVec 32 := 0#32
  ![v3.toNat, c0_i32.toNat, c0_i32_0.toNat, c0_i32_1.toNat]

def cc0_transform_10 (k0_off1_inb : ∀ i : grid0.Coords, ∀ (r : Fin 32), ∀ a, (k0_off1 i (BitVec.ofNat 32 r.val)) a + S1.size a ≤ S8192.size a) (numel1_S1 : S1.numel = 1) (pf : pre0.Contents (Elt F)) (i : grid0.Coords) : Fin 4 → Nat :=
  let arg0 : BitVec 32 := BitVec.ofNat 32 (i 0).val
  let c32_i32 : BitVec 32 := 32#32
  let v0 : BitVec 32 := Scalar.muli arg0 c32_i32
  let c10_i32 : BitVec 32 := 10#32
  let v1 : BitVec 32 := Scalar.addi v0 c10_i32
  let v2 : Index := Scalar.indexCast v1
  let v3 : BitVec 32 := pf.at 0 (Rect.unit (s := S8192) ![v2.toNat] S1.size (k0_off1_inb i 10)) numel1_S1
  let c0_i32 : BitVec 32 := 0#32
  let c0_i32_0 : BitVec 32 := 0#32
  let c0_i32_1 : BitVec 32 := 0#32
  let c0_i32_2 : BitVec 32 := 0#32
  ![v3.toNat, c0_i32.toNat, c0_i32_0.toNat, c0_i32_1.toNat]

def cc0_transform_11 (k0_off1_inb : ∀ i : grid0.Coords, ∀ (r : Fin 32), ∀ a, (k0_off1 i (BitVec.ofNat 32 r.val)) a + S1.size a ≤ S8192.size a) (numel1_S1 : S1.numel = 1) (pf : pre0.Contents (Elt F)) (i : grid0.Coords) : Fin 4 → Nat :=
  let arg0 : BitVec 32 := BitVec.ofNat 32 (i 0).val
  let c32_i32 : BitVec 32 := 32#32
  let v0 : BitVec 32 := Scalar.muli arg0 c32_i32
  let c11_i32 : BitVec 32 := 11#32
  let v1 : BitVec 32 := Scalar.addi v0 c11_i32
  let v2 : Index := Scalar.indexCast v1
  let v3 : BitVec 32 := pf.at 0 (Rect.unit (s := S8192) ![v2.toNat] S1.size (k0_off1_inb i 11)) numel1_S1
  let c0_i32 : BitVec 32 := 0#32
  let c0_i32_0 : BitVec 32 := 0#32
  let c0_i32_1 : BitVec 32 := 0#32
  let c0_i32_2 : BitVec 32 := 0#32
  ![v3.toNat, c0_i32.toNat, c0_i32_0.toNat, c0_i32_1.toNat]

def cc0_transform_12 (k0_off1_inb : ∀ i : grid0.Coords, ∀ (r : Fin 32), ∀ a, (k0_off1 i (BitVec.ofNat 32 r.val)) a + S1.size a ≤ S8192.size a) (numel1_S1 : S1.numel = 1) (pf : pre0.Contents (Elt F)) (i : grid0.Coords) : Fin 4 → Nat :=
  let arg0 : BitVec 32 := BitVec.ofNat 32 (i 0).val
  let c32_i32 : BitVec 32 := 32#32
  let v0 : BitVec 32 := Scalar.muli arg0 c32_i32
  let c12_i32 : BitVec 32 := 12#32
  let v1 : BitVec 32 := Scalar.addi v0 c12_i32
  let v2 : Index := Scalar.indexCast v1
  let v3 : BitVec 32 := pf.at 0 (Rect.unit (s := S8192) ![v2.toNat] S1.size (k0_off1_inb i 12)) numel1_S1
  let c0_i32 : BitVec 32 := 0#32
  let c0_i32_0 : BitVec 32 := 0#32
  let c0_i32_1 : BitVec 32 := 0#32
  let c0_i32_2 : BitVec 32 := 0#32
  ![v3.toNat, c0_i32.toNat, c0_i32_0.toNat, c0_i32_1.toNat]

def cc0_transform_13 (k0_off1_inb : ∀ i : grid0.Coords, ∀ (r : Fin 32), ∀ a, (k0_off1 i (BitVec.ofNat 32 r.val)) a + S1.size a ≤ S8192.size a) (numel1_S1 : S1.numel = 1) (pf : pre0.Contents (Elt F)) (i : grid0.Coords) : Fin 4 → Nat :=
  let arg0 : BitVec 32 := BitVec.ofNat 32 (i 0).val
  let c32_i32 : BitVec 32 := 32#32
  let v0 : BitVec 32 := Scalar.muli arg0 c32_i32
  let c13_i32 : BitVec 32 := 13#32
  let v1 : BitVec 32 := Scalar.addi v0 c13_i32
  let v2 : Index := Scalar.indexCast v1
  let v3 : BitVec 32 := pf.at 0 (Rect.unit (s := S8192) ![v2.toNat] S1.size (k0_off1_inb i 13)) numel1_S1
  let c0_i32 : BitVec 32 := 0#32
  let c0_i32_0 : BitVec 32 := 0#32
  let c0_i32_1 : BitVec 32 := 0#32
  let c0_i32_2 : BitVec 32 := 0#32
  ![v3.toNat, c0_i32.toNat, c0_i32_0.toNat, c0_i32_1.toNat]

def cc0_transform_14 (k0_off1_inb : ∀ i : grid0.Coords, ∀ (r : Fin 32), ∀ a, (k0_off1 i (BitVec.ofNat 32 r.val)) a + S1.size a ≤ S8192.size a) (numel1_S1 : S1.numel = 1) (pf : pre0.Contents (Elt F)) (i : grid0.Coords) : Fin 4 → Nat :=
  let arg0 : BitVec 32 := BitVec.ofNat 32 (i 0).val
  let c32_i32 : BitVec 32 := 32#32
  let v0 : BitVec 32 := Scalar.muli arg0 c32_i32
  let c14_i32 : BitVec 32 := 14#32
  let v1 : BitVec 32 := Scalar.addi v0 c14_i32
  let v2 : Index := Scalar.indexCast v1
  let v3 : BitVec 32 := pf.at 0 (Rect.unit (s := S8192) ![v2.toNat] S1.size (k0_off1_inb i 14)) numel1_S1
  let c0_i32 : BitVec 32 := 0#32
  let c0_i32_0 : BitVec 32 := 0#32
  let c0_i32_1 : BitVec 32 := 0#32
  let c0_i32_2 : BitVec 32 := 0#32
  ![v3.toNat, c0_i32.toNat, c0_i32_0.toNat, c0_i32_1.toNat]

def cc0_transform_15 (k0_off1_inb : ∀ i : grid0.Coords, ∀ (r : Fin 32), ∀ a, (k0_off1 i (BitVec.ofNat 32 r.val)) a + S1.size a ≤ S8192.size a) (numel1_S1 : S1.numel = 1) (pf : pre0.Contents (Elt F)) (i : grid0.Coords) : Fin 4 → Nat :=
  let arg0 : BitVec 32 := BitVec.ofNat 32 (i 0).val
  let c32_i32 : BitVec 32 := 32#32
  let v0 : BitVec 32 := Scalar.muli arg0 c32_i32
  let c15_i32 : BitVec 32 := 15#32
  let v1 : BitVec 32 := Scalar.addi v0 c15_i32
  let v2 : Index := Scalar.indexCast v1
  let v3 : BitVec 32 := pf.at 0 (Rect.unit (s := S8192) ![v2.toNat] S1.size (k0_off1_inb i 15)) numel1_S1
  let c0_i32 : BitVec 32 := 0#32
  let c0_i32_0 : BitVec 32 := 0#32
  let c0_i32_1 : BitVec 32 := 0#32
  let c0_i32_2 : BitVec 32 := 0#32
  ![v3.toNat, c0_i32.toNat, c0_i32_0.toNat, c0_i32_1.toNat]

def cc0_transform_16 (k0_off1_inb : ∀ i : grid0.Coords, ∀ (r : Fin 32), ∀ a, (k0_off1 i (BitVec.ofNat 32 r.val)) a + S1.size a ≤ S8192.size a) (numel1_S1 : S1.numel = 1) (pf : pre0.Contents (Elt F)) (i : grid0.Coords) : Fin 4 → Nat :=
  let arg0 : BitVec 32 := BitVec.ofNat 32 (i 0).val
  let c32_i32 : BitVec 32 := 32#32
  let v0 : BitVec 32 := Scalar.muli arg0 c32_i32
  let c16_i32 : BitVec 32 := 16#32
  let v1 : BitVec 32 := Scalar.addi v0 c16_i32
  let v2 : Index := Scalar.indexCast v1
  let v3 : BitVec 32 := pf.at 0 (Rect.unit (s := S8192) ![v2.toNat] S1.size (k0_off1_inb i 16)) numel1_S1
  let c0_i32 : BitVec 32 := 0#32
  let c0_i32_0 : BitVec 32 := 0#32
  let c0_i32_1 : BitVec 32 := 0#32
  let c0_i32_2 : BitVec 32 := 0#32
  ![v3.toNat, c0_i32.toNat, c0_i32_0.toNat, c0_i32_1.toNat]

def cc0_transform_17 (k0_off1_inb : ∀ i : grid0.Coords, ∀ (r : Fin 32), ∀ a, (k0_off1 i (BitVec.ofNat 32 r.val)) a + S1.size a ≤ S8192.size a) (numel1_S1 : S1.numel = 1) (pf : pre0.Contents (Elt F)) (i : grid0.Coords) : Fin 4 → Nat :=
  let arg0 : BitVec 32 := BitVec.ofNat 32 (i 0).val
  let c32_i32 : BitVec 32 := 32#32
  let v0 : BitVec 32 := Scalar.muli arg0 c32_i32
  let c17_i32 : BitVec 32 := 17#32
  let v1 : BitVec 32 := Scalar.addi v0 c17_i32
  let v2 : Index := Scalar.indexCast v1
  let v3 : BitVec 32 := pf.at 0 (Rect.unit (s := S8192) ![v2.toNat] S1.size (k0_off1_inb i 17)) numel1_S1
  let c0_i32 : BitVec 32 := 0#32
  let c0_i32_0 : BitVec 32 := 0#32
  let c0_i32_1 : BitVec 32 := 0#32
  let c0_i32_2 : BitVec 32 := 0#32
  ![v3.toNat, c0_i32.toNat, c0_i32_0.toNat, c0_i32_1.toNat]

def cc0_transform_18 (k0_off1_inb : ∀ i : grid0.Coords, ∀ (r : Fin 32), ∀ a, (k0_off1 i (BitVec.ofNat 32 r.val)) a + S1.size a ≤ S8192.size a) (numel1_S1 : S1.numel = 1) (pf : pre0.Contents (Elt F)) (i : grid0.Coords) : Fin 4 → Nat :=
  let arg0 : BitVec 32 := BitVec.ofNat 32 (i 0).val
  let c32_i32 : BitVec 32 := 32#32
  let v0 : BitVec 32 := Scalar.muli arg0 c32_i32
  let c18_i32 : BitVec 32 := 18#32
  let v1 : BitVec 32 := Scalar.addi v0 c18_i32
  let v2 : Index := Scalar.indexCast v1
  let v3 : BitVec 32 := pf.at 0 (Rect.unit (s := S8192) ![v2.toNat] S1.size (k0_off1_inb i 18)) numel1_S1
  let c0_i32 : BitVec 32 := 0#32
  let c0_i32_0 : BitVec 32 := 0#32
  let c0_i32_1 : BitVec 32 := 0#32
  let c0_i32_2 : BitVec 32 := 0#32
  ![v3.toNat, c0_i32.toNat, c0_i32_0.toNat, c0_i32_1.toNat]

def cc0_transform_19 (k0_off1_inb : ∀ i : grid0.Coords, ∀ (r : Fin 32), ∀ a, (k0_off1 i (BitVec.ofNat 32 r.val)) a + S1.size a ≤ S8192.size a) (numel1_S1 : S1.numel = 1) (pf : pre0.Contents (Elt F)) (i : grid0.Coords) : Fin 4 → Nat :=
  let arg0 : BitVec 32 := BitVec.ofNat 32 (i 0).val
  let c32_i32 : BitVec 32 := 32#32
  let v0 : BitVec 32 := Scalar.muli arg0 c32_i32
  let c19_i32 : BitVec 32 := 19#32
  let v1 : BitVec 32 := Scalar.addi v0 c19_i32
  let v2 : Index := Scalar.indexCast v1
  let v3 : BitVec 32 := pf.at 0 (Rect.unit (s := S8192) ![v2.toNat] S1.size (k0_off1_inb i 19)) numel1_S1
  let c0_i32 : BitVec 32 := 0#32
  let c0_i32_0 : BitVec 32 := 0#32
  let c0_i32_1 : BitVec 32 := 0#32
  let c0_i32_2 : BitVec 32 := 0#32
  ![v3.toNat, c0_i32.toNat, c0_i32_0.toNat, c0_i32_1.toNat]

def cc0_transform_20 (k0_off1_inb : ∀ i : grid0.Coords, ∀ (r : Fin 32), ∀ a, (k0_off1 i (BitVec.ofNat 32 r.val)) a + S1.size a ≤ S8192.size a) (numel1_S1 : S1.numel = 1) (pf : pre0.Contents (Elt F)) (i : grid0.Coords) : Fin 4 → Nat :=
  let arg0 : BitVec 32 := BitVec.ofNat 32 (i 0).val
  let c32_i32 : BitVec 32 := 32#32
  let v0 : BitVec 32 := Scalar.muli arg0 c32_i32
  let c20_i32 : BitVec 32 := 20#32
  let v1 : BitVec 32 := Scalar.addi v0 c20_i32
  let v2 : Index := Scalar.indexCast v1
  let v3 : BitVec 32 := pf.at 0 (Rect.unit (s := S8192) ![v2.toNat] S1.size (k0_off1_inb i 20)) numel1_S1
  let c0_i32 : BitVec 32 := 0#32
  let c0_i32_0 : BitVec 32 := 0#32
  let c0_i32_1 : BitVec 32 := 0#32
  let c0_i32_2 : BitVec 32 := 0#32
  ![v3.toNat, c0_i32.toNat, c0_i32_0.toNat, c0_i32_1.toNat]

def cc0_transform_21 (k0_off1_inb : ∀ i : grid0.Coords, ∀ (r : Fin 32), ∀ a, (k0_off1 i (BitVec.ofNat 32 r.val)) a + S1.size a ≤ S8192.size a) (numel1_S1 : S1.numel = 1) (pf : pre0.Contents (Elt F)) (i : grid0.Coords) : Fin 4 → Nat :=
  let arg0 : BitVec 32 := BitVec.ofNat 32 (i 0).val
  let c32_i32 : BitVec 32 := 32#32
  let v0 : BitVec 32 := Scalar.muli arg0 c32_i32
  let c21_i32 : BitVec 32 := 21#32
  let v1 : BitVec 32 := Scalar.addi v0 c21_i32
  let v2 : Index := Scalar.indexCast v1
  let v3 : BitVec 32 := pf.at 0 (Rect.unit (s := S8192) ![v2.toNat] S1.size (k0_off1_inb i 21)) numel1_S1
  let c0_i32 : BitVec 32 := 0#32
  let c0_i32_0 : BitVec 32 := 0#32
  let c0_i32_1 : BitVec 32 := 0#32
  let c0_i32_2 : BitVec 32 := 0#32
  ![v3.toNat, c0_i32.toNat, c0_i32_0.toNat, c0_i32_1.toNat]

def cc0_transform_22 (k0_off1_inb : ∀ i : grid0.Coords, ∀ (r : Fin 32), ∀ a, (k0_off1 i (BitVec.ofNat 32 r.val)) a + S1.size a ≤ S8192.size a) (numel1_S1 : S1.numel = 1) (pf : pre0.Contents (Elt F)) (i : grid0.Coords) : Fin 4 → Nat :=
  let arg0 : BitVec 32 := BitVec.ofNat 32 (i 0).val
  let c32_i32 : BitVec 32 := 32#32
  let v0 : BitVec 32 := Scalar.muli arg0 c32_i32
  let c22_i32 : BitVec 32 := 22#32
  let v1 : BitVec 32 := Scalar.addi v0 c22_i32
  let v2 : Index := Scalar.indexCast v1
  let v3 : BitVec 32 := pf.at 0 (Rect.unit (s := S8192) ![v2.toNat] S1.size (k0_off1_inb i 22)) numel1_S1
  let c0_i32 : BitVec 32 := 0#32
  let c0_i32_0 : BitVec 32 := 0#32
  let c0_i32_1 : BitVec 32 := 0#32
  let c0_i32_2 : BitVec 32 := 0#32
  ![v3.toNat, c0_i32.toNat, c0_i32_0.toNat, c0_i32_1.toNat]

def cc0_transform_23 (k0_off1_inb : ∀ i : grid0.Coords, ∀ (r : Fin 32), ∀ a, (k0_off1 i (BitVec.ofNat 32 r.val)) a + S1.size a ≤ S8192.size a) (numel1_S1 : S1.numel = 1) (pf : pre0.Contents (Elt F)) (i : grid0.Coords) : Fin 4 → Nat :=
  let arg0 : BitVec 32 := BitVec.ofNat 32 (i 0).val
  let c32_i32 : BitVec 32 := 32#32
  let v0 : BitVec 32 := Scalar.muli arg0 c32_i32
  let c23_i32 : BitVec 32 := 23#32
  let v1 : BitVec 32 := Scalar.addi v0 c23_i32
  let v2 : Index := Scalar.indexCast v1
  let v3 : BitVec 32 := pf.at 0 (Rect.unit (s := S8192) ![v2.toNat] S1.size (k0_off1_inb i 23)) numel1_S1
  let c0_i32 : BitVec 32 := 0#32
  let c0_i32_0 : BitVec 32 := 0#32
  let c0_i32_1 : BitVec 32 := 0#32
  let c0_i32_2 : BitVec 32 := 0#32
  ![v3.toNat, c0_i32.toNat, c0_i32_0.toNat, c0_i32_1.toNat]

def cc0_transform_24 (k0_off1_inb : ∀ i : grid0.Coords, ∀ (r : Fin 32), ∀ a, (k0_off1 i (BitVec.ofNat 32 r.val)) a + S1.size a ≤ S8192.size a) (numel1_S1 : S1.numel = 1) (pf : pre0.Contents (Elt F)) (i : grid0.Coords) : Fin 4 → Nat :=
  let arg0 : BitVec 32 := BitVec.ofNat 32 (i 0).val
  let c32_i32 : BitVec 32 := 32#32
  let v0 : BitVec 32 := Scalar.muli arg0 c32_i32
  let c24_i32 : BitVec 32 := 24#32
  let v1 : BitVec 32 := Scalar.addi v0 c24_i32
  let v2 : Index := Scalar.indexCast v1
  let v3 : BitVec 32 := pf.at 0 (Rect.unit (s := S8192) ![v2.toNat] S1.size (k0_off1_inb i 24)) numel1_S1
  let c0_i32 : BitVec 32 := 0#32
  let c0_i32_0 : BitVec 32 := 0#32
  let c0_i32_1 : BitVec 32 := 0#32
  let c0_i32_2 : BitVec 32 := 0#32
  ![v3.toNat, c0_i32.toNat, c0_i32_0.toNat, c0_i32_1.toNat]

def cc0_transform_25 (k0_off1_inb : ∀ i : grid0.Coords, ∀ (r : Fin 32), ∀ a, (k0_off1 i (BitVec.ofNat 32 r.val)) a + S1.size a ≤ S8192.size a) (numel1_S1 : S1.numel = 1) (pf : pre0.Contents (Elt F)) (i : grid0.Coords) : Fin 4 → Nat :=
  let arg0 : BitVec 32 := BitVec.ofNat 32 (i 0).val
  let c32_i32 : BitVec 32 := 32#32
  let v0 : BitVec 32 := Scalar.muli arg0 c32_i32
  let c25_i32 : BitVec 32 := 25#32
  let v1 : BitVec 32 := Scalar.addi v0 c25_i32
  let v2 : Index := Scalar.indexCast v1
  let v3 : BitVec 32 := pf.at 0 (Rect.unit (s := S8192) ![v2.toNat] S1.size (k0_off1_inb i 25)) numel1_S1
  let c0_i32 : BitVec 32 := 0#32
  let c0_i32_0 : BitVec 32 := 0#32
  let c0_i32_1 : BitVec 32 := 0#32
  let c0_i32_2 : BitVec 32 := 0#32
  ![v3.toNat, c0_i32.toNat, c0_i32_0.toNat, c0_i32_1.toNat]

def cc0_transform_26 (k0_off1_inb : ∀ i : grid0.Coords, ∀ (r : Fin 32), ∀ a, (k0_off1 i (BitVec.ofNat 32 r.val)) a + S1.size a ≤ S8192.size a) (numel1_S1 : S1.numel = 1) (pf : pre0.Contents (Elt F)) (i : grid0.Coords) : Fin 4 → Nat :=
  let arg0 : BitVec 32 := BitVec.ofNat 32 (i 0).val
  let c32_i32 : BitVec 32 := 32#32
  let v0 : BitVec 32 := Scalar.muli arg0 c32_i32
  let c26_i32 : BitVec 32 := 26#32
  let v1 : BitVec 32 := Scalar.addi v0 c26_i32
  let v2 : Index := Scalar.indexCast v1
  let v3 : BitVec 32 := pf.at 0 (Rect.unit (s := S8192) ![v2.toNat] S1.size (k0_off1_inb i 26)) numel1_S1
  let c0_i32 : BitVec 32 := 0#32
  let c0_i32_0 : BitVec 32 := 0#32
  let c0_i32_1 : BitVec 32 := 0#32
  let c0_i32_2 : BitVec 32 := 0#32
  ![v3.toNat, c0_i32.toNat, c0_i32_0.toNat, c0_i32_1.toNat]

def cc0_transform_27 (k0_off1_inb : ∀ i : grid0.Coords, ∀ (r : Fin 32), ∀ a, (k0_off1 i (BitVec.ofNat 32 r.val)) a + S1.size a ≤ S8192.size a) (numel1_S1 : S1.numel = 1) (pf : pre0.Contents (Elt F)) (i : grid0.Coords) : Fin 4 → Nat :=
  let arg0 : BitVec 32 := BitVec.ofNat 32 (i 0).val
  let c32_i32 : BitVec 32 := 32#32
  let v0 : BitVec 32 := Scalar.muli arg0 c32_i32
  let c27_i32 : BitVec 32 := 27#32
  let v1 : BitVec 32 := Scalar.addi v0 c27_i32
  let v2 : Index := Scalar.indexCast v1
  let v3 : BitVec 32 := pf.at 0 (Rect.unit (s := S8192) ![v2.toNat] S1.size (k0_off1_inb i 27)) numel1_S1
  let c0_i32 : BitVec 32 := 0#32
  let c0_i32_0 : BitVec 32 := 0#32
  let c0_i32_1 : BitVec 32 := 0#32
  let c0_i32_2 : BitVec 32 := 0#32
  ![v3.toNat, c0_i32.toNat, c0_i32_0.toNat, c0_i32_1.toNat]

def cc0_transform_28 (k0_off1_inb : ∀ i : grid0.Coords, ∀ (r : Fin 32), ∀ a, (k0_off1 i (BitVec.ofNat 32 r.val)) a + S1.size a ≤ S8192.size a) (numel1_S1 : S1.numel = 1) (pf : pre0.Contents (Elt F)) (i : grid0.Coords) : Fin 4 → Nat :=
  let arg0 : BitVec 32 := BitVec.ofNat 32 (i 0).val
  let c32_i32 : BitVec 32 := 32#32
  let v0 : BitVec 32 := Scalar.muli arg0 c32_i32
  let c28_i32 : BitVec 32 := 28#32
  let v1 : BitVec 32 := Scalar.addi v0 c28_i32
  let v2 : Index := Scalar.indexCast v1
  let v3 : BitVec 32 := pf.at 0 (Rect.unit (s := S8192) ![v2.toNat] S1.size (k0_off1_inb i 28)) numel1_S1
  let c0_i32 : BitVec 32 := 0#32
  let c0_i32_0 : BitVec 32 := 0#32
  let c0_i32_1 : BitVec 32 := 0#32
  let c0_i32_2 : BitVec 32 := 0#32
  ![v3.toNat, c0_i32.toNat, c0_i32_0.toNat, c0_i32_1.toNat]

def cc0_transform_29 (k0_off1_inb : ∀ i : grid0.Coords, ∀ (r : Fin 32), ∀ a, (k0_off1 i (BitVec.ofNat 32 r.val)) a + S1.size a ≤ S8192.size a) (numel1_S1 : S1.numel = 1) (pf : pre0.Contents (Elt F)) (i : grid0.Coords) : Fin 4 → Nat :=
  let arg0 : BitVec 32 := BitVec.ofNat 32 (i 0).val
  let c32_i32 : BitVec 32 := 32#32
  let v0 : BitVec 32 := Scalar.muli arg0 c32_i32
  let c29_i32 : BitVec 32 := 29#32
  let v1 : BitVec 32 := Scalar.addi v0 c29_i32
  let v2 : Index := Scalar.indexCast v1
  let v3 : BitVec 32 := pf.at 0 (Rect.unit (s := S8192) ![v2.toNat] S1.size (k0_off1_inb i 29)) numel1_S1
  let c0_i32 : BitVec 32 := 0#32
  let c0_i32_0 : BitVec 32 := 0#32
  let c0_i32_1 : BitVec 32 := 0#32
  let c0_i32_2 : BitVec 32 := 0#32
  ![v3.toNat, c0_i32.toNat, c0_i32_0.toNat, c0_i32_1.toNat]

def cc0_transform_30 (k0_off1_inb : ∀ i : grid0.Coords, ∀ (r : Fin 32), ∀ a, (k0_off1 i (BitVec.ofNat 32 r.val)) a + S1.size a ≤ S8192.size a) (numel1_S1 : S1.numel = 1) (pf : pre0.Contents (Elt F)) (i : grid0.Coords) : Fin 4 → Nat :=
  let arg0 : BitVec 32 := BitVec.ofNat 32 (i 0).val
  let c32_i32 : BitVec 32 := 32#32
  let v0 : BitVec 32 := Scalar.muli arg0 c32_i32
  let c30_i32 : BitVec 32 := 30#32
  let v1 : BitVec 32 := Scalar.addi v0 c30_i32
  let v2 : Index := Scalar.indexCast v1
  let v3 : BitVec 32 := pf.at 0 (Rect.unit (s := S8192) ![v2.toNat] S1.size (k0_off1_inb i 30)) numel1_S1
  let c0_i32 : BitVec 32 := 0#32
  let c0_i32_0 : BitVec 32 := 0#32
  let c0_i32_1 : BitVec 32 := 0#32
  let c0_i32_2 : BitVec 32 := 0#32
  ![v3.toNat, c0_i32.toNat, c0_i32_0.toNat, c0_i32_1.toNat]

def cc0_transform_31 (k0_off1_inb : ∀ i : grid0.Coords, ∀ (r : Fin 32), ∀ a, (k0_off1 i (BitVec.ofNat 32 r.val)) a + S1.size a ≤ S8192.size a) (numel1_S1 : S1.numel = 1) (pf : pre0.Contents (Elt F)) (i : grid0.Coords) : Fin 4 → Nat :=
  let arg0 : BitVec 32 := BitVec.ofNat 32 (i 0).val
  let c32_i32 : BitVec 32 := 32#32
  let v0 : BitVec 32 := Scalar.muli arg0 c32_i32
  let c31_i32 : BitVec 32 := 31#32
  let v1 : BitVec 32 := Scalar.addi v0 c31_i32
  let v2 : Index := Scalar.indexCast v1
  let v3 : BitVec 32 := pf.at 0 (Rect.unit (s := S8192) ![v2.toNat] S1.size (k0_off1_inb i 31)) numel1_S1
  let c0_i32 : BitVec 32 := 0#32
  let c0_i32_0 : BitVec 32 := 0#32
  let c0_i32_1 : BitVec 32 := 0#32
  let c0_i32_2 : BitVec 32 := 0#32
  ![v3.toNat, c0_i32.toNat, c0_i32_0.toNat, c0_i32_1.toNat]

def cc0_transform_32 (k0_off1_inb : ∀ i : grid0.Coords, ∀ (r : Fin 32), ∀ a, (k0_off1 i (BitVec.ofNat 32 r.val)) a + S1.size a ≤ S8192.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli arg0 c32_i32
  let c0_i32 : BitVec 32 := 0#32
  let v1 : BitVec 32 := Scalar.addi v0 c0_i32
  let v2 : Index := Scalar.indexCast v1
  let v3 : BitVec 32 := pf.at 0 (Rect.unit (s := S8192) ![v2.toNat] S1.size (k0_off1_inb i 0)) numel1_S1
  let c0_i32_0 : BitVec 32 := 0#32
  let c0_i32_1 : BitVec 32 := 0#32
  let c0_i32_2 : BitVec 32 := 0#32
  ![v3.toNat, c0_i32_0.toNat, c0_i32_1.toNat]

def cc0_transform_33 (k0_off1_inb : ∀ i : grid0.Coords, ∀ (r : Fin 32), ∀ a, (k0_off1 i (BitVec.ofNat 32 r.val)) a + S1.size a ≤ S8192.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.addi v0 c1_i32
  let v2 : Index := Scalar.indexCast v1
  let v3 : BitVec 32 := pf.at 0 (Rect.unit (s := S8192) ![v2.toNat] S1.size (k0_off1_inb i 1)) numel1_S1
  let c0_i32 : BitVec 32 := 0#32
  let c0_i32_0 : BitVec 32 := 0#32
  let c0_i32_1 : BitVec 32 := 0#32
  ![v3.toNat, c0_i32.toNat, c0_i32_0.toNat]

def cc0_transform_34 (k0_off1_inb : ∀ i : grid0.Coords, ∀ (r : Fin 32), ∀ a, (k0_off1 i (BitVec.ofNat 32 r.val)) a + S1.size a ≤ S8192.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli arg0 c32_i32
  let c2_i32 : BitVec 32 := 2#32
  let v1 : BitVec 32 := Scalar.addi v0 c2_i32
  let v2 : Index := Scalar.indexCast v1
  let v3 : BitVec 32 := pf.at 0 (Rect.unit (s := S8192) ![v2.toNat] S1.size (k0_off1_inb i 2)) numel1_S1
  let c0_i32 : BitVec 32 := 0#32
  let c0_i32_0 : BitVec 32 := 0#32
  let c0_i32_1 : BitVec 32 := 0#32
  ![v3.toNat, c0_i32.toNat, c0_i32_0.toNat]

def cc0_transform_35 (k0_off1_inb : ∀ i : grid0.Coords, ∀ (r : Fin 32), ∀ a, (k0_off1 i (BitVec.ofNat 32 r.val)) a + S1.size a ≤ S8192.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli arg0 c32_i32
  let c3_i32 : BitVec 32 := 3#32
  let v1 : BitVec 32 := Scalar.addi v0 c3_i32
  let v2 : Index := Scalar.indexCast v1
  let v3 : BitVec 32 := pf.at 0 (Rect.unit (s := S8192) ![v2.toNat] S1.size (k0_off1_inb i 3)) numel1_S1
  let c0_i32 : BitVec 32 := 0#32
  let c0_i32_0 : BitVec 32 := 0#32
  let c0_i32_1 : BitVec 32 := 0#32
  ![v3.toNat, c0_i32.toNat, c0_i32_0.toNat]

def cc0_transform_36 (k0_off1_inb : ∀ i : grid0.Coords, ∀ (r : Fin 32), ∀ a, (k0_off1 i (BitVec.ofNat 32 r.val)) a + S1.size a ≤ S8192.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli arg0 c32_i32
  let c4_i32 : BitVec 32 := 4#32
  let v1 : BitVec 32 := Scalar.addi v0 c4_i32
  let v2 : Index := Scalar.indexCast v1
  let v3 : BitVec 32 := pf.at 0 (Rect.unit (s := S8192) ![v2.toNat] S1.size (k0_off1_inb i 4)) numel1_S1
  let c0_i32 : BitVec 32 := 0#32
  let c0_i32_0 : BitVec 32 := 0#32
  let c0_i32_1 : BitVec 32 := 0#32
  ![v3.toNat, c0_i32.toNat, c0_i32_0.toNat]

def cc0_transform_37 (k0_off1_inb : ∀ i : grid0.Coords, ∀ (r : Fin 32), ∀ a, (k0_off1 i (BitVec.ofNat 32 r.val)) a + S1.size a ≤ S8192.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli arg0 c32_i32
  let c5_i32 : BitVec 32 := 5#32
  let v1 : BitVec 32 := Scalar.addi v0 c5_i32
  let v2 : Index := Scalar.indexCast v1
  let v3 : BitVec 32 := pf.at 0 (Rect.unit (s := S8192) ![v2.toNat] S1.size (k0_off1_inb i 5)) numel1_S1
  let c0_i32 : BitVec 32 := 0#32
  let c0_i32_0 : BitVec 32 := 0#32
  let c0_i32_1 : BitVec 32 := 0#32
  ![v3.toNat, c0_i32.toNat, c0_i32_0.toNat]

def cc0_transform_38 (k0_off1_inb : ∀ i : grid0.Coords, ∀ (r : Fin 32), ∀ a, (k0_off1 i (BitVec.ofNat 32 r.val)) a + S1.size a ≤ S8192.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli arg0 c32_i32
  let c6_i32 : BitVec 32 := 6#32
  let v1 : BitVec 32 := Scalar.addi v0 c6_i32
  let v2 : Index := Scalar.indexCast v1
  let v3 : BitVec 32 := pf.at 0 (Rect.unit (s := S8192) ![v2.toNat] S1.size (k0_off1_inb i 6)) numel1_S1
  let c0_i32 : BitVec 32 := 0#32
  let c0_i32_0 : BitVec 32 := 0#32
  let c0_i32_1 : BitVec 32 := 0#32
  ![v3.toNat, c0_i32.toNat, c0_i32_0.toNat]

def cc0_transform_39 (k0_off1_inb : ∀ i : grid0.Coords, ∀ (r : Fin 32), ∀ a, (k0_off1 i (BitVec.ofNat 32 r.val)) a + S1.size a ≤ S8192.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli arg0 c32_i32
  let c7_i32 : BitVec 32 := 7#32
  let v1 : BitVec 32 := Scalar.addi v0 c7_i32
  let v2 : Index := Scalar.indexCast v1
  let v3 : BitVec 32 := pf.at 0 (Rect.unit (s := S8192) ![v2.toNat] S1.size (k0_off1_inb i 7)) numel1_S1
  let c0_i32 : BitVec 32 := 0#32
  let c0_i32_0 : BitVec 32 := 0#32
  let c0_i32_1 : BitVec 32 := 0#32
  ![v3.toNat, c0_i32.toNat, c0_i32_0.toNat]

def cc0_transform_40 (k0_off1_inb : ∀ i : grid0.Coords, ∀ (r : Fin 32), ∀ a, (k0_off1 i (BitVec.ofNat 32 r.val)) a + S1.size a ≤ S8192.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli arg0 c32_i32
  let c8_i32 : BitVec 32 := 8#32
  let v1 : BitVec 32 := Scalar.addi v0 c8_i32
  let v2 : Index := Scalar.indexCast v1
  let v3 : BitVec 32 := pf.at 0 (Rect.unit (s := S8192) ![v2.toNat] S1.size (k0_off1_inb i 8)) numel1_S1
  let c0_i32 : BitVec 32 := 0#32
  let c0_i32_0 : BitVec 32 := 0#32
  let c0_i32_1 : BitVec 32 := 0#32
  ![v3.toNat, c0_i32.toNat, c0_i32_0.toNat]

def cc0_transform_41 (k0_off1_inb : ∀ i : grid0.Coords, ∀ (r : Fin 32), ∀ a, (k0_off1 i (BitVec.ofNat 32 r.val)) a + S1.size a ≤ S8192.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli arg0 c32_i32
  let c9_i32 : BitVec 32 := 9#32
  let v1 : BitVec 32 := Scalar.addi v0 c9_i32
  let v2 : Index := Scalar.indexCast v1
  let v3 : BitVec 32 := pf.at 0 (Rect.unit (s := S8192) ![v2.toNat] S1.size (k0_off1_inb i 9)) numel1_S1
  let c0_i32 : BitVec 32 := 0#32
  let c0_i32_0 : BitVec 32 := 0#32
  let c0_i32_1 : BitVec 32 := 0#32
  ![v3.toNat, c0_i32.toNat, c0_i32_0.toNat]

def cc0_transform_42 (k0_off1_inb : ∀ i : grid0.Coords, ∀ (r : Fin 32), ∀ a, (k0_off1 i (BitVec.ofNat 32 r.val)) a + S1.size a ≤ S8192.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli arg0 c32_i32
  let c10_i32 : BitVec 32 := 10#32
  let v1 : BitVec 32 := Scalar.addi v0 c10_i32
  let v2 : Index := Scalar.indexCast v1
  let v3 : BitVec 32 := pf.at 0 (Rect.unit (s := S8192) ![v2.toNat] S1.size (k0_off1_inb i 10)) numel1_S1
  let c0_i32 : BitVec 32 := 0#32
  let c0_i32_0 : BitVec 32 := 0#32
  let c0_i32_1 : BitVec 32 := 0#32
  ![v3.toNat, c0_i32.toNat, c0_i32_0.toNat]

def cc0_transform_43 (k0_off1_inb : ∀ i : grid0.Coords, ∀ (r : Fin 32), ∀ a, (k0_off1 i (BitVec.ofNat 32 r.val)) a + S1.size a ≤ S8192.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli arg0 c32_i32
  let c11_i32 : BitVec 32 := 11#32
  let v1 : BitVec 32 := Scalar.addi v0 c11_i32
  let v2 : Index := Scalar.indexCast v1
  let v3 : BitVec 32 := pf.at 0 (Rect.unit (s := S8192) ![v2.toNat] S1.size (k0_off1_inb i 11)) numel1_S1
  let c0_i32 : BitVec 32 := 0#32
  let c0_i32_0 : BitVec 32 := 0#32
  let c0_i32_1 : BitVec 32 := 0#32
  ![v3.toNat, c0_i32.toNat, c0_i32_0.toNat]

def cc0_transform_44 (k0_off1_inb : ∀ i : grid0.Coords, ∀ (r : Fin 32), ∀ a, (k0_off1 i (BitVec.ofNat 32 r.val)) a + S1.size a ≤ S8192.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli arg0 c32_i32
  let c12_i32 : BitVec 32 := 12#32
  let v1 : BitVec 32 := Scalar.addi v0 c12_i32
  let v2 : Index := Scalar.indexCast v1
  let v3 : BitVec 32 := pf.at 0 (Rect.unit (s := S8192) ![v2.toNat] S1.size (k0_off1_inb i 12)) numel1_S1
  let c0_i32 : BitVec 32 := 0#32
  let c0_i32_0 : BitVec 32 := 0#32
  let c0_i32_1 : BitVec 32 := 0#32
  ![v3.toNat, c0_i32.toNat, c0_i32_0.toNat]

def cc0_transform_45 (k0_off1_inb : ∀ i : grid0.Coords, ∀ (r : Fin 32), ∀ a, (k0_off1 i (BitVec.ofNat 32 r.val)) a + S1.size a ≤ S8192.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli arg0 c32_i32
  let c13_i32 : BitVec 32 := 13#32
  let v1 : BitVec 32 := Scalar.addi v0 c13_i32
  let v2 : Index := Scalar.indexCast v1
  let v3 : BitVec 32 := pf.at 0 (Rect.unit (s := S8192) ![v2.toNat] S1.size (k0_off1_inb i 13)) numel1_S1
  let c0_i32 : BitVec 32 := 0#32
  let c0_i32_0 : BitVec 32 := 0#32
  let c0_i32_1 : BitVec 32 := 0#32
  ![v3.toNat, c0_i32.toNat, c0_i32_0.toNat]

def cc0_transform_46 (k0_off1_inb : ∀ i : grid0.Coords, ∀ (r : Fin 32), ∀ a, (k0_off1 i (BitVec.ofNat 32 r.val)) a + S1.size a ≤ S8192.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli arg0 c32_i32
  let c14_i32 : BitVec 32 := 14#32
  let v1 : BitVec 32 := Scalar.addi v0 c14_i32
  let v2 : Index := Scalar.indexCast v1
  let v3 : BitVec 32 := pf.at 0 (Rect.unit (s := S8192) ![v2.toNat] S1.size (k0_off1_inb i 14)) numel1_S1
  let c0_i32 : BitVec 32 := 0#32
  let c0_i32_0 : BitVec 32 := 0#32
  let c0_i32_1 : BitVec 32 := 0#32
  ![v3.toNat, c0_i32.toNat, c0_i32_0.toNat]

def cc0_transform_47 (k0_off1_inb : ∀ i : grid0.Coords, ∀ (r : Fin 32), ∀ a, (k0_off1 i (BitVec.ofNat 32 r.val)) a + S1.size a ≤ S8192.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli arg0 c32_i32
  let c15_i32 : BitVec 32 := 15#32
  let v1 : BitVec 32 := Scalar.addi v0 c15_i32
  let v2 : Index := Scalar.indexCast v1
  let v3 : BitVec 32 := pf.at 0 (Rect.unit (s := S8192) ![v2.toNat] S1.size (k0_off1_inb i 15)) numel1_S1
  let c0_i32 : BitVec 32 := 0#32
  let c0_i32_0 : BitVec 32 := 0#32
  let c0_i32_1 : BitVec 32 := 0#32
  ![v3.toNat, c0_i32.toNat, c0_i32_0.toNat]

def cc0_transform_48 (k0_off1_inb : ∀ i : grid0.Coords, ∀ (r : Fin 32), ∀ a, (k0_off1 i (BitVec.ofNat 32 r.val)) a + S1.size a ≤ S8192.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli arg0 c32_i32
  let c16_i32 : BitVec 32 := 16#32
  let v1 : BitVec 32 := Scalar.addi v0 c16_i32
  let v2 : Index := Scalar.indexCast v1
  let v3 : BitVec 32 := pf.at 0 (Rect.unit (s := S8192) ![v2.toNat] S1.size (k0_off1_inb i 16)) numel1_S1
  let c0_i32 : BitVec 32 := 0#32
  let c0_i32_0 : BitVec 32 := 0#32
  let c0_i32_1 : BitVec 32 := 0#32
  ![v3.toNat, c0_i32.toNat, c0_i32_0.toNat]

def cc0_transform_49 (k0_off1_inb : ∀ i : grid0.Coords, ∀ (r : Fin 32), ∀ a, (k0_off1 i (BitVec.ofNat 32 r.val)) a + S1.size a ≤ S8192.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli arg0 c32_i32
  let c17_i32 : BitVec 32 := 17#32
  let v1 : BitVec 32 := Scalar.addi v0 c17_i32
  let v2 : Index := Scalar.indexCast v1
  let v3 : BitVec 32 := pf.at 0 (Rect.unit (s := S8192) ![v2.toNat] S1.size (k0_off1_inb i 17)) numel1_S1
  let c0_i32 : BitVec 32 := 0#32
  let c0_i32_0 : BitVec 32 := 0#32
  let c0_i32_1 : BitVec 32 := 0#32
  ![v3.toNat, c0_i32.toNat, c0_i32_0.toNat]

def cc0_transform_50 (k0_off1_inb : ∀ i : grid0.Coords, ∀ (r : Fin 32), ∀ a, (k0_off1 i (BitVec.ofNat 32 r.val)) a + S1.size a ≤ S8192.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli arg0 c32_i32
  let c18_i32 : BitVec 32 := 18#32
  let v1 : BitVec 32 := Scalar.addi v0 c18_i32
  let v2 : Index := Scalar.indexCast v1
  let v3 : BitVec 32 := pf.at 0 (Rect.unit (s := S8192) ![v2.toNat] S1.size (k0_off1_inb i 18)) numel1_S1
  let c0_i32 : BitVec 32 := 0#32
  let c0_i32_0 : BitVec 32 := 0#32
  let c0_i32_1 : BitVec 32 := 0#32
  ![v3.toNat, c0_i32.toNat, c0_i32_0.toNat]

def cc0_transform_51 (k0_off1_inb : ∀ i : grid0.Coords, ∀ (r : Fin 32), ∀ a, (k0_off1 i (BitVec.ofNat 32 r.val)) a + S1.size a ≤ S8192.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli arg0 c32_i32
  let c19_i32 : BitVec 32 := 19#32
  let v1 : BitVec 32 := Scalar.addi v0 c19_i32
  let v2 : Index := Scalar.indexCast v1
  let v3 : BitVec 32 := pf.at 0 (Rect.unit (s := S8192) ![v2.toNat] S1.size (k0_off1_inb i 19)) numel1_S1
  let c0_i32 : BitVec 32 := 0#32
  let c0_i32_0 : BitVec 32 := 0#32
  let c0_i32_1 : BitVec 32 := 0#32
  ![v3.toNat, c0_i32.toNat, c0_i32_0.toNat]

def cc0_transform_52 (k0_off1_inb : ∀ i : grid0.Coords, ∀ (r : Fin 32), ∀ a, (k0_off1 i (BitVec.ofNat 32 r.val)) a + S1.size a ≤ S8192.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli arg0 c32_i32
  let c20_i32 : BitVec 32 := 20#32
  let v1 : BitVec 32 := Scalar.addi v0 c20_i32
  let v2 : Index := Scalar.indexCast v1
  let v3 : BitVec 32 := pf.at 0 (Rect.unit (s := S8192) ![v2.toNat] S1.size (k0_off1_inb i 20)) numel1_S1
  let c0_i32 : BitVec 32 := 0#32
  let c0_i32_0 : BitVec 32 := 0#32
  let c0_i32_1 : BitVec 32 := 0#32
  ![v3.toNat, c0_i32.toNat, c0_i32_0.toNat]

def cc0_transform_53 (k0_off1_inb : ∀ i : grid0.Coords, ∀ (r : Fin 32), ∀ a, (k0_off1 i (BitVec.ofNat 32 r.val)) a + S1.size a ≤ S8192.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli arg0 c32_i32
  let c21_i32 : BitVec 32 := 21#32
  let v1 : BitVec 32 := Scalar.addi v0 c21_i32
  let v2 : Index := Scalar.indexCast v1
  let v3 : BitVec 32 := pf.at 0 (Rect.unit (s := S8192) ![v2.toNat] S1.size (k0_off1_inb i 21)) numel1_S1
  let c0_i32 : BitVec 32 := 0#32
  let c0_i32_0 : BitVec 32 := 0#32
  let c0_i32_1 : BitVec 32 := 0#32
  ![v3.toNat, c0_i32.toNat, c0_i32_0.toNat]

def cc0_transform_54 (k0_off1_inb : ∀ i : grid0.Coords, ∀ (r : Fin 32), ∀ a, (k0_off1 i (BitVec.ofNat 32 r.val)) a + S1.size a ≤ S8192.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli arg0 c32_i32
  let c22_i32 : BitVec 32 := 22#32
  let v1 : BitVec 32 := Scalar.addi v0 c22_i32
  let v2 : Index := Scalar.indexCast v1
  let v3 : BitVec 32 := pf.at 0 (Rect.unit (s := S8192) ![v2.toNat] S1.size (k0_off1_inb i 22)) numel1_S1
  let c0_i32 : BitVec 32 := 0#32
  let c0_i32_0 : BitVec 32 := 0#32
  let c0_i32_1 : BitVec 32 := 0#32
  ![v3.toNat, c0_i32.toNat, c0_i32_0.toNat]

def cc0_transform_55 (k0_off1_inb : ∀ i : grid0.Coords, ∀ (r : Fin 32), ∀ a, (k0_off1 i (BitVec.ofNat 32 r.val)) a + S1.size a ≤ S8192.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli arg0 c32_i32
  let c23_i32 : BitVec 32 := 23#32
  let v1 : BitVec 32 := Scalar.addi v0 c23_i32
  let v2 : Index := Scalar.indexCast v1
  let v3 : BitVec 32 := pf.at 0 (Rect.unit (s := S8192) ![v2.toNat] S1.size (k0_off1_inb i 23)) numel1_S1
  let c0_i32 : BitVec 32 := 0#32
  let c0_i32_0 : BitVec 32 := 0#32
  let c0_i32_1 : BitVec 32 := 0#32
  ![v3.toNat, c0_i32.toNat, c0_i32_0.toNat]

def cc0_transform_56 (k0_off1_inb : ∀ i : grid0.Coords, ∀ (r : Fin 32), ∀ a, (k0_off1 i (BitVec.ofNat 32 r.val)) a + S1.size a ≤ S8192.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli arg0 c32_i32
  let c24_i32 : BitVec 32 := 24#32
  let v1 : BitVec 32 := Scalar.addi v0 c24_i32
  let v2 : Index := Scalar.indexCast v1
  let v3 : BitVec 32 := pf.at 0 (Rect.unit (s := S8192) ![v2.toNat] S1.size (k0_off1_inb i 24)) numel1_S1
  let c0_i32 : BitVec 32 := 0#32
  let c0_i32_0 : BitVec 32 := 0#32
  let c0_i32_1 : BitVec 32 := 0#32
  ![v3.toNat, c0_i32.toNat, c0_i32_0.toNat]

def cc0_transform_57 (k0_off1_inb : ∀ i : grid0.Coords, ∀ (r : Fin 32), ∀ a, (k0_off1 i (BitVec.ofNat 32 r.val)) a + S1.size a ≤ S8192.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli arg0 c32_i32
  let c25_i32 : BitVec 32 := 25#32
  let v1 : BitVec 32 := Scalar.addi v0 c25_i32
  let v2 : Index := Scalar.indexCast v1
  let v3 : BitVec 32 := pf.at 0 (Rect.unit (s := S8192) ![v2.toNat] S1.size (k0_off1_inb i 25)) numel1_S1
  let c0_i32 : BitVec 32 := 0#32
  let c0_i32_0 : BitVec 32 := 0#32
  let c0_i32_1 : BitVec 32 := 0#32
  ![v3.toNat, c0_i32.toNat, c0_i32_0.toNat]

def cc0_transform_58 (k0_off1_inb : ∀ i : grid0.Coords, ∀ (r : Fin 32), ∀ a, (k0_off1 i (BitVec.ofNat 32 r.val)) a + S1.size a ≤ S8192.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli arg0 c32_i32
  let c26_i32 : BitVec 32 := 26#32
  let v1 : BitVec 32 := Scalar.addi v0 c26_i32
  let v2 : Index := Scalar.indexCast v1
  let v3 : BitVec 32 := pf.at 0 (Rect.unit (s := S8192) ![v2.toNat] S1.size (k0_off1_inb i 26)) numel1_S1
  let c0_i32 : BitVec 32 := 0#32
  let c0_i32_0 : BitVec 32 := 0#32
  let c0_i32_1 : BitVec 32 := 0#32
  ![v3.toNat, c0_i32.toNat, c0_i32_0.toNat]

def cc0_transform_59 (k0_off1_inb : ∀ i : grid0.Coords, ∀ (r : Fin 32), ∀ a, (k0_off1 i (BitVec.ofNat 32 r.val)) a + S1.size a ≤ S8192.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli arg0 c32_i32
  let c27_i32 : BitVec 32 := 27#32
  let v1 : BitVec 32 := Scalar.addi v0 c27_i32
  let v2 : Index := Scalar.indexCast v1
  let v3 : BitVec 32 := pf.at 0 (Rect.unit (s := S8192) ![v2.toNat] S1.size (k0_off1_inb i 27)) numel1_S1
  let c0_i32 : BitVec 32 := 0#32
  let c0_i32_0 : BitVec 32 := 0#32
  let c0_i32_1 : BitVec 32 := 0#32
  ![v3.toNat, c0_i32.toNat, c0_i32_0.toNat]

def cc0_transform_60 (k0_off1_inb : ∀ i : grid0.Coords, ∀ (r : Fin 32), ∀ a, (k0_off1 i (BitVec.ofNat 32 r.val)) a + S1.size a ≤ S8192.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli arg0 c32_i32
  let c28_i32 : BitVec 32 := 28#32
  let v1 : BitVec 32 := Scalar.addi v0 c28_i32
  let v2 : Index := Scalar.indexCast v1
  let v3 : BitVec 32 := pf.at 0 (Rect.unit (s := S8192) ![v2.toNat] S1.size (k0_off1_inb i 28)) numel1_S1
  let c0_i32 : BitVec 32 := 0#32
  let c0_i32_0 : BitVec 32 := 0#32
  let c0_i32_1 : BitVec 32 := 0#32
  ![v3.toNat, c0_i32.toNat, c0_i32_0.toNat]

def cc0_transform_61 (k0_off1_inb : ∀ i : grid0.Coords, ∀ (r : Fin 32), ∀ a, (k0_off1 i (BitVec.ofNat 32 r.val)) a + S1.size a ≤ S8192.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli arg0 c32_i32
  let c29_i32 : BitVec 32 := 29#32
  let v1 : BitVec 32 := Scalar.addi v0 c29_i32
  let v2 : Index := Scalar.indexCast v1
  let v3 : BitVec 32 := pf.at 0 (Rect.unit (s := S8192) ![v2.toNat] S1.size (k0_off1_inb i 29)) numel1_S1
  let c0_i32 : BitVec 32 := 0#32
  let c0_i32_0 : BitVec 32 := 0#32
  let c0_i32_1 : BitVec 32 := 0#32
  ![v3.toNat, c0_i32.toNat, c0_i32_0.toNat]

def cc0_transform_62 (k0_off1_inb : ∀ i : grid0.Coords, ∀ (r : Fin 32), ∀ a, (k0_off1 i (BitVec.ofNat 32 r.val)) a + S1.size a ≤ S8192.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli arg0 c32_i32
  let c30_i32 : BitVec 32 := 30#32
  let v1 : BitVec 32 := Scalar.addi v0 c30_i32
  let v2 : Index := Scalar.indexCast v1
  let v3 : BitVec 32 := pf.at 0 (Rect.unit (s := S8192) ![v2.toNat] S1.size (k0_off1_inb i 30)) numel1_S1
  let c0_i32 : BitVec 32 := 0#32
  let c0_i32_0 : BitVec 32 := 0#32
  let c0_i32_1 : BitVec 32 := 0#32
  ![v3.toNat, c0_i32.toNat, c0_i32_0.toNat]

def cc0_transform_63 (k0_off1_inb : ∀ i : grid0.Coords, ∀ (r : Fin 32), ∀ a, (k0_off1 i (BitVec.ofNat 32 r.val)) a + S1.size a ≤ S8192.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli arg0 c32_i32
  let c31_i32 : BitVec 32 := 31#32
  let v1 : BitVec 32 := Scalar.addi v0 c31_i32
  let v2 : Index := Scalar.indexCast v1
  let v3 : BitVec 32 := pf.at 0 (Rect.unit (s := S8192) ![v2.toNat] S1.size (k0_off1_inb i 31)) numel1_S1
  let c0_i32 : BitVec 32 := 0#32
  let c0_i32_0 : BitVec 32 := 0#32
  let c0_i32_1 : BitVec 32 := 0#32
  ![v3.toNat, c0_i32.toNat, c0_i32_0.toNat]

def cc0_transform_64 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_65 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x32x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x32x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x3x32x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x3x32x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x3x32x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x3x32x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x3x32x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x3x32x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x3x32x32 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x3x32x32 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x3x32x32 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x3x32x32 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x3x32x32 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x3x32x32 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x3x32x32 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x3x32x32 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x3x32x32 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x3x32x32 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x3x32x32 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x3x32x32 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x3x32x32 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x3x32x32 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1x3x32x32 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S1x3x32x32 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S1x3x32x32 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S1x3x32x32 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S1x3x32x32 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S1x3x32x32 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S1x3x32x32 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S1x3x32x32 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

abbrev stage0_30 : Fin 2 → Memref sig .tc .vmem S1x3x32x32 .f32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true]

abbrev stage0_31 : Fin 2 → Memref sig .tc .vmem S1x3x32x32 .f32 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true]

abbrev stage0_32 : Fin 2 → Memref sig .tc .vmem S1x1x10 .f32 := fun | 0 => Memref.whole cc0_stg32_0 | 1 => Memref.whole cc0_stg32_1 | ⟨_ + 2, h⟩ => absurd h (Nat.not_lt.2 (Nat.le_add_left _ _))
abbrev sem0_32 : Fin 2 → DmaSem sig := fun | 0 => cc0_sem32_0 | 1 => cc0_sem32_1 | ⟨_ + 2, h⟩ => absurd h (Nat.not_lt.2 (Nat.le_add_left _ _))
abbrev reads0_32 : Fin grid0.rank → Bool := ![true]

abbrev stage0_33 : Fin 2 → Memref sig .tc .vmem S1x1x10 .f32 := fun | 0 => Memref.whole cc0_stg33_0 | 1 => Memref.whole cc0_stg33_1 | ⟨_ + 2, h⟩ => absurd h (Nat.not_lt.2 (Nat.le_add_left _ _))
abbrev sem0_33 : Fin 2 → DmaSem sig := fun | 0 => cc0_sem33_0 | 1 => cc0_sem33_1 | ⟨_ + 2, h⟩ => absurd h (Nat.not_lt.2 (Nat.le_add_left _ _))
abbrev reads0_33 : Fin grid0.rank → Bool := ![true]

abbrev stage0_34 : Fin 2 → Memref sig .tc .vmem S1x1x10 .f32 := fun | 0 => Memref.whole cc0_stg34_0 | 1 => Memref.whole cc0_stg34_1 | ⟨_ + 2, h⟩ => absurd h (Nat.not_lt.2 (Nat.le_add_left _ _))
abbrev sem0_34 : Fin 2 → DmaSem sig := fun | 0 => cc0_sem34_0 | 1 => cc0_sem34_1 | ⟨_ + 2, h⟩ => absurd h (Nat.not_lt.2 (Nat.le_add_left _ _))
abbrev reads0_34 : Fin grid0.rank → Bool := ![true]

abbrev stage0_35 : Fin 2 → Memref sig .tc .vmem S1x1x10 .f32 := fun | 0 => Memref.whole cc0_stg35_0 | 1 => Memref.whole cc0_stg35_1 | ⟨_ + 2, h⟩ => absurd h (Nat.not_lt.2 (Nat.le_add_left _ _))
abbrev sem0_35 : Fin 2 → DmaSem sig := fun | 0 => cc0_sem35_0 | 1 => cc0_sem35_1 | ⟨_ + 2, h⟩ => absurd h (Nat.not_lt.2 (Nat.le_add_left _ _))
abbrev reads0_35 : Fin grid0.rank → Bool := ![true]

abbrev stage0_36 : Fin 2 → Memref sig .tc .vmem S1x1x10 .f32 := fun | 0 => Memref.whole cc0_stg36_0 | 1 => Memref.whole cc0_stg36_1 | ⟨_ + 2, h⟩ => absurd h (Nat.not_lt.2 (Nat.le_add_left _ _))
abbrev sem0_36 : Fin 2 → DmaSem sig := fun | 0 => cc0_sem36_0 | 1 => cc0_sem36_1 | ⟨_ + 2, h⟩ => absurd h (Nat.not_lt.2 (Nat.le_add_left _ _))
abbrev reads0_36 : Fin grid0.rank → Bool := ![true]

abbrev stage0_37 : Fin 2 → Memref sig .tc .vmem S1x1x10 .f32 := fun | 0 => Memref.whole cc0_stg37_0 | 1 => Memref.whole cc0_stg37_1 | ⟨_ + 2, h⟩ => absurd h (Nat.not_lt.2 (Nat.le_add_left _ _))
abbrev sem0_37 : Fin 2 → DmaSem sig := fun | 0 => cc0_sem37_0 | 1 => cc0_sem37_1 | ⟨_ + 2, h⟩ => absurd h (Nat.not_lt.2 (Nat.le_add_left _ _))
abbrev reads0_37 : Fin grid0.rank → Bool := ![true]

abbrev stage0_38 : Fin 2 → Memref sig .tc .vmem S1x1x10 .f32 := fun | 0 => Memref.whole cc0_stg38_0 | 1 => Memref.whole cc0_stg38_1 | ⟨_ + 2, h⟩ => absurd h (Nat.not_lt.2 (Nat.le_add_left _ _))
abbrev sem0_38 : Fin 2 → DmaSem sig := fun | 0 => cc0_sem38_0 | 1 => cc0_sem38_1 | ⟨_ + 2, h⟩ => absurd h (Nat.not_lt.2 (Nat.le_add_left _ _))
abbrev reads0_38 : Fin grid0.rank → Bool := ![true]

abbrev stage0_39 : Fin 2 → Memref sig .tc .vmem S1x1x10 .f32 := fun | 0 => Memref.whole cc0_stg39_0 | 1 => Memref.whole cc0_stg39_1 | ⟨_ + 2, h⟩ => absurd h (Nat.not_lt.2 (Nat.le_add_left _ _))
abbrev sem0_39 : Fin 2 → DmaSem sig := fun | 0 => cc0_sem39_0 | 1 => cc0_sem39_1 | ⟨_ + 2, h⟩ => absurd h (Nat.not_lt.2 (Nat.le_add_left _ _))
abbrev reads0_39 : Fin grid0.rank → Bool := ![true]

abbrev stage0_40 : Fin 2 → Memref sig .tc .vmem S1x1x10 .f32 := fun | 0 => Memref.whole cc0_stg40_0 | 1 => Memref.whole cc0_stg40_1 | ⟨_ + 2, h⟩ => absurd h (Nat.not_lt.2 (Nat.le_add_left _ _))
abbrev sem0_40 : Fin 2 → DmaSem sig := fun | 0 => cc0_sem40_0 | 1 => cc0_sem40_1 | ⟨_ + 2, h⟩ => absurd h (Nat.not_lt.2 (Nat.le_add_left _ _))
abbrev reads0_40 : Fin grid0.rank → Bool := ![true]

abbrev stage0_41 : Fin 2 → Memref sig .tc .vmem S1x1x10 .f32 := fun | 0 => Memref.whole cc0_stg41_0 | 1 => Memref.whole cc0_stg41_1 | ⟨_ + 2, h⟩ => absurd h (Nat.not_lt.2 (Nat.le_add_left _ _))
abbrev sem0_41 : Fin 2 → DmaSem sig := fun | 0 => cc0_sem41_0 | 1 => cc0_sem41_1 | ⟨_ + 2, h⟩ => absurd h (Nat.not_lt.2 (Nat.le_add_left _ _))
abbrev reads0_41 : Fin grid0.rank → Bool := ![true]

abbrev stage0_42 : Fin 2 → Memref sig .tc .vmem S1x1x10 .f32 := fun | 0 => Memref.whole cc0_stg42_0 | 1 => Memref.whole cc0_stg42_1 | ⟨_ + 2, h⟩ => absurd h (Nat.not_lt.2 (Nat.le_add_left _ _))
abbrev sem0_42 : Fin 2 → DmaSem sig := fun | 0 => cc0_sem42_0 | 1 => cc0_sem42_1 | ⟨_ + 2, h⟩ => absurd h (Nat.not_lt.2 (Nat.le_add_left _ _))
abbrev reads0_42 : Fin grid0.rank → Bool := ![true]

abbrev stage0_43 : Fin 2 → Memref sig .tc .vmem S1x1x10 .f32 := fun | 0 => Memref.whole cc0_stg43_0 | 1 => Memref.whole cc0_stg43_1 | ⟨_ + 2, h⟩ => absurd h (Nat.not_lt.2 (Nat.le_add_left _ _))
abbrev sem0_43 : Fin 2 → DmaSem sig := fun | 0 => cc0_sem43_0 | 1 => cc0_sem43_1 | ⟨_ + 2, h⟩ => absurd h (Nat.not_lt.2 (Nat.le_add_left _ _))
abbrev reads0_43 : Fin grid0.rank → Bool := ![true]

abbrev stage0_44 : Fin 2 → Memref sig .tc .vmem S1x1x10 .f32 := fun | 0 => Memref.whole cc0_stg44_0 | 1 => Memref.whole cc0_stg44_1 | ⟨_ + 2, h⟩ => absurd h (Nat.not_lt.2 (Nat.le_add_left _ _))
abbrev sem0_44 : Fin 2 → DmaSem sig := fun | 0 => cc0_sem44_0 | 1 => cc0_sem44_1 | ⟨_ + 2, h⟩ => absurd h (Nat.not_lt.2 (Nat.le_add_left _ _))
abbrev reads0_44 : Fin grid0.rank → Bool := ![true]

abbrev stage0_45 : Fin 2 → Memref sig .tc .vmem S1x1x10 .f32 := fun | 0 => Memref.whole cc0_stg45_0 | 1 => Memref.whole cc0_stg45_1 | ⟨_ + 2, h⟩ => absurd h (Nat.not_lt.2 (Nat.le_add_left _ _))
abbrev sem0_45 : Fin 2 → DmaSem sig := fun | 0 => cc0_sem45_0 | 1 => cc0_sem45_1 | ⟨_ + 2, h⟩ => absurd h (Nat.not_lt.2 (Nat.le_add_left _ _))
abbrev reads0_45 : Fin grid0.rank → Bool := ![true]

abbrev stage0_46 : Fin 2 → Memref sig .tc .vmem S1x1x10 .f32 := fun | 0 => Memref.whole cc0_stg46_0 | 1 => Memref.whole cc0_stg46_1 | ⟨_ + 2, h⟩ => absurd h (Nat.not_lt.2 (Nat.le_add_left _ _))
abbrev sem0_46 : Fin 2 → DmaSem sig := fun | 0 => cc0_sem46_0 | 1 => cc0_sem46_1 | ⟨_ + 2, h⟩ => absurd h (Nat.not_lt.2 (Nat.le_add_left _ _))
abbrev reads0_46 : Fin grid0.rank → Bool := ![true]

abbrev stage0_47 : Fin 2 → Memref sig .tc .vmem S1x1x10 .f32 := fun | 0 => Memref.whole cc0_stg47_0 | 1 => Memref.whole cc0_stg47_1 | ⟨_ + 2, h⟩ => absurd h (Nat.not_lt.2 (Nat.le_add_left _ _))
abbrev sem0_47 : Fin 2 → DmaSem sig := fun | 0 => cc0_sem47_0 | 1 => cc0_sem47_1 | ⟨_ + 2, h⟩ => absurd h (Nat.not_lt.2 (Nat.le_add_left _ _))
abbrev reads0_47 : Fin grid0.rank → Bool := ![true]

abbrev stage0_48 : Fin 2 → Memref sig .tc .vmem S1x1x10 .f32 := fun | 0 => Memref.whole cc0_stg48_0 | 1 => Memref.whole cc0_stg48_1 | ⟨_ + 2, h⟩ => absurd h (Nat.not_lt.2 (Nat.le_add_left _ _))
abbrev sem0_48 : Fin 2 → DmaSem sig := fun | 0 => cc0_sem48_0 | 1 => cc0_sem48_1 | ⟨_ + 2, h⟩ => absurd h (Nat.not_lt.2 (Nat.le_add_left _ _))
abbrev reads0_48 : Fin grid0.rank → Bool := ![true]

abbrev stage0_49 : Fin 2 → Memref sig .tc .vmem S1x1x10 .f32 := fun | 0 => Memref.whole cc0_stg49_0 | 1 => Memref.whole cc0_stg49_1 | ⟨_ + 2, h⟩ => absurd h (Nat.not_lt.2 (Nat.le_add_left _ _))
abbrev sem0_49 : Fin 2 → DmaSem sig := fun | 0 => cc0_sem49_0 | 1 => cc0_sem49_1 | ⟨_ + 2, h⟩ => absurd h (Nat.not_lt.2 (Nat.le_add_left _ _))
abbrev reads0_49 : Fin grid0.rank → Bool := ![true]

abbrev stage0_50 : Fin 2 → Memref sig .tc .vmem S1x1x10 .f32 := fun | 0 => Memref.whole cc0_stg50_0 | 1 => Memref.whole cc0_stg50_1 | ⟨_ + 2, h⟩ => absurd h (Nat.not_lt.2 (Nat.le_add_left _ _))
abbrev sem0_50 : Fin 2 → DmaSem sig := fun | 0 => cc0_sem50_0 | 1 => cc0_sem50_1 | ⟨_ + 2, h⟩ => absurd h (Nat.not_lt.2 (Nat.le_add_left _ _))
abbrev reads0_50 : Fin grid0.rank → Bool := ![true]

abbrev stage0_51 : Fin 2 → Memref sig .tc .vmem S1x1x10 .f32 := fun | 0 => Memref.whole cc0_stg51_0 | 1 => Memref.whole cc0_stg51_1 | ⟨_ + 2, h⟩ => absurd h (Nat.not_lt.2 (Nat.le_add_left _ _))
abbrev sem0_51 : Fin 2 → DmaSem sig := fun | 0 => cc0_sem51_0 | 1 => cc0_sem51_1 | ⟨_ + 2, h⟩ => absurd h (Nat.not_lt.2 (Nat.le_add_left _ _))
abbrev reads0_51 : Fin grid0.rank → Bool := ![true]

abbrev stage0_52 : Fin 2 → Memref sig .tc .vmem S1x1x10 .f32 := fun | 0 => Memref.whole cc0_stg52_0 | 1 => Memref.whole cc0_stg52_1 | ⟨_ + 2, h⟩ => absurd h (Nat.not_lt.2 (Nat.le_add_left _ _))
abbrev sem0_52 : Fin 2 → DmaSem sig := fun | 0 => cc0_sem52_0 | 1 => cc0_sem52_1 | ⟨_ + 2, h⟩ => absurd h (Nat.not_lt.2 (Nat.le_add_left _ _))
abbrev reads0_52 : Fin grid0.rank → Bool := ![true]

abbrev stage0_53 : Fin 2 → Memref sig .tc .vmem S1x1x10 .f32 := fun | 0 => Memref.whole cc0_stg53_0 | 1 => Memref.whole cc0_stg53_1 | ⟨_ + 2, h⟩ => absurd h (Nat.not_lt.2 (Nat.le_add_left _ _))
abbrev sem0_53 : Fin 2 → DmaSem sig := fun | 0 => cc0_sem53_0 | 1 => cc0_sem53_1 | ⟨_ + 2, h⟩ => absurd h (Nat.not_lt.2 (Nat.le_add_left _ _))
abbrev reads0_53 : Fin grid0.rank → Bool := ![true]

abbrev stage0_54 : Fin 2 → Memref sig .tc .vmem S1x1x10 .f32 := fun | 0 => Memref.whole cc0_stg54_0 | 1 => Memref.whole cc0_stg54_1 | ⟨_ + 2, h⟩ => absurd h (Nat.not_lt.2 (Nat.le_add_left _ _))
abbrev sem0_54 : Fin 2 → DmaSem sig := fun | 0 => cc0_sem54_0 | 1 => cc0_sem54_1 | ⟨_ + 2, h⟩ => absurd h (Nat.not_lt.2 (Nat.le_add_left _ _))
abbrev reads0_54 : Fin grid0.rank → Bool := ![true]

abbrev stage0_55 : Fin 2 → Memref sig .tc .vmem S1x1x10 .f32 := fun | 0 => Memref.whole cc0_stg55_0 | 1 => Memref.whole cc0_stg55_1 | ⟨_ + 2, h⟩ => absurd h (Nat.not_lt.2 (Nat.le_add_left _ _))
abbrev sem0_55 : Fin 2 → DmaSem sig := fun | 0 => cc0_sem55_0 | 1 => cc0_sem55_1 | ⟨_ + 2, h⟩ => absurd h (Nat.not_lt.2 (Nat.le_add_left _ _))
abbrev reads0_55 : Fin grid0.rank → Bool := ![true]

abbrev stage0_56 : Fin 2 → Memref sig .tc .vmem S1x1x10 .f32 := fun | 0 => Memref.whole cc0_stg56_0 | 1 => Memref.whole cc0_stg56_1 | ⟨_ + 2, h⟩ => absurd h (Nat.not_lt.2 (Nat.le_add_left _ _))
abbrev sem0_56 : Fin 2 → DmaSem sig := fun | 0 => cc0_sem56_0 | 1 => cc0_sem56_1 | ⟨_ + 2, h⟩ => absurd h (Nat.not_lt.2 (Nat.le_add_left _ _))
abbrev reads0_56 : Fin grid0.rank → Bool := ![true]

abbrev stage0_57 : Fin 2 → Memref sig .tc .vmem S1x1x10 .f32 := fun | 0 => Memref.whole cc0_stg57_0 | 1 => Memref.whole cc0_stg57_1 | ⟨_ + 2, h⟩ => absurd h (Nat.not_lt.2 (Nat.le_add_left _ _))
abbrev sem0_57 : Fin 2 → DmaSem sig := fun | 0 => cc0_sem57_0 | 1 => cc0_sem57_1 | ⟨_ + 2, h⟩ => absurd h (Nat.not_lt.2 (Nat.le_add_left _ _))
abbrev reads0_57 : Fin grid0.rank → Bool := ![true]

abbrev stage0_58 : Fin 2 → Memref sig .tc .vmem S1x1x10 .f32 := fun | 0 => Memref.whole cc0_stg58_0 | 1 => Memref.whole cc0_stg58_1 | ⟨_ + 2, h⟩ => absurd h (Nat.not_lt.2 (Nat.le_add_left _ _))
abbrev sem0_58 : Fin 2 → DmaSem sig := fun | 0 => cc0_sem58_0 | 1 => cc0_sem58_1 | ⟨_ + 2, h⟩ => absurd h (Nat.not_lt.2 (Nat.le_add_left _ _))
abbrev reads0_58 : Fin grid0.rank → Bool := ![true]

abbrev stage0_59 : Fin 2 → Memref sig .tc .vmem S1x1x10 .f32 := fun | 0 => Memref.whole cc0_stg59_0 | 1 => Memref.whole cc0_stg59_1 | ⟨_ + 2, h⟩ => absurd h (Nat.not_lt.2 (Nat.le_add_left _ _))
abbrev sem0_59 : Fin 2 → DmaSem sig := fun | 0 => cc0_sem59_0 | 1 => cc0_sem59_1 | ⟨_ + 2, h⟩ => absurd h (Nat.not_lt.2 (Nat.le_add_left _ _))
abbrev reads0_59 : Fin grid0.rank → Bool := ![true]

abbrev stage0_60 : Fin 2 → Memref sig .tc .vmem S1x1x10 .f32 := fun | 0 => Memref.whole cc0_stg60_0 | 1 => Memref.whole cc0_stg60_1 | ⟨_ + 2, h⟩ => absurd h (Nat.not_lt.2 (Nat.le_add_left _ _))
abbrev sem0_60 : Fin 2 → DmaSem sig := fun | 0 => cc0_sem60_0 | 1 => cc0_sem60_1 | ⟨_ + 2, h⟩ => absurd h (Nat.not_lt.2 (Nat.le_add_left _ _))
abbrev reads0_60 : Fin grid0.rank → Bool := ![true]

abbrev stage0_61 : Fin 2 → Memref sig .tc .vmem S1x1x10 .f32 := fun | 0 => Memref.whole cc0_stg61_0 | 1 => Memref.whole cc0_stg61_1 | ⟨_ + 2, h⟩ => absurd h (Nat.not_lt.2 (Nat.le_add_left _ _))
abbrev sem0_61 : Fin 2 → DmaSem sig := fun | 0 => cc0_sem61_0 | 1 => cc0_sem61_1 | ⟨_ + 2, h⟩ => absurd h (Nat.not_lt.2 (Nat.le_add_left _ _))
abbrev reads0_61 : Fin grid0.rank → Bool := ![true]

abbrev stage0_62 : Fin 2 → Memref sig .tc .vmem S1x1x10 .f32 := fun | 0 => Memref.whole cc0_stg62_0 | 1 => Memref.whole cc0_stg62_1 | ⟨_ + 2, h⟩ => absurd h (Nat.not_lt.2 (Nat.le_add_left _ _))
abbrev sem0_62 : Fin 2 → DmaSem sig := fun | 0 => cc0_sem62_0 | 1 => cc0_sem62_1 | ⟨_ + 2, h⟩ => absurd h (Nat.not_lt.2 (Nat.le_add_left _ _))
abbrev reads0_62 : Fin grid0.rank → Bool := ![true]

abbrev stage0_63 : Fin 2 → Memref sig .tc .vmem S1x1x10 .f32 := fun | 0 => Memref.whole cc0_stg63_0 | 1 => Memref.whole cc0_stg63_1 | ⟨_ + 2, h⟩ => absurd h (Nat.not_lt.2 (Nat.le_add_left _ _))
abbrev sem0_63 : Fin 2 → DmaSem sig := fun | 0 => cc0_sem63_0 | 1 => cc0_sem63_1 | ⟨_ + 2, h⟩ => absurd h (Nat.not_lt.2 (Nat.le_add_left _ _))
abbrev reads0_63 : Fin grid0.rank → Bool := ![true]

abbrev stage0_64 : Fin 2 → Memref sig .tc .vmem S32x3x32x32 .f32 := fun | 0 => Memref.whole cc0_stg64_0 | 1 => Memref.whole cc0_stg64_1 | ⟨_ + 2, h⟩ => absurd h (Nat.not_lt.2 (Nat.le_add_left _ _))
abbrev sem0_64 : Fin 2 → DmaSem sig := fun | 0 => cc0_sem64_0 | 1 => cc0_sem64_1 | ⟨_ + 2, h⟩ => absurd h (Nat.not_lt.2 (Nat.le_add_left _ _))
abbrev reads0_64 : Fin grid0.rank → Bool := ![true]

abbrev stage0_65 : Fin 2 → Memref sig .tc .vmem S32x1x10 .f32 := fun | 0 => Memref.whole cc0_stg65_0 | 1 => Memref.whole cc0_stg65_1 | ⟨_ + 2, h⟩ => absurd h (Nat.not_lt.2 (Nat.le_add_left _ _))
abbrev sem0_65 : Fin 2 → DmaSem sig := fun | 0 => cc0_sem65_0 | 1 => cc0_sem65_1 | ⟨_ + 2, h⟩ => absurd h (Nat.not_lt.2 (Nat.le_add_left _ _))
abbrev reads0_65 : Fin grid0.rank → Bool := ![true]

abbrev grid1 : Pipeline.Grid := ⟨1, ![8], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S128x3x32x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S15x32x168 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x168 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S30x14x160 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x160 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S128x5x80 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![64], ![false]⟩

def cc2_transform_0 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S128x3x32x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S15x32x168 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x168 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S30x14x160 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x160 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S128x5x80 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![8], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S128x5x80 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1024x5x80 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1024x1x10 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S5x80x12 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x12 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S5x80x120 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x120 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S10x10 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x10 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S128x10 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]
-- ==== ReferenceIdeal.lean ====
abbrev S1024x3x32x32 : Shape := ⟨4, ![1024, 3, 32, 32]⟩
abbrev S50000x3x32x32 : Shape := ⟨4, ![50000, 3, 32, 32]⟩
abbrev S50000x10 : Shape := ⟨2, ![50000, 10]⟩
abbrev S6x3x5x5 : Shape := ⟨4, ![6, 3, 5, 5]⟩
abbrev S6 : Shape := ⟨1, ![6]⟩
abbrev S16x6x5x5 : Shape := ⟨4, ![16, 6, 5, 5]⟩
abbrev S16 : Shape := ⟨1, ![16]⟩
abbrev S12x400 : Shape := ⟨2, ![12, 400]⟩
abbrev S12 : Shape := ⟨1, ![12]⟩
abbrev S120x400 : Shape := ⟨2, ![120, 400]⟩
abbrev S120 : Shape := ⟨1, ![120]⟩
abbrev S10x10 : Shape := ⟨2, ![10, 10]⟩
abbrev S10 : Shape := ⟨1, ![10]⟩
abbrev S1024 : Shape := ⟨1, ![1024]⟩
abbrev S1024x8 : Shape := ⟨2, ![1024, 8]⟩
abbrev S1024x3x28x32 : Shape := ⟨4, ![1024, 3, 28, 32]⟩
abbrev S1024x3x1x28x32 : Shape := ⟨5, ![1024, 3, 1, 28, 32]⟩
abbrev S1024x3x5x28x32 : Shape := ⟨5, ![1024, 3, 5, 28, 32]⟩
abbrev S1024x3x5x28x28 : Shape := ⟨5, ![1024, 3, 5, 28, 28]⟩
abbrev S1024x3x5x1x28x28 : Shape := ⟨6, ![1024, 3, 5, 1, 28, 28]⟩
abbrev S1024x3x5x5x28x28 : Shape := ⟨6, ![1024, 3, 5, 5, 28, 28]⟩
abbrev S6x1024x28x28 : Shape := ⟨4, ![6, 1024, 28, 28]⟩
abbrev S1024x6x28x28 : Shape := ⟨4, ![1024, 6, 28, 28]⟩
abbrev S1x6x1x1 : Shape := ⟨4, ![1, 6, 1, 1]⟩
abbrev S_ : Shape := ⟨0, ![]⟩
abbrev S1024x6x14x2x14x2 : Shape := ⟨6, ![1024, 6, 14, 2, 14, 2]⟩
abbrev S1024x6x14x14 : Shape := ⟨4, ![1024, 6, 14, 14]⟩
abbrev S1024x6x10x14 : Shape := ⟨4, ![1024, 6, 10, 14]⟩
abbrev S1024x6x1x10x14 : Shape := ⟨5, ![1024, 6, 1, 10, 14]⟩
abbrev S1024x6x5x10x14 : Shape := ⟨5, ![1024, 6, 5, 10, 14]⟩
abbrev S1024x6x5x10x10 : Shape := ⟨5, ![1024, 6, 5, 10, 10]⟩
abbrev S1024x6x5x1x10x10 : Shape := ⟨6, ![1024, 6, 5, 1, 10, 10]⟩
abbrev S1024x6x5x5x10x10 : Shape := ⟨6, ![1024, 6, 5, 5, 10, 10]⟩
abbrev S16x1024x10x10 : Shape := ⟨4, ![16, 1024, 10, 10]⟩
abbrev S1024x16x10x10 : Shape := ⟨4, ![1024, 16, 10, 10]⟩
abbrev S1x16x1x1 : Shape := ⟨4, ![1, 16, 1, 1]⟩
abbrev S1024x16x5x2x5x2 : Shape := ⟨6, ![1024, 16, 5, 2, 5, 2]⟩
abbrev S1024x16x5x5 : Shape := ⟨4, ![1024, 16, 5, 5]⟩
abbrev S1024x400 : Shape := ⟨2, ![1024, 400]⟩
abbrev S400x12 : Shape := ⟨2, ![400, 12]⟩
abbrev S1024x12 : Shape := ⟨2, ![1024, 12]⟩
abbrev S1x12 : Shape := ⟨2, ![1, 12]⟩
abbrev S8192 : Shape := ⟨1, ![8192]⟩
abbrev S8192x1 : Shape := ⟨2, ![8192, 1]⟩
abbrev S8192x3x32x32 : Shape := ⟨4, ![8192, 3, 32, 32]⟩
abbrev S8192x3x28x32 : Shape := ⟨4, ![8192, 3, 28, 32]⟩
abbrev S8192x3x1x28x32 : Shape := ⟨5, ![8192, 3, 1, 28, 32]⟩
abbrev S8192x3x5x28x32 : Shape := ⟨5, ![8192, 3, 5, 28, 32]⟩
abbrev S8192x3x5x28x28 : Shape := ⟨5, ![8192, 3, 5, 28, 28]⟩
abbrev S8192x3x5x1x28x28 : Shape := ⟨6, ![8192, 3, 5, 1, 28, 28]⟩
abbrev S8192x3x5x5x28x28 : Shape := ⟨6, ![8192, 3, 5, 5, 28, 28]⟩
abbrev S6x8192x28x28 : Shape := ⟨4, ![6, 8192, 28, 28]⟩
abbrev S8192x6x28x28 : Shape := ⟨4, ![8192, 6, 28, 28]⟩
abbrev S8192x6x14x2x14x2 : Shape := ⟨6, ![8192, 6, 14, 2, 14, 2]⟩
abbrev S8192x6x14x14 : Shape := ⟨4, ![8192, 6, 14, 14]⟩
abbrev S8192x6x10x14 : Shape := ⟨4, ![8192, 6, 10, 14]⟩
abbrev S8192x6x1x10x14 : Shape := ⟨5, ![8192, 6, 1, 10, 14]⟩
abbrev S8192x6x5x10x14 : Shape := ⟨5, ![8192, 6, 5, 10, 14]⟩
abbrev S8192x6x5x10x10 : Shape := ⟨5, ![8192, 6, 5, 10, 10]⟩
abbrev S8192x6x5x1x10x10 : Shape := ⟨6, ![8192, 6, 5, 1, 10, 10]⟩
abbrev S8192x6x5x5x10x10 : Shape := ⟨6, ![8192, 6, 5, 5, 10, 10]⟩
abbrev S16x8192x10x10 : Shape := ⟨4, ![16, 8192, 10, 10]⟩
abbrev S8192x16x10x10 : Shape := ⟨4, ![8192, 16, 10, 10]⟩
abbrev S8192x16x5x2x5x2 : Shape := ⟨6, ![8192, 16, 5, 2, 5, 2]⟩
abbrev S8192x16x5x5 : Shape := ⟨4, ![8192, 16, 5, 5]⟩
abbrev S8192x400 : Shape := ⟨2, ![8192, 400]⟩
abbrev S8192x12 : Shape := ⟨2, ![8192, 12]⟩
abbrev S1024x8x12 : Shape := ⟨3, ![1024, 8, 12]⟩
abbrev S1024x1x12 : Shape := ⟨3, ![1024, 1, 12]⟩
abbrev S400x120 : Shape := ⟨2, ![400, 120]⟩
abbrev S1024x120 : Shape := ⟨2, ![1024, 120]⟩
abbrev S1x120 : Shape := ⟨2, ![1, 120]⟩
abbrev S1024x12x10 : Shape := ⟨3, ![1024, 12, 10]⟩
abbrev S1024x8x1 : Shape := ⟨3, ![1024, 8, 1]⟩
abbrev S1024x8x10 : Shape := ⟨3, ![1024, 8, 10]⟩
abbrev S1x1x10 : Shape := ⟨3, ![1, 1, 10]⟩
abbrev S1024x1 : Shape := ⟨2, ![1024, 1]⟩
abbrev S1024x1x10 : Shape := ⟨3, ![1024, 1, 10]⟩
abbrev S1024x9x10 : Shape := ⟨3, ![1024, 9, 10]⟩
abbrev S1024x9 : Shape := ⟨2, ![1024, 9]⟩
abbrev S1024x10 : Shape := ⟨2, ![1024, 10]⟩

abbrev nBuf : Space → Nat
  | .hbm => 221
  | .vmem => 0
  | .smem => 0
  | _ => 0

abbrev hbmTy0_0 (i : Nat) : BufTy := match i % 128 with
  | 0 => ⟨S1024x3x32x32, .f32⟩
  | 1 => ⟨S50000x3x32x32, .f32⟩
  | 2 => ⟨S50000x10, .f32⟩
  | 3 => ⟨S6x3x5x5, .f32⟩
  | 4 => ⟨S6, .f32⟩
  | 5 => ⟨S16x6x5x5, .f32⟩
  | 6 => ⟨S16, .f32⟩
  | 7 => ⟨S12x400, .f32⟩
  | 8 => ⟨S12, .f32⟩
  | 9 => ⟨S120x400, .f32⟩
  | 10 => ⟨S120, .f32⟩
  | 11 => ⟨S10x10, .f32⟩
  | 12 => ⟨S10, .f32⟩
  | 13 => ⟨S1024, .i32⟩
  | 14 => ⟨S1024x8, .i32⟩
  | 15 => ⟨S1024x3x28x32, .f32⟩
  | 16 => ⟨S1024x3x28x32, .f32⟩
  | 17 => ⟨S1024x3x28x32, .f32⟩
  | 18 => ⟨S1024x3x28x32, .f32⟩
  | 19 => ⟨S1024x3x28x32, .f32⟩
  | 20 => ⟨S1024x3x1x28x32, .f32⟩
  | 21 => ⟨S1024x3x1x28x32, .f32⟩
  | 22 => ⟨S1024x3x1x28x32, .f32⟩
  | 23 => ⟨S1024x3x1x28x32, .f32⟩
  | 24 => ⟨S1024x3x1x28x32, .f32⟩
  | 25 => ⟨S1024x3x5x28x32, .f32⟩
  | 26 => ⟨S1024x3x5x28x28, .f32⟩
  | 27 => ⟨S1024x3x5x28x28, .f32⟩
  | 28 => ⟨S1024x3x5x28x28, .f32⟩
  | 29 => ⟨S1024x3x5x28x28, .f32⟩
  | 30 => ⟨S1024x3x5x28x28, .f32⟩
  | 31 => ⟨S1024x3x5x1x28x28, .f32⟩
  | 32 => ⟨S1024x3x5x1x28x28, .f32⟩
  | 33 => ⟨S1024x3x5x1x28x28, .f32⟩
  | 34 => ⟨S1024x3x5x1x28x28, .f32⟩
  | 35 => ⟨S1024x3x5x1x28x28, .f32⟩
  | 36 => ⟨S1024x3x5x5x28x28, .f32⟩
  | 37 => ⟨S6x1024x28x28, .f32⟩
  | 38 => ⟨S1024x6x28x28, .f32⟩
  | 39 => ⟨S1x6x1x1, .f32⟩
  | 40 => ⟨S1024x6x28x28, .f32⟩
  | 41 => ⟨S1024x6x28x28, .f32⟩
  | 42 => ⟨S_, .f32⟩
  | 43 => ⟨S1024x6x28x28, .f32⟩
  | 44 => ⟨S1024x6x28x28, .f32⟩
  | 45 => ⟨S1024x6x14x2x14x2, .f32⟩
  | 46 => ⟨S_, .f32⟩
  | 47 => ⟨S1024x6x14x14, .f32⟩
  | 48 => ⟨S1024x6x10x14, .f32⟩
  | 49 => ⟨S1024x6x10x14, .f32⟩
  | 50 => ⟨S1024x6x10x14, .f32⟩
  | 51 => ⟨S1024x6x10x14, .f32⟩
  | 52 => ⟨S1024x6x10x14, .f32⟩
  | 53 => ⟨S1024x6x1x10x14, .f32⟩
  | 54 => ⟨S1024x6x1x10x14, .f32⟩
  | 55 => ⟨S1024x6x1x10x14, .f32⟩
  | 56 => ⟨S1024x6x1x10x14, .f32⟩
  | 57 => ⟨S1024x6x1x10x14, .f32⟩
  | 58 => ⟨S1024x6x5x10x14, .f32⟩
  | 59 => ⟨S1024x6x5x10x10, .f32⟩
  | 60 => ⟨S1024x6x5x10x10, .f32⟩
  | 61 => ⟨S1024x6x5x10x10, .f32⟩
  | 62 => ⟨S1024x6x5x10x10, .f32⟩
  | 63 => ⟨S1024x6x5x10x10, .f32⟩
  | 64 => ⟨S1024x6x5x1x10x10, .f32⟩
  | 65 => ⟨S1024x6x5x1x10x10, .f32⟩
  | 66 => ⟨S1024x6x5x1x10x10, .f32⟩
  | 67 => ⟨S1024x6x5x1x10x10, .f32⟩
  | 68 => ⟨S1024x6x5x1x10x10, .f32⟩
  | 69 => ⟨S1024x6x5x5x10x10, .f32⟩
  | 70 => ⟨S16x1024x10x10, .f32⟩
  | 71 => ⟨S1024x16x10x10, .f32⟩
  | 72 => ⟨S1x16x1x1, .f32⟩
  | 73 => ⟨S1024x16x10x10, .f32⟩
  | 74 => ⟨S1024x16x10x10, .f32⟩
  | 75 => ⟨S_, .f32⟩
  | 76 => ⟨S1024x16x10x10, .f32⟩
  | 77 => ⟨S1024x16x10x10, .f32⟩
  | 78 => ⟨S1024x16x5x2x5x2, .f32⟩
  | 79 => ⟨S_, .f32⟩
  | 80 => ⟨S1024x16x5x5, .f32⟩
  | 81 => ⟨S1024x400, .f32⟩
  | 82 => ⟨S400x12, .f32⟩
  | 83 => ⟨S1024x12, .f32⟩
  | 84 => ⟨S1x12, .f32⟩
  | 85 => ⟨S1024x12, .f32⟩
  | 86 => ⟨S1024x12, .f32⟩
  | 87 => ⟨S8192, .i32⟩
  | 88 => ⟨S_, .i32⟩
  | 89 => ⟨S8192, .i32⟩
  | 90 => ⟨S8192, .i1⟩
  | 91 => ⟨S_, .i32⟩
  | 92 => ⟨S8192, .i32⟩
  | 93 => ⟨S8192, .i32⟩
  | 94 => ⟨S8192, .i32⟩
  | 95 => ⟨S8192x1, .i32⟩
  | 96 => ⟨S8192x3x32x32, .f32⟩
  | 97 => ⟨S8192x3x28x32, .f32⟩
  | 98 => ⟨S8192x3x28x32, .f32⟩
  | 99 => ⟨S8192x3x28x32, .f32⟩
  | 100 => ⟨S8192x3x28x32, .f32⟩
  | 101 => ⟨S8192x3x28x32, .f32⟩
  | 102 => ⟨S8192x3x1x28x32, .f32⟩
  | 103 => ⟨S8192x3x1x28x32, .f32⟩
  | 104 => ⟨S8192x3x1x28x32, .f32⟩
  | 105 => ⟨S8192x3x1x28x32, .f32⟩
  | 106 => ⟨S8192x3x1x28x32, .f32⟩
  | 107 => ⟨S8192x3x5x28x32, .f32⟩
  | 108 => ⟨S8192x3x5x28x28, .f32⟩
  | 109 => ⟨S8192x3x5x28x28, .f32⟩
  | 110 => ⟨S8192x3x5x28x28, .f32⟩
  | 111 => ⟨S8192x3x5x28x28, .f32⟩
  | 112 => ⟨S8192x3x5x28x28, .f32⟩
  | 113 => ⟨S8192x3x5x1x28x28, .f32⟩
  | 114 => ⟨S8192x3x5x1x28x28, .f32⟩
  | 115 => ⟨S8192x3x5x1x28x28, .f32⟩
  | 116 => ⟨S8192x3x5x1x28x28, .f32⟩
  | 117 => ⟨S8192x3x5x1x28x28, .f32⟩
  | 118 => ⟨S8192x3x5x5x28x28, .f32⟩
  | 119 => ⟨S6x8192x28x28, .f32⟩
  | 120 => ⟨S8192x6x28x28, .f32⟩
  | 121 => ⟨S1x6x1x1, .f32⟩
  | 122 => ⟨S8192x6x28x28, .f32⟩
  | 123 => ⟨S8192x6x28x28, .f32⟩
  | 124 => ⟨S_, .f32⟩
  | 125 => ⟨S8192x6x28x28, .f32⟩
  | 126 => ⟨S8192x6x28x28, .f32⟩
  | 127 => ⟨S8192x6x14x2x14x2, .f32⟩
  | _ => ⟨S1024x3x32x32, .f32⟩

abbrev hbmTy0_1 (i : Nat) : BufTy := match i % 128 with
  | 0 => ⟨S_, .f32⟩
  | 1 => ⟨S8192x6x14x14, .f32⟩
  | 2 => ⟨S8192x6x10x14, .f32⟩
  | 3 => ⟨S8192x6x10x14, .f32⟩
  | 4 => ⟨S8192x6x10x14, .f32⟩
  | 5 => ⟨S8192x6x10x14, .f32⟩
  | 6 => ⟨S8192x6x10x14, .f32⟩
  | 7 => ⟨S8192x6x1x10x14, .f32⟩
  | 8 => ⟨S8192x6x1x10x14, .f32⟩
  | 9 => ⟨S8192x6x1x10x14, .f32⟩
  | 10 => ⟨S8192x6x1x10x14, .f32⟩
  | 11 => ⟨S8192x6x1x10x14, .f32⟩
  | 12 => ⟨S8192x6x5x10x14, .f32⟩
  | 13 => ⟨S8192x6x5x10x10, .f32⟩
  | 14 => ⟨S8192x6x5x10x10, .f32⟩
  | 15 => ⟨S8192x6x5x10x10, .f32⟩
  | 16 => ⟨S8192x6x5x10x10, .f32⟩
  | 17 => ⟨S8192x6x5x10x10, .f32⟩
  | 18 => ⟨S8192x6x5x1x10x10, .f32⟩
  | 19 => ⟨S8192x6x5x1x10x10, .f32⟩
  | 20 => ⟨S8192x6x5x1x10x10, .f32⟩
  | 21 => ⟨S8192x6x5x1x10x10, .f32⟩
  | 22 => ⟨S8192x6x5x1x10x10, .f32⟩
  | 23 => ⟨S8192x6x5x5x10x10, .f32⟩
  | 24 => ⟨S16x8192x10x10, .f32⟩
  | 25 => ⟨S8192x16x10x10, .f32⟩
  | 26 => ⟨S1x16x1x1, .f32⟩
  | 27 => ⟨S8192x16x10x10, .f32⟩
  | 28 => ⟨S8192x16x10x10, .f32⟩
  | 29 => ⟨S_, .f32⟩
  | 30 => ⟨S8192x16x10x10, .f32⟩
  | 31 => ⟨S8192x16x10x10, .f32⟩
  | 32 => ⟨S8192x16x5x2x5x2, .f32⟩
  | 33 => ⟨S_, .f32⟩
  | 34 => ⟨S8192x16x5x5, .f32⟩
  | 35 => ⟨S8192x400, .f32⟩
  | 36 => ⟨S400x12, .f32⟩
  | 37 => ⟨S8192x12, .f32⟩
  | 38 => ⟨S1x12, .f32⟩
  | 39 => ⟨S8192x12, .f32⟩
  | 40 => ⟨S8192x12, .f32⟩
  | 41 => ⟨S1024x8x12, .f32⟩
  | 42 => ⟨S1024x1x12, .f32⟩
  | 43 => ⟨S1024x8x12, .f32⟩
  | 44 => ⟨S1024x8x12, .f32⟩
  | 45 => ⟨S400x120, .f32⟩
  | 46 => ⟨S1024x120, .f32⟩
  | 47 => ⟨S1x120, .f32⟩
  | 48 => ⟨S1024x120, .f32⟩
  | 49 => ⟨S1024x120, .f32⟩
  | 50 => ⟨S1024x12x10, .f32⟩
  | 51 => ⟨S_, .i32⟩
  | 52 => ⟨S1024x8, .i32⟩
  | 53 => ⟨S1024x8, .i1⟩
  | 54 => ⟨S_, .i32⟩
  | 55 => ⟨S1024x8, .i32⟩
  | 56 => ⟨S1024x8, .i32⟩
  | 57 => ⟨S1024x8, .i32⟩
  | 58 => ⟨S1024x8x1, .i32⟩
  | 59 => ⟨S1024x8x10, .f32⟩
  | 60 => ⟨S10x10, .f32⟩
  | 61 => ⟨S1024x8x10, .f32⟩
  | 62 => ⟨S1x1x10, .f32⟩
  | 63 => ⟨S1024x8x10, .f32⟩
  | 64 => ⟨S1024x8x10, .f32⟩
  | 65 => ⟨S1024x8x10, .f32⟩
  | 66 => ⟨S1024x8x10, .f32⟩
  | 67 => ⟨S1024x8x12, .f32⟩
  | 68 => ⟨S_, .f32⟩
  | 69 => ⟨S1024x8, .f32⟩
  | 70 => ⟨S1024x8, .f32⟩
  | 71 => ⟨S1024x8, .f32⟩
  | 72 => ⟨S_, .f32⟩
  | 73 => ⟨S1024, .f32⟩
  | 74 => ⟨S_, .f32⟩
  | 75 => ⟨S1024, .f32⟩
  | 76 => ⟨S1024, .f32⟩
  | 77 => ⟨S1024x1, .f32⟩
  | 78 => ⟨S1024x8, .f32⟩
  | 79 => ⟨S1024x8, .f32⟩
  | 80 => ⟨S1024x8, .f32⟩
  | 81 => ⟨S_, .f32⟩
  | 82 => ⟨S1024, .f32⟩
  | 83 => ⟨S1024x1, .f32⟩
  | 84 => ⟨S1024x8, .f32⟩
  | 85 => ⟨S1024x8, .f32⟩
  | 86 => ⟨S_, .f32⟩
  | 87 => ⟨S1024x1x10, .f32⟩
  | 88 => ⟨S1024x9x10, .f32⟩
  | 89 => ⟨S_, .f32⟩
  | 90 => ⟨S1024x1, .f32⟩
  | 91 => ⟨S1024x9, .f32⟩
  | 92 => ⟨S1024x10, .f32⟩
  | _ => ⟨S1024x3x32x32, .f32⟩

abbrev hbmTy (i : Nat) : BufTy := match i / 128 with
  | 0 => hbmTy0_0 i
  | 1 => hbmTy0_1 i
  | _ => ⟨S1024x3x32x32, .f32⟩

abbrev bufTy : (tb : Table) → Fin (tcTables nBuf tb) → BufTy
  | .hbm, ⟨i, _⟩ => hbmTy i
  | _, _ => ⟨S1024x3x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_0 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_1 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_2 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_c : Ref sig .tc := ⟨.hbm, 88, rfl⟩
abbrev main_v69 : Ref sig .tc := ⟨.hbm, 89, rfl⟩
abbrev main_v70 : Ref sig .tc := ⟨.hbm, 90, rfl⟩
abbrev main_c_3 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_cst_4 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_cst_5 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_cst_6 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_cst_7 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_v143 : Ref sig .tc := ⟨.hbm, 168, rfl⟩
abbrev main_v144 : Ref sig .tc := ⟨.hbm, 169, rfl⟩
abbrev main_v145 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩
abbrev main_v149 : Ref sig .tc := ⟨.hbm, 174, rfl⟩
abbrev main_v150 : Ref sig .tc := ⟨.hbm, 175, rfl⟩
abbrev main_v151 : Ref sig .tc := ⟨.hbm, 176, rfl⟩
abbrev main_v152 : Ref sig .tc := ⟨.hbm, 177, rfl⟩
abbrev main_v153 : Ref sig .tc := ⟨.hbm, 178, rfl⟩
abbrev main_c_8 : Ref sig .tc := ⟨.hbm, 179, rfl⟩
abbrev main_v154 : Ref sig .tc := ⟨.hbm, 180, rfl⟩
abbrev main_v155 : Ref sig .tc := ⟨.hbm, 181, rfl⟩
abbrev main_c_9 : Ref sig .tc := ⟨.hbm, 182, rfl⟩
abbrev main_v156 : Ref sig .tc := ⟨.hbm, 183, rfl⟩
abbrev main_v157 : Ref sig .tc := ⟨.hbm, 184, rfl⟩
abbrev main_v158 : Ref sig .tc := ⟨.hbm, 185, rfl⟩
abbrev main_v159 : Ref sig .tc := ⟨.hbm, 186, rfl⟩
abbrev main_v160 : Ref sig .tc := ⟨.hbm, 187, rfl⟩
abbrev main_v161 : Ref sig .tc := ⟨.hbm, 188, rfl⟩
abbrev main_v162 : Ref sig .tc := ⟨.hbm, 189, rfl⟩
abbrev main_v163 : Ref sig .tc := ⟨.hbm, 190, rfl⟩
abbrev main_v164 : Ref sig .tc := ⟨.hbm, 191, rfl⟩
abbrev main_v165 : Ref sig .tc := ⟨.hbm, 192, rfl⟩
abbrev main_v166 : Ref sig .tc := ⟨.hbm, 193, rfl⟩
abbrev main_v167 : Ref sig .tc := ⟨.hbm, 194, rfl⟩
abbrev main_call0_v0 : Ref sig .tc := ⟨.hbm, 195, rfl⟩
abbrev main_call0_cst : Ref sig .tc := ⟨.hbm, 196, rfl⟩
abbrev main_call0_v1 : Ref sig .tc := ⟨.hbm, 197, rfl⟩
abbrev main_v168 : Ref sig .tc := ⟨.hbm, 198, rfl⟩
abbrev main_v169 : Ref sig .tc := ⟨.hbm, 199, rfl⟩
abbrev main_cst_10 : Ref sig .tc := ⟨.hbm, 200, rfl⟩
abbrev main_v170 : Ref sig .tc := ⟨.hbm, 201, rfl⟩
abbrev main_cst_11 : Ref sig .tc := ⟨.hbm, 202, rfl⟩
abbrev main_v171 : Ref sig .tc := ⟨.hbm, 203, rfl⟩
abbrev main_v172 : Ref sig .tc := ⟨.hbm, 204, rfl⟩
abbrev main_v173 : Ref sig .tc := ⟨.hbm, 205, rfl⟩
abbrev main_v174 : Ref sig .tc := ⟨.hbm, 206, rfl⟩
abbrev main_v175 : Ref sig .tc := ⟨.hbm, 207, rfl⟩
abbrev main_v176 : Ref sig .tc := ⟨.hbm, 208, rfl⟩
abbrev main_cst_12 : Ref sig .tc := ⟨.hbm, 209, rfl⟩
abbrev main_v177 : Ref sig .tc := ⟨.hbm, 210, rfl⟩
abbrev main_v178 : Ref sig .tc := ⟨.hbm, 211, rfl⟩
abbrev main_v179 : Ref sig .tc := ⟨.hbm, 212, rfl⟩
abbrev main_v180 : Ref sig .tc := ⟨.hbm, 213, rfl⟩
abbrev main_cst_13 : Ref sig .tc := ⟨.hbm, 214, rfl⟩
abbrev main_v181 : Ref sig .tc := ⟨.hbm, 215, rfl⟩
abbrev main_v182 : Ref sig .tc := ⟨.hbm, 216, rfl⟩
abbrev main_cst_14 : Ref sig .tc := ⟨.hbm, 217, rfl⟩
abbrev main_v183 : Ref sig .tc := ⟨.hbm, 218, rfl⟩
abbrev main_v184 : Ref sig .tc := ⟨.hbm, 219, rfl⟩
abbrev main_v185 : Ref sig .tc := ⟨.hbm, 220, rfl⟩

abbrev nD : Nat := 1
abbrev τ : Topo := Topo.v7x

variable {F : FTy → Type} [FloatOps F]
-- ==== Proof.Ideal.Gather.lean ====
/- The gather call as the region finds it: what its body leaves in the two output buffers, the proof data of
   the pipeline, and the body's obligation at every grid point. The contents of the index table are a parameter. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Gather
variable (a : (pcfg0 (F := F)).Adm)
variable (V : (c : Dev nD) → (b : Ref sig .tc) → Buf (Elt F) ((c : Thread nD τ).loc b))

/-- Window `w`'s block at grid point `t`, read off its array as the region finds it. -/
def iblk0 (c : Dev nD) (w : Fin (cfg0 a).W) (t : Fin (cfg0 a).N) : (((cfg0 a).win w).xblock ((cfg0 a).grid.coords t)).Idx → Elt F ((cfg0 a).win w).elt :=
  (((cfg0 a).win w).blk t).view.read (Elt F) (V c (Pipeline.arrRef spec0 w))

/-- A whole image row and a whole label row, as the body loads them. -/
abbrev rImg : Rect S1x3x32x32 := Rect.unit (s := S1x3x32x32) ![0, 0, 0, 0] S1x3x32x32.size inb_S1x3x32x32_S1x3x32x32_0_0_0_0
abbrev rLab : Rect S1x1x10 := Rect.unit (s := S1x1x10) ![0, 0, 0] S1x1x10.size inb_S1x1x10_S1x1x10_0_0_0

/-- Row `g` of an output block of 32 images lies in the block. -/
theorem inb_img (g : Fin 32) : ∀ a, (![g.val, 0, 0, 0] : Fin 4 → Nat) a + S1x3x32x32.size a ≤ S32x3x32x32.size a := by
  revert g; decide
/-- Row `g` of an output block of 32 label rows lies in the block. -/
theorem inb_lab (g : Fin 32) : ∀ a, (![g.val, 0, 0] : Fin 3 → Nat) a + S1x1x10.size a ≤ S32x1x10.size a := by
  revert g; decide
/-- Row `g` of an output block of 32 rows: where the `g`-th gathered image is stored. -/
abbrev rowImg (g : Fin 32) : Rect S32x3x32x32 := Rect.unit (s := S32x3x32x32) ![g.val, 0, 0, 0] S1x3x32x32.size (inb_img g)
/-- Row `g` of an output block of 32 rows: where the `g`-th gathered label is stored. -/
abbrev rowLab (g : Fin 32) : Rect S32x1x10 := Rect.unit (s := S32x1x10) ![g.val, 0, 0] S1x1x10.size (inb_lab g)

/-- The rows, in the order that is last written first. -/
abbrev rows : List (Fin 32) := [31, 30, 29, 28, 27, 26, 25, 24, 23, 22, 21, 20, 19, 18, 17, 16, 15, 14, 13, 12, 11, 10, 9, 8, 7, 6, 5, 4, 3, 2, 1, 0]

/-- The image block after the body: the 32 stores, last first. -/
def piecesImg (x : Fin 32 → Vec F S1x3x32x32 .f32) : List (View.Piece (Elt F) S32x3x32x32 .f32) :=
  rows.map fun g => ⟨rowImg g, k0_pay2 (View.ld (x g) rImg)⟩
def out0_64 (x : Fin 32 → Vec F S1x3x32x32 .f32) : Vec F S32x3x32x32 .f32 := View.canon (piecesImg x)
/-- The label block after the body: the 32 stores, last first. -/
def piecesLab (y : Fin 32 → Vec F S1x1x10 .f32) : List (View.Piece (Elt F) S32x1x10 .f32) :=
  rows.map fun g => ⟨rowLab g, k0_pay1 (k0_pay71 (View.ld (y g) rLab))⟩
def out0_65 (y : Fin 32 → Vec F S1x1x10 .f32) : Vec F S32x1x10 .f32 := View.canon (piecesLab y)

/-- The 32 rows cover the block. -/
theorem coverImg (x : Fin 32 → Vec F S1x3x32x32 .f32) (y : S32x3x32x32.Idx) : ∃ pc ∈ piecesImg x, y ∈ pc.1.set :=
  View.cover_of_tiled (piecesImg x) S1x3x32x32.size (by rfl) y
/-- The 32 label rows cover their output block. -/
theorem coverLab (x : Fin 32 → Vec F S1x1x10 .f32) (y : S32x1x10.Idx) : ∃ pc ∈ piecesLab x, y ∈ pc.1.set :=
  View.cover_of_tiled (piecesLab x) S1x1x10.size (by rfl) y

set_option maxHeartbeats 4000000 in
/-- The body on whole buffers: the inputs stay, each output ends at its 32 stored rows. -/
theorem sound_kernel0 (c : Dev nD) (E : Set ℕ) (i : grid0.Coords) (arg1 : Memref sig .tc .smem S8192 .i32) (harg1 : arg1.IsWhole) (arg2 : Memref sig .tc .vmem S1x3x32x32 .f32) (harg2 : arg2.IsWhole) (arg3 : Memref sig .tc .vmem S1x3x32x32 .f32) (harg3 : arg3.IsWhole) (arg4 : Memref sig .tc .vmem S1x3x32x32 .f32) (harg4 : arg4.IsWhole) (arg5 : Memref sig .tc .vmem S1x3x32x32 .f32) (harg5 : arg5.IsWhole) (arg6 : Memref sig .tc .vmem S1x3x32x32 .f32) (harg6 : arg6.IsWhole) (arg7 : Memref sig .tc .vmem S1x3x32x32 .f32) (harg7 : arg7.IsWhole) (arg8 : Memref sig .tc .vmem S1x3x32x32 .f32) (harg8 : arg8.IsWhole) (arg9 : Memref sig .tc .vmem S1x3x32x32 .f32) (harg9 : arg9.IsWhole) (arg10 : Memref sig .tc .vmem S1x3x32x32 .f32) (harg10 : arg10.IsWhole) (arg11 : Memref sig .tc .vmem S1x3x32x32 .f32) (harg11 : arg11.IsWhole) (arg12 : Memref sig .tc .vmem S1x3x32x32 .f32) (harg12 : arg12.IsWhole) (arg13 : Memref sig .tc .vmem S1x3x32x32 .f32) (harg13 : arg13.IsWhole) (arg14 : Memref sig .tc .vmem S1x3x32x32 .f32) (harg14 : arg14.IsWhole) (arg15 : Memref sig .tc .vmem S1x3x32x32 .f32) (harg15 : arg15.IsWhole) (arg16 : Memref sig .tc .vmem S1x3x32x32 .f32) (harg16 : arg16.IsWhole) (arg17 : Memref sig .tc .vmem S1x3x32x32 .f32) (harg17 : arg17.IsWhole) (arg18 : Memref sig .tc .vmem S1x3x32x32 .f32) (harg18 : arg18.IsWhole) (arg19 : Memref sig .tc .vmem S1x3x32x32 .f32) (harg19 : arg19.IsWhole) (arg20 : Memref sig .tc .vmem S1x3x32x32 .f32) (harg20 : arg20.IsWhole) (arg21 : Memref sig .tc .vmem S1x3x32x32 .f32) (harg21 : arg21.IsWhole) (arg22 : Memref sig .tc .vmem S1x3x32x32 .f32) (harg22 : arg22.IsWhole) (arg23 : Memref sig .tc .vmem S1x3x32x32 .f32) (harg23 : arg23.IsWhole) (arg24 : Memref sig .tc .vmem S1x3x32x32 .f32) (harg24 : arg24.IsWhole) (arg25 : Memref sig .tc .vmem S1x3x32x32 .f32) (harg25 : arg25.IsWhole) (arg26 : Memref sig .tc .vmem S1x3x32x32 .f32) (harg26 : arg26.IsWhole) (arg27 : Memref sig .tc .vmem S1x3x32x32 .f32) (harg27 : arg27.IsWhole) (arg28 : Memref sig .tc .vmem S1x3x32x32 .f32) (harg28 : arg28.IsWhole) (arg29 : Memref sig .tc .vmem S1x3x32x32 .f32) (harg29 : arg29.IsWhole) (arg30 : Memref sig .tc .vmem S1x3x32x32 .f32) (harg30 : arg30.IsWhole) (arg31 : Memref sig .tc .vmem S1x3x32x32 .f32) (harg31 : arg31.IsWhole) (arg32 : Memref sig .tc .vmem S1x3x32x32 .f32) (harg32 : arg32.IsWhole) (arg33 : Memref sig .tc .vmem S1x3x32x32 .f32) (harg33 : arg33.IsWhole) (arg34 : Memref sig .tc .vmem S1x1x10 .f32) (harg34 : arg34.IsWhole) (arg35 : Memref sig .tc .vmem S1x1x10 .f32) (harg35 : arg35.IsWhole) (arg36 : Memref sig .tc .vmem S1x1x10 .f32) (harg36 : arg36.IsWhole) (arg37 : Memref sig .tc .vmem S1x1x10 .f32) (harg37 : arg37.IsWhole) (arg38 : Memref sig .tc .vmem S1x1x10 .f32) (harg38 : arg38.IsWhole) (arg39 : Memref sig .tc .vmem S1x1x10 .f32) (harg39 : arg39.IsWhole) (arg40 : Memref sig .tc .vmem S1x1x10 .f32) (harg40 : arg40.IsWhole) (arg41 : Memref sig .tc .vmem S1x1x10 .f32) (harg41 : arg41.IsWhole) (arg42 : Memref sig .tc .vmem S1x1x10 .f32) (harg42 : arg42.IsWhole) (arg43 : Memref sig .tc .vmem S1x1x10 .f32) (harg43 : arg43.IsWhole) (arg44 : Memref sig .tc .vmem S1x1x10 .f32) (harg44 : arg44.IsWhole) (arg45 : Memref sig .tc .vmem S1x1x10 .f32) (harg45 : arg45.IsWhole) (arg46 : Memref sig .tc .vmem S1x1x10 .f32) (harg46 : arg46.IsWhole) (arg47 : Memref sig .tc .vmem S1x1x10 .f32) (harg47 : arg47.IsWhole) (arg48 : Memref sig .tc .vmem S1x1x10 .f32) (harg48 : arg48.IsWhole) (arg49 : Memref sig .tc .vmem S1x1x10 .f32) (harg49 : arg49.IsWhole) (arg50 : Memref sig .tc .vmem S1x1x10 .f32) (harg50 : arg50.IsWhole) (arg51 : Memref sig .tc .vmem S1x1x10 .f32) (harg51 : arg51.IsWhole) (arg52 : Memref sig .tc .vmem S1x1x10 .f32) (harg52 : arg52.IsWhole) (arg53 : Memref sig .tc .vmem S1x1x10 .f32) (harg53 : arg53.IsWhole) (arg54 : Memref sig .tc .vmem S1x1x10 .f32) (harg54 : arg54.IsWhole) (arg55 : Memref sig .tc .vmem S1x1x10 .f32) (harg55 : arg55.IsWhole) (arg56 : Memref sig .tc .vmem S1x1x10 .f32) (harg56 : arg56.IsWhole) (arg57 : Memref sig .tc .vmem S1x1x10 .f32) (harg57 : arg57.IsWhole) (arg58 : Memref sig .tc .vmem S1x1x10 .f32) (harg58 : arg58.IsWhole) (arg59 : Memref sig .tc .vmem S1x1x10 .f32) (harg59 : arg59.IsWhole) (arg60 : Memref sig .tc .vmem S1x1x10 .f32) (harg60 : arg60.IsWhole) (arg61 : Memref sig .tc .vmem S1x1x10 .f32) (harg61 : arg61.IsWhole) (arg62 : Memref sig .tc .vmem S1x1x10 .f32) (harg62 : arg62.IsWhole) (arg63 : Memref sig .tc .vmem S1x1x10 .f32) (harg63 : arg63.IsWhole) (arg64 : Memref sig .tc .vmem S1x1x10 .f32) (harg64 : arg64.IsWhole) (arg65 : Memref sig .tc .vmem S1x1x10 .f32) (harg65 : arg65.IsWhole) (arg66 : Memref sig .tc .vmem S32x3x32x32 .f32) (harg66 : arg66.IsWhole) (arg67 : Memref sig .tc .vmem S32x1x10 .f32) (harg67 : arg67.IsWhole)
    (x0 x1 x2 x3 x4 x5 x6 x7 x8 x9 x10 x11 x12 x13 x14 x15 x16 x17 x18 x19 x20 x21 x22 x23 x24 x25 x26 x27 x28 x29 x30 x31 : Vec F S1x3x32x32 .f32) (x32 x33 x34 x35 x36 x37 x38 x39 x40 x41 x42 x43 x44 x45 x46 x47 x48 x49 x50 x51 x52 x53 x54 x55 x56 x57 x58 x59 x60 x61 x62 x63 : Vec F S1x1x10 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare x25 ∗ owns (c : Thread nD τ) arg28 fullShare x26 ∗ owns (c : Thread nD τ) arg29 fullShare x27 ∗ owns (c : Thread nD τ) arg30 fullShare x28 ∗ owns (c : Thread nD τ) arg31 fullShare x29 ∗ owns (c : Thread nD τ) arg32 fullShare x30 ∗ owns (c : Thread nD τ) arg33 fullShare x31 ∗ owns (c : Thread nD τ) arg34 fullShare x32 ∗ owns (c : Thread nD τ) arg35 fullShare x33 ∗ owns (c : Thread nD τ) arg36 fullShare x34 ∗ owns (c : Thread nD τ) arg37 fullShare x35 ∗ owns (c : Thread nD τ) arg38 fullShare x36 ∗ owns (c : Thread nD τ) arg39 fullShare x37 ∗ owns (c : Thread nD τ) arg40 fullShare x38 ∗ owns (c : Thread nD τ) arg41 fullShare x39 ∗ owns (c : Thread nD τ) arg42 fullShare x40 ∗ owns (c : Thread nD τ) arg43 fullShare x41 ∗ owns (c : Thread nD τ) arg44 fullShare x42 ∗ owns (c : Thread nD τ) arg45 fullShare x43 ∗ owns (c : Thread nD τ) arg46 fullShare x44 ∗ owns (c : Thread nD τ) arg47 fullShare x45 ∗ owns (c : Thread nD τ) arg48 fullShare x46 ∗ owns (c : Thread nD τ) arg49 fullShare x47 ∗ owns (c : Thread nD τ) arg50 fullShare x48 ∗ owns (c : Thread nD τ) arg51 fullShare x49 ∗ owns (c : Thread nD τ) arg52 fullShare x50 ∗ owns (c : Thread nD τ) arg53 fullShare x51 ∗ owns (c : Thread nD τ) arg54 fullShare x52 ∗ owns (c : Thread nD τ) arg55 fullShare x53 ∗ owns (c : Thread nD τ) arg56 fullShare x54 ∗ owns (c : Thread nD τ) arg57 fullShare x55 ∗ owns (c : Thread nD τ) arg58 fullShare x56 ∗ owns (c : Thread nD τ) arg59 fullShare x57 ∗ owns (c : Thread nD τ) arg60 fullShare x58 ∗ owns (c : Thread nD τ) arg61 fullShare x59 ∗ owns (c : Thread nD τ) arg62 fullShare x60 ∗ owns (c : Thread nD τ) arg63 fullShare x61 ∗ owns (c : Thread nD τ) arg64 fullShare x62 ∗ owns (c : Thread nD τ) arg65 fullShare x63 ∗ (∃ d, owns (c : Thread nD τ) arg66 fullShare d) ∗ (∃ d, owns (c : Thread nD τ) arg67 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare x25 ∗ owns (c : Thread nD τ) arg28 fullShare x26 ∗ owns (c : Thread nD τ) arg29 fullShare x27 ∗ owns (c : Thread nD τ) arg30 fullShare x28 ∗ owns (c : Thread nD τ) arg31 fullShare x29 ∗ owns (c : Thread nD τ) arg32 fullShare x30 ∗ owns (c : Thread nD τ) arg33 fullShare x31 ∗ owns (c : Thread nD τ) arg34 fullShare x32 ∗ owns (c : Thread nD τ) arg35 fullShare x33 ∗ owns (c : Thread nD τ) arg36 fullShare x34 ∗ owns (c : Thread nD τ) arg37 fullShare x35 ∗ owns (c : Thread nD τ) arg38 fullShare x36 ∗ owns (c : Thread nD τ) arg39 fullShare x37 ∗ owns (c : Thread nD τ) arg40 fullShare x38 ∗ owns (c : Thread nD τ) arg41 fullShare x39 ∗ owns (c : Thread nD τ) arg42 fullShare x40 ∗ owns (c : Thread nD τ) arg43 fullShare x41 ∗ owns (c : Thread nD τ) arg44 fullShare x42 ∗ owns (c : Thread nD τ) arg45 fullShare x43 ∗ owns (c : Thread nD τ) arg46 fullShare x44 ∗ owns (c : Thread nD τ) arg47 fullShare x45 ∗ owns (c : Thread nD τ) arg48 fullShare x46 ∗ owns (c : Thread nD τ) arg49 fullShare x47 ∗ owns (c : Thread nD τ) arg50 fullShare x48 ∗ owns (c : Thread nD τ) arg51 fullShare x49 ∗ owns (c : Thread nD τ) arg52 fullShare x50 ∗ owns (c : Thread nD τ) arg53 fullShare x51 ∗ owns (c : Thread nD τ) arg54 fullShare x52 ∗ owns (c : Thread nD τ) arg55 fullShare x53 ∗ owns (c : Thread nD τ) arg56 fullShare x54 ∗ owns (c : Thread nD τ) arg57 fullShare x55 ∗ owns (c : Thread nD τ) arg58 fullShare x56 ∗ owns (c : Thread nD τ) arg59 fullShare x57 ∗ owns (c : Thread nD τ) arg60 fullShare x58 ∗ owns (c : Thread nD τ) arg61 fullShare x59 ∗ owns (c : Thread nD τ) arg62 fullShare x60 ∗ owns (c : Thread nD τ) arg63 fullShare x61 ∗ owns (c : Thread nD τ) arg64 fullShare x62 ∗ owns (c : Thread nD τ) arg65 fullShare x63 ∗ owns (c : Thread nD τ) arg66 fullShare (out0_64 ![x0, x1, x2, x3, x4, x5, x6, x7, x8, x9, x10, x11, x12, x13, x14, x15, x16, x17, x18, x19, x20, x21, x22, x23, x24, x25, x26, x27, x28, x29, x30, x31]) ∗ owns (c : Thread nD τ) arg67 fullShare (out0_65 ![x32, x33, x34, x35, x36, x37, x38, x39, x40, x41, x42, x43, x44, x45, x46, x47, x48, x49, x50, x51, x52, x53, x54, x55, x56, x57, x58, x59, x60, x61, x62, x63])) -∗ K PUnit.unit))
      ⊢ wp frame (wpE (defs₀ (F := F)) Variants.none c none) E (cc0_mad_gather i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 arg57 harg57 arg58 harg58 arg59 harg59 arg60 harg60 arg61 harg61 arg62 harg62 arg63 harg63 arg64 harg64 arg65 harg65 arg66 harg66 arg67 harg67) K := by
  simp only [cc0_mad_gather_eq_skeleton]; unfold cc0_mad_gather_skel
  simp only [k0_part14_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩, ⟨%f35, %hf35, H35⟩, ⟨%f36, %hf36, H36⟩, ⟨%f37, %hf37, H37⟩, ⟨%f38, %hf38, H38⟩, ⟨%f39, %hf39, H39⟩, ⟨%f40, %hf40, H40⟩, ⟨%f41, %hf41, H41⟩, ⟨%f42, %hf42, H42⟩, ⟨%f43, %hf43, H43⟩, ⟨%f44, %hf44, H44⟩, ⟨%f45, %hf45, H45⟩, ⟨%f46, %hf46, H46⟩, ⟨%f47, %hf47, H47⟩, ⟨%f48, %hf48, H48⟩, ⟨%f49, %hf49, H49⟩, ⟨%f50, %hf50, H50⟩, ⟨%f51, %hf51, H51⟩, ⟨%f52, %hf52, H52⟩, ⟨%f53, %hf53, H53⟩, ⟨%f54, %hf54, H54⟩, ⟨%f55, %hf55, H55⟩, ⟨%f56, %hf56, H56⟩, ⟨%f57, %hf57, H57⟩, ⟨%f58, %hf58, H58⟩, ⟨%f59, %hf59, H59⟩, ⟨%f60, %hf60, H60⟩, ⟨%f61, %hf61, H61⟩, ⟨%f62, %hf62, H62⟩, ⟨%f63, %hf63, H63⟩, ⟨%d64, %f64, -, H64⟩, ⟨%d65, %f65, -, H65⟩, Hk⟩
  subst hf0 hf1 hf2 hf3 hf4 hf5 hf6 hf7 hf8 hf9 hf10 hf11 hf12 hf13 hf14 hf15 hf16 hf17 hf18 hf19 hf20 hf21 hf22 hf23 hf24 hf25 hf26 hf27 hf28 hf29 hf30 hf31 hf32 hf33 hf34 hf35 hf36 hf37 hf38 hf39 hf40 hf41 hf42 hf43 hf44 hf45 hf46 hf47 hf48 hf49 hf50 hf51 hf52 hf53 hf54 hf55 hf56 hf57 hf58 hf59 hf60 hf61 hf62 hf63
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  isplitl [H27]
  · iexists f27; isplitr; · ipureintro; rfl
    iexact H27
  isplitl [H28]
  · iexists f28; isplitr; · ipureintro; rfl
    iexact H28
  isplitl [H29]
  · iexists f29; isplitr; · ipureintro; rfl
    iexact H29
  isplitl [H30]
  · iexists f30; isplitr; · ipureintro; rfl
    iexact H30
  isplitl [H31]
  · iexists f31; isplitr; · ipureintro; rfl
    iexact H31
  isplitl [H32]
  · iexists f32; isplitr; · ipureintro; rfl
    iexact H32
  isplitl [H33]
  · iexists f33; isplitr; · ipureintro; rfl
    iexact H33
  isplitl [H34]
  · iexists f34; isplitr; · ipureintro; rfl
    iexact H34
  isplitl [H35]
  · iexists f35; isplitr; · ipureintro; rfl
    iexact H35
  isplitl [H36]
  · iexists f36; isplitr; · ipureintro; rfl
    iexact H36
  isplitl [H37]
  · iexists f37; isplitr; · ipureintro; rfl
    iexact H37
  isplitl [H38]
  · iexists f38; isplitr; · ipureintro; rfl
    iexact H38
  isplitl [H39]
  · iexists f39; isplitr; · ipureintro; rfl
    iexact H39
  isplitl [H40]
  · iexists f40; isplitr; · ipureintro; rfl
    iexact H40
  isplitl [H41]
  · iexists f41; isplitr; · ipureintro; rfl
    iexact H41
  isplitl [H42]
  · iexists f42; isplitr; · ipureintro; rfl
    iexact H42
  isplitl [H43]
  · iexists f43; isplitr; · ipureintro; rfl
    iexact H43
  isplitl [H44]
  · iexists f44; isplitr; · ipureintro; rfl
    iexact H44
  isplitl [H45]
  · iexists f45; isplitr; · ipureintro; rfl
    iexact H45
  isplitl [H46]
  · iexists f46; isplitr; · ipureintro; rfl
    iexact H46
  isplitl [H47]
  · iexists f47; isplitr; · ipureintro; rfl
    iexact H47
  isplitl [H48]
  · iexists f48; isplitr; · ipureintro; rfl
    iexact H48
  isplitl [H49]
  · iexists f49; isplitr; · ipureintro; rfl
    iexact H49
  isplitl [H50]
  · iexists f50; isplitr; · ipureintro; rfl
    iexact H50
  isplitl [H51]
  · iexists f51; isplitr; · ipureintro; rfl
    iexact H51
  isplitl [H52]
  · iexists f52; isplitr; · ipureintro; rfl
    iexact H52
  isplitl [H53]
  · iexists f53; isplitr; · ipureintro; rfl
    iexact H53
  isplitl [H54]
  · iexists f54; isplitr; · ipureintro; rfl
    iexact H54
  isplitl [H55]
  · iexists f55; isplitr; · ipureintro; rfl
    iexact H55
  isplitl [H56]
  · iexists f56; isplitr; · ipureintro; rfl
    iexact H56
  isplitl [H57]
  · iexists f57; isplitr; · ipureintro; rfl
    iexact H57
  isplitl [H58]
  · iexists f58; isplitr; · ipureintro; rfl
    iexact H58
  isplitl [H59]
  · iexists f59; isplitr; · ipureintro; rfl
    iexact H59
  isplitl [H60]
  · iexists f60; isplitr; · ipureintro; rfl
    iexact H60
  isplitl [H61]
  · iexists f61; isplitr; · ipureintro; rfl
    iexact H61
  isplitl [H62]
  · iexists f62; isplitr; · ipureintro; rfl
    iexact H62
  isplitl [H63]
  · iexists f63; isplitr; · ipureintro; rfl
    iexact H63
  isplitl [H64]
  · iexists _; isplitr
    swap; · iexact H64
    ipureintro
    exact View.read_writes_eq_canon _ _ (piecesImg ![View.read (Elt F) arg2.view f0, View.read (Elt F) arg3.view f1, View.read (Elt F) arg4.view f2, View.read (Elt F) arg5.view f3, View.read (Elt F) arg6.view f4, View.read (Elt F) arg7.view f5, View.read (Elt F) arg8.view f6, View.read (Elt F) arg9.view f7, View.read (Elt F) arg10.view f8, View.read (Elt F) arg11.view f9, View.read (Elt F) arg12.view f10, View.read (Elt F) arg13.view f11, View.read (Elt F) arg14.view f12, View.read (Elt F) arg15.view f13, View.read (Elt F) arg16.view f14, View.read (Elt F) arg17.view f15, View.read (Elt F) arg18.view f16, View.read (Elt F) arg19.view f17, View.read (Elt F) arg20.view f18, View.read (Elt F) arg21.view f19, View.read (Elt F) arg22.view f20, View.read (Elt F) arg23.view f21, View.read (Elt F) arg24.view f22, View.read (Elt F) arg25.view f23, View.read (Elt F) arg26.view f24, View.read (Elt F) arg27.view f25, View.read (Elt F) arg28.view f26, View.read (Elt F) arg29.view f27, View.read (Elt F) arg30.view f28, View.read (Elt F) arg31.view f29, View.read (Elt F) arg32.view f30, View.read (Elt F) arg33.view f31]) (coverImg _)
  iexists _; isplitr
  swap; · iexact H65
  ipureintro
  exact View.read_writes_eq_canon _ _ (piecesLab ![View.read (Elt F) arg34.view f32, View.read (Elt F) arg35.view f33, View.read (Elt F) arg36.view f34, View.read (Elt F) arg37.view f35, View.read (Elt F) arg38.view f36, View.read (Elt F) arg39.view f37, View.read (Elt F) arg40.view f38, View.read (Elt F) arg41.view f39, View.read (Elt F) arg42.view f40, View.read (Elt F) arg43.view f41, View.read (Elt F) arg44.view f42, View.read (Elt F) arg45.view f43, View.read (Elt F) arg46.view f44, View.read (Elt F) arg47.view f45, View.read (Elt F) arg48.view f46, View.read (Elt F) arg49.view f47, View.read (Elt F) arg50.view f48, View.read (Elt F) arg51.view f49, View.read (Elt F) arg52.view f50, View.read (Elt F) arg53.view f51, View.read (Elt F) arg54.view f52, View.read (Elt F) arg55.view f53, View.read (Elt F) arg56.view f54, View.read (Elt F) arg57.view f55, View.read (Elt F) arg58.view f56, View.read (Elt F) arg59.view f57, View.read (Elt F) arg60.view f58, View.read (Elt F) arg61.view f59, View.read (Elt F) arg62.view f60, View.read (Elt F) arg63.view f61, View.read (Elt F) arg64.view f62, View.read (Elt F) arg65.view f63]) (coverLab _)

/-- The 32 image blocks and the 32 label blocks the body reads at point `t`. -/
def xs0 (c : Dev nD) (t : Fin (cfg0 a).N) : Fin 32 → Vec F S1x3x32x32 .f32 :=
  ![iblk0 a V c 0 t, iblk0 a V c 1 t, iblk0 a V c 2 t, iblk0 a V c 3 t, iblk0 a V c 4 t, iblk0 a V c 5 t, iblk0 a V c 6 t, iblk0 a V c 7 t, iblk0 a V c 8 t, iblk0 a V c 9 t, iblk0 a V c 10 t, iblk0 a V c 11 t, iblk0 a V c 12 t, iblk0 a V c 13 t, iblk0 a V c 14 t, iblk0 a V c 15 t, iblk0 a V c 16 t, iblk0 a V c 17 t, iblk0 a V c 18 t, iblk0 a V c 19 t, iblk0 a V c 20 t, iblk0 a V c 21 t, iblk0 a V c 22 t, iblk0 a V c 23 t, iblk0 a V c 24 t, iblk0 a V c 25 t, iblk0 a V c 26 t, iblk0 a V c 27 t, iblk0 a V c 28 t, iblk0 a V c 29 t, iblk0 a V c 30 t, iblk0 a V c 31 t]
def ys0 (c : Dev nD) (t : Fin (cfg0 a).N) : Fin 32 → Vec F S1x1x10 .f32 :=
  ![iblk0 a V c 32 t, iblk0 a V c 33 t, iblk0 a V c 34 t, iblk0 a V c 35 t, iblk0 a V c 36 t, iblk0 a V c 37 t, iblk0 a V c 38 t, iblk0 a V c 39 t, iblk0 a V c 40 t, iblk0 a V c 41 t, iblk0 a V c 42 t, iblk0 a V c 43 t, iblk0 a V c 44 t, iblk0 a V c 45 t, iblk0 a V c 46 t, iblk0 a V c 47 t, iblk0 a V c 48 t, iblk0 a V c 49 t, iblk0 a V c 50 t, iblk0 a V c 51 t, iblk0 a V c 52 t, iblk0 a V c 53 t, iblk0 a V c 54 t, iblk0 a V c 55 t, iblk0 a V c 56 t, iblk0 a V c 57 t, iblk0 a V c 58 t, iblk0 a V c 59 t, iblk0 a V c 60 t, iblk0 a V c 61 t, iblk0 a V c 62 t, iblk0 a V c 63 t]

/-- What the body leaves in window `w`'s buffer at point `t`: an input its block, an output its 32 rows. -/
def after0 (c : Dev nD) (w : Fin (cfg0 a).W) (t : Fin (cfg0 a).N) : ((cfg0 a).win w).block.Idx → Elt F ((cfg0 a).win w).elt :=
  if h : w = (64 : Fin 66) then by subst h; exact out0_64 (xs0 a V c t)
  else if h : w = (65 : Fin 66) then by subst h; exact out0_65 (ys0 a V c t)
  else iblk0 a V c w t

/-- The proof data: the arrays as found; each window's contents after the body; the invariant keeps the rest of the
    scoped buffers, the generator register and the index table; the input windows share their arrays. -/
def dat0 (c : Dev nD) : Dat τ (Elt F) Unit ℕ (UR sig nD τ) ℕ (cfg0 a) c where
  A w := V c (Pipeline.arrRef spec0 w)
  after w t := after0 a V c w t
  Φ _ := iprop(Pipeline.ΦA spec0 c ∗ Pipeline.prefHeld pre0 c (fun _ => fullShare) a.1)
  q w := Pipeline.shareOf spec0 w
  owed _ := 0

/-- The gather's arrays at its entry are the buffers' contents. -/
theorem A_eq0 (c : Dev nD) (w : Fin (cfg0 a).W) : (dat0 a V c).A w = V c (Pipeline.arrRef spec0 w) := by
  dsimp only [dat0]
/-- What a gather step leaves in the image block. -/
theorem after0_64 (c : Dev nD) (t : Fin (cfg0 a).N) : (dat0 a V c).after (64 : Fin 66) t = out0_64 (xs0 a V c t) := by
  dsimp only [dat0]; unfold after0; exact dif_pos rfl
/-- What a gather step leaves in the label block. -/
theorem after0_65 (c : Dev nD) (t : Fin (cfg0 a).N) : (dat0 a V c).after (65 : Fin 66) t = out0_65 (ys0 a V c t) := by
  dsimp only [dat0]; unfold after0; exact (dif_neg (show ¬ ((65 : Fin 66) = 64) by decide)).trans (dif_pos rfl)
/-- No input window is one of the last two. -/
theorem in_lt : ∀ w : Fin 66, (spec0 w).isOut = false → w ≠ 64 ∧ w ≠ 65 := by decide +kernel
/-- A gather step leaves its input blocks as they were. -/
theorem after0_in (c : Dev nD) (w : Fin (cfg0 a).W) (hw : ((cfg0 a).win w).isOut = false) (t : Fin (cfg0 a).N) :
    (dat0 a V c).after w t = iblk0 a V c w t := by
  dsimp only [dat0]; unfold after0; rw [dif_neg (in_lt w hw).1, dif_neg (in_lt w hw).2]
/-- An input window's buffer holds its block at every point, fetched there or not. -/
theorem before0_in (c : Dev nD) (w : Fin (cfg0 a).W) (hw : ((cfg0 a).win w).isOut = false) (t : Fin (cfg0 a).N) (d) :
    (dat0 a V c).before w t d = iblk0 a V c w t :=
  ((dat0 a V c).before_in_eq_fetched w hw (fun _ => rfl) (fun _ _ _ => rfl)
    (fun t => by rw [after0_in a V c w hw]; unfold Dat.blockOf iblk0; rw [A_eq0]; try rfl) t d).trans
    (by
      unfold Dat.fetched Dat.blockOf iblk0; rw [A_eq0, Pipeline.fill_of_clip_none w _ (fun _ => rfl) d (iblk0 a V c w t)]
      exact Pipeline.Window.fill_cut _ _ (iblk0 a V c w t))

/-- Owning an input window's buffer as found is owning it at its block. -/
theorem own_before (c : Dev nD) (w : Fin (cfg0 a).W) (hw : ((cfg0 a).win w).isOut = false) (t : Fin (cfg0 a).N) {d} :
    owns (Ix := Unit) (Name := ℕ) (U := UR sig nD τ) (Lvl := ℕ) (c : Thread nD τ) (((cfg0 a).win w).stage ((cfg0 a).slots t w)) fullShare ((dat0 a V c).before w t d)
      ⊢ owns (c : Thread nD τ) (((cfg0 a).win w).stage ((cfg0 a).slots t w)) fullShare (iblk0 a V c w t) := by
  rw [before0_in a V c w hw t d]

set_option maxHeartbeats 4000000 in
/-- The body at any point of the grid, from the buffers as found to the buffers as `after0` says. -/
theorem sound_body0 (c : Dev nD) (t : Fin (cfg0 a).N) :
    iprop((dat0 a V c).Φ t.castSucc ∗ (dat0 a V c).owesAt () t.castSucc
        ∗ bigSep Finset.univ fun w : Fin 66 => iprop(∃ d, owns (c : Thread nD τ) (((cfg0 a).win w).stage ((cfg0 a).slots t w)) fullShare ((dat0 a V c).before w t d)))
      ⊢ wp frame (wpE (defs₀ (F := F)) Variants.none c none) Set.univ (defs₀ (F := F) .tc (cfg0 a).body ((cfg0 a).bodyArgs t ((cfg0 a).slots t)))
        (fun _ => iprop((dat0 a V c).Φ t.succ ∗ (dat0 a V c).owesAt () t.succ
        ∗ bigSep Finset.univ fun w : Fin 66 => owns (c : Thread nD τ) (((cfg0 a).win w).stage ((cfg0 a).slots t w)) fullShare ((dat0 a V c).after w t))) := by
  rw [bigSep_W0, bigSep_W0]; unfold defs₀; rw [Defs.onTc_tc]
  rw [show (dat0 a V c).Φ t.succ = (dat0 a V c).Φ t.castSucc from rfl,
    show (dat0 a V c).owesAt () t.succ = (dat0 a V c).owesAt () t.castSucc from rfl, after0_64, after0_65,
    after0_in a V c 0 rfl t, after0_in a V c 1 rfl t, after0_in a V c 2 rfl t, after0_in a V c 3 rfl t, after0_in a V c 4 rfl t, after0_in a V c 5 rfl t, after0_in a V c 6 rfl t, after0_in a V c 7 rfl t, after0_in a V c 8 rfl t, after0_in a V c 9 rfl t, after0_in a V c 10 rfl t, after0_in a V c 11 rfl t, after0_in a V c 12 rfl t, after0_in a V c 13 rfl t, after0_in a V c 14 rfl t, after0_in a V c 15 rfl t, after0_in a V c 16 rfl t, after0_in a V c 17 rfl t, after0_in a V c 18 rfl t, after0_in a V c 19 rfl t, after0_in a V c 20 rfl t, after0_in a V c 21 rfl t, after0_in a V c 22 rfl t, after0_in a V c 23 rfl t, after0_in a V c 24 rfl t, after0_in a V c 25 rfl t, after0_in a V c 26 rfl t, after0_in a V c 27 rfl t, after0_in a V c 28 rfl t, after0_in a V c 29 rfl t, after0_in a V c 30 rfl t, after0_in a V c 31 rfl t, after0_in a V c 32 rfl t, after0_in a V c 33 rfl t, after0_in a V c 34 rfl t, after0_in a V c 35 rfl t, after0_in a V c 36 rfl t, after0_in a V c 37 rfl t, after0_in a V c 38 rfl t, after0_in a V c 39 rfl t, after0_in a V c 40 rfl t, after0_in a V c 41 rfl t, after0_in a V c 42 rfl t, after0_in a V c 43 rfl t, after0_in a V c 44 rfl t, after0_in a V c 45 rfl t, after0_in a V c 46 rfl t, after0_in a V c 47 rfl t, after0_in a V c 48 rfl t, after0_in a V c 49 rfl t, after0_in a V c 50 rfl t, after0_in a V c 51 rfl t, after0_in a V c 52 rfl t, after0_in a V c 53 rfl t, after0_in a V c 54 rfl t, after0_in a V c 55 rfl t, after0_in a V c 56 rfl t, after0_in a V c 57 rfl t, after0_in a V c 58 rfl t, after0_in a V c 59 rfl t, after0_in a V c 60 rfl t, after0_in a V c 61 rfl t, after0_in a V c 62 rfl t, after0_in a V c 63 rfl t]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩, ⟨%d37, H37⟩, ⟨%d38, H38⟩, ⟨%d39, H39⟩, ⟨%d40, H40⟩, ⟨%d41, H41⟩, ⟨%d42, H42⟩, ⟨%d43, H43⟩, ⟨%d44, H44⟩, ⟨%d45, H45⟩, ⟨%d46, H46⟩, ⟨%d47, H47⟩, ⟨%d48, H48⟩, ⟨%d49, H49⟩, ⟨%d50, H50⟩, ⟨%d51, H51⟩, ⟨%d52, H52⟩, ⟨%d53, H53⟩, ⟨%d54, H54⟩, ⟨%d55, H55⟩, ⟨%d56, H56⟩, ⟨%d57, H57⟩, ⟨%d58, H58⟩, ⟨%d59, H59⟩, ⟨%d60, H60⟩, ⟨%d61, H61⟩, ⟨%d62, H62⟩, ⟨%d63, H63⟩, ⟨%d64, H64⟩, ⟨%d65, H65⟩⟩
  iapply (sound_kernel0 c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk0 a V c 0 t) (iblk0 a V c 1 t) (iblk0 a V c 2 t) (iblk0 a V c 3 t) (iblk0 a V c 4 t) (iblk0 a V c 5 t) (iblk0 a V c 6 t) (iblk0 a V c 7 t) (iblk0 a V c 8 t) (iblk0 a V c 9 t) (iblk0 a V c 10 t) (iblk0 a V c 11 t) (iblk0 a V c 12 t) (iblk0 a V c 13 t) (iblk0 a V c 14 t) (iblk0 a V c 15 t) (iblk0 a V c 16 t) (iblk0 a V c 17 t) (iblk0 a V c 18 t) (iblk0 a V c 19 t) (iblk0 a V c 20 t) (iblk0 a V c 21 t) (iblk0 a V c 22 t) (iblk0 a V c 23 t) (iblk0 a V c 24 t) (iblk0 a V c 25 t) (iblk0 a V c 26 t) (iblk0 a V c 27 t) (iblk0 a V c 28 t) (iblk0 a V c 29 t) (iblk0 a V c 30 t) (iblk0 a V c 31 t) (iblk0 a V c 32 t) (iblk0 a V c 33 t) (iblk0 a V c 34 t) (iblk0 a V c 35 t) (iblk0 a V c 36 t) (iblk0 a V c 37 t) (iblk0 a V c 38 t) (iblk0 a V c 39 t) (iblk0 a V c 40 t) (iblk0 a V c 41 t) (iblk0 a V c 42 t) (iblk0 a V c 43 t) (iblk0 a V c 44 t) (iblk0 a V c 45 t) (iblk0 a V c 46 t) (iblk0 a V c 47 t) (iblk0 a V c 48 t) (iblk0 a V c 49 t) (iblk0 a V c 50 t) (iblk0 a V c 51 t) (iblk0 a V c 52 t) (iblk0 a V c 53 t) (iblk0 a V c 54 t) (iblk0 a V c 55 t) (iblk0 a V c 56 t) (iblk0 a V c 57 t) (iblk0 a V c 58 t) (iblk0 a V c 59 t) (iblk0 a V c 60 t) (iblk0 a V c 61 t) (iblk0 a V c 62 t) (iblk0 a V c 63 t) _)
  isplitl [H0]; · iapply (own_before a V c 0 rfl t); iexact H0
  isplitl [H1]; · iapply (own_before a V c 1 rfl t); iexact H1
  isplitl [H2]; · iapply (own_before a V c 2 rfl t); iexact H2
  isplitl [H3]; · iapply (own_before a V c 3 rfl t); iexact H3
  isplitl [H4]; · iapply (own_before a V c 4 rfl t); iexact H4
  isplitl [H5]; · iapply (own_before a V c 5 rfl t); iexact H5
  isplitl [H6]; · iapply (own_before a V c 6 rfl t); iexact H6
  isplitl [H7]; · iapply (own_before a V c 7 rfl t); iexact H7
  isplitl [H8]; · iapply (own_before a V c 8 rfl t); iexact H8
  isplitl [H9]; · iapply (own_before a V c 9 rfl t); iexact H9
  isplitl [H10]; · iapply (own_before a V c 10 rfl t); iexact H10
  isplitl [H11]; · iapply (own_before a V c 11 rfl t); iexact H11
  isplitl [H12]; · iapply (own_before a V c 12 rfl t); iexact H12
  isplitl [H13]; · iapply (own_before a V c 13 rfl t); iexact H13
  isplitl [H14]; · iapply (own_before a V c 14 rfl t); iexact H14
  isplitl [H15]; · iapply (own_before a V c 15 rfl t); iexact H15
  isplitl [H16]; · iapply (own_before a V c 16 rfl t); iexact H16
  isplitl [H17]; · iapply (own_before a V c 17 rfl t); iexact H17
  isplitl [H18]; · iapply (own_before a V c 18 rfl t); iexact H18
  isplitl [H19]; · iapply (own_before a V c 19 rfl t); iexact H19
  isplitl [H20]; · iapply (own_before a V c 20 rfl t); iexact H20
  isplitl [H21]; · iapply (own_before a V c 21 rfl t); iexact H21
  isplitl [H22]; · iapply (own_before a V c 22 rfl t); iexact H22
  isplitl [H23]; · iapply (own_before a V c 23 rfl t); iexact H23
  isplitl [H24]; · iapply (own_before a V c 24 rfl t); iexact H24
  isplitl [H25]; · iapply (own_before a V c 25 rfl t); iexact H25
  isplitl [H26]; · iapply (own_before a V c 26 rfl t); iexact H26
  isplitl [H27]; · iapply (own_before a V c 27 rfl t); iexact H27
  isplitl [H28]; · iapply (own_before a V c 28 rfl t); iexact H28
  isplitl [H29]; · iapply (own_before a V c 29 rfl t); iexact H29
  isplitl [H30]; · iapply (own_before a V c 30 rfl t); iexact H30
  isplitl [H31]; · iapply (own_before a V c 31 rfl t); iexact H31
  isplitl [H32]; · iapply (own_before a V c 32 rfl t); iexact H32
  isplitl [H33]; · iapply (own_before a V c 33 rfl t); iexact H33
  isplitl [H34]; · iapply (own_before a V c 34 rfl t); iexact H34
  isplitl [H35]; · iapply (own_before a V c 35 rfl t); iexact H35
  isplitl [H36]; · iapply (own_before a V c 36 rfl t); iexact H36
  isplitl [H37]; · iapply (own_before a V c 37 rfl t); iexact H37
  isplitl [H38]; · iapply (own_before a V c 38 rfl t); iexact H38
  isplitl [H39]; · iapply (own_before a V c 39 rfl t); iexact H39
  isplitl [H40]; · iapply (own_before a V c 40 rfl t); iexact H40
  isplitl [H41]; · iapply (own_before a V c 41 rfl t); iexact H41
  isplitl [H42]; · iapply (own_before a V c 42 rfl t); iexact H42
  isplitl [H43]; · iapply (own_before a V c 43 rfl t); iexact H43
  isplitl [H44]; · iapply (own_before a V c 44 rfl t); iexact H44
  isplitl [H45]; · iapply (own_before a V c 45 rfl t); iexact H45
  isplitl [H46]; · iapply (own_before a V c 46 rfl t); iexact H46
  isplitl [H47]; · iapply (own_before a V c 47 rfl t); iexact H47
  isplitl [H48]; · iapply (own_before a V c 48 rfl t); iexact H48
  isplitl [H49]; · iapply (own_before a V c 49 rfl t); iexact H49
  isplitl [H50]; · iapply (own_before a V c 50 rfl t); iexact H50
  isplitl [H51]; · iapply (own_before a V c 51 rfl t); iexact H51
  isplitl [H52]; · iapply (own_before a V c 52 rfl t); iexact H52
  isplitl [H53]; · iapply (own_before a V c 53 rfl t); iexact H53
  isplitl [H54]; · iapply (own_before a V c 54 rfl t); iexact H54
  isplitl [H55]; · iapply (own_before a V c 55 rfl t); iexact H55
  isplitl [H56]; · iapply (own_before a V c 56 rfl t); iexact H56
  isplitl [H57]; · iapply (own_before a V c 57 rfl t); iexact H57
  isplitl [H58]; · iapply (own_before a V c 58 rfl t); iexact H58
  isplitl [H59]; · iapply (own_before a V c 59 rfl t); iexact H59
  isplitl [H60]; · iapply (own_before a V c 60 rfl t); iexact H60
  isplitl [H61]; · iapply (own_before a V c 61 rfl t); iexact H61
  isplitl [H62]; · iapply (own_before a V c 62 rfl t); iexact H62
  isplitl [H63]; · iapply (own_before a V c 63 rfl t); iexact H63
  isplitl [H64]; · iexists _; iexact H64
  isplitl [H65]; · iexists _; iexact H65
  iintro ⟨H0, H1, H2, H3, H4, H5, H6, H7, H8, H9, H10, H11, H12, H13, H14, H15, H16, H17, H18, H19, H20, H21, H22, H23, H24, H25, H26, H27, H28, H29, H30, H31, H32, H33, H34, H35, H36, H37, H38, H39, H40, H41, H42, H43, H44, H45, H46, H47, H48, H49, H50, H51, H52, H53, H54, H55, H56, H57, H58, H59, H60, H61, H62, H63, H64, H65⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  isplitl [H41]; · iexact H41
  isplitl [H42]; · iexact H42
  isplitl [H43]; · iexact H43
  isplitl [H44]; · iexact H44
  isplitl [H45]; · iexact H45
  isplitl [H46]; · iexact H46
  isplitl [H47]; · iexact H47
  isplitl [H48]; · iexact H48
  isplitl [H49]; · iexact H49
  isplitl [H50]; · iexact H50
  isplitl [H51]; · iexact H51
  isplitl [H52]; · iexact H52
  isplitl [H53]; · iexact H53
  isplitl [H54]; · iexact H54
  isplitl [H55]; · iexact H55
  isplitl [H56]; · iexact H56
  isplitl [H57]; · iexact H57
  isplitl [H58]; · iexact H58
  isplitl [H59]; · iexact H59
  isplitl [H60]; · iexact H60
  isplitl [H61]; · iexact H61
  isplitl [H62]; · iexact H62
  isplitl [H63]; · iexact H63
  isplitl [H64]; · iexact H64
  iexact H65

/-- The body's obligation at every point. -/
theorem body_obligation0 (c : Dev nD) : BodyObligation (dat0 (F := F) a V c) (defs₀ (F := F)) Variants.none () Set.univ := fun t =>
  triple_restated (sound_body0 a V c t) rfl .rfl fun _ => .rfl

end Gather

end Cert.KernelIdeal.Run

end
-- ==== Proof.Ideal.Feat1.lean ====
/- The first featurize call (the query images) as the region finds it: what its body leaves in the output buffer, the proof data of the pipeline,
   and the body's obligation at every grid point. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 1 of @main: custom_call 1, `cc1_mad_featurize` (pipeline 1), at the entry contents `V` -/

/-! ## The windows' blocks -/

/-- Window `w`'s block at point `t`, read off its array as the region finds it (`V`). -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S128x3x32x32 := Rect.unit (s := S128x3x32x32) ![0, 0, 0, 0] S128x3x32x32.size inb_S128x3x32x32_S128x3x32x32_0_0_0_0
abbrev r1_1 : Rect S15x32x168 := Rect.unit (s := S15x32x168) ![0, 0, 0] S15x32x168.size inb_S15x32x168_S15x32x168_0_0_0
abbrev r1_2 : Rect S30x14x160 := Rect.unit (s := S30x14x160) ![0, 0, 0] S30x14x160.size inb_S30x14x160_S30x14x160_0_0_0
abbrev r1_3 : Rect S1x168 := Rect.unit (s := S1x168) ![0, 0] S1x168.size inb_S1x168_S1x168_0_0
abbrev r1_4 : Rect S1x160 := Rect.unit (s := S1x160) ![0, 0] S1x160.size inb_S1x160_S1x160_0_0
abbrev r1_5 : Rect S128x5x80 := Rect.unit (s := S128x5x80) ![0, 0, 0] S128x5x80.size inb_S128x5x80_S128x5x80_0_0_0

/-! ## What the body leaves in each output window's buffer -/

/-! ### Values of the body that the stores' payloads, spelt out, would write more than once

    Each is a vector the body binds (often a part call's result), stated over the input windows' blocks and
-/

def k1_pay18 (x0 : Vec F S128x3x32x32 .f32) (x1 : Vec F S15x32x168 .f32) (x2 : Vec F S1x168 .f32) (x3 : Vec F S30x14x160 .f32) (x4 : Vec F S1x160 .f32) : FVec F S15x32x168 .f32 :=
  k1_pay2 (View.ld x1 r1_1) -- `v2`
def k1_pay19 (x0 : Vec F S128x3x32x32 .f32) (x1 : Vec F S15x32x168 .f32) (x2 : Vec F S1x168 .f32) (x3 : Vec F S30x14x160 .f32) (x4 : Vec F S1x160 .f32) : FVec F S30x14x160 .f32 :=
  k1_pay3 (View.ld x3 r1_2) -- `v4`
def k1_pay20 (x0 : Vec F S128x3x32x32 .f32) (x1 : Vec F S15x32x168 .f32) (x2 : Vec F S1x168 .f32) (x3 : Vec F S30x14x160 .f32) (x4 : Vec F S1x160 .f32) : FVec F S3584x168 .f32 :=
  k1_pay7 (View.ld x0 r1_0) (k1_pay18 x0 x1 x2 x3 x4) (k1_pay4 (View.ld x0 r1_0) (View.ld x1 r1_1)) (k1_pay5 (View.ld x0 r1_0)) (k1_pay6 (View.ld x1 r1_1)) -- `v94`
def k1_pay21 (x0 : Vec F S128x3x32x32 .f32) (x1 : Vec F S15x32x168 .f32) (x2 : Vec F S1x168 .f32) (x3 : Vec F S30x14x160 .f32) (x4 : Vec F S1x160 .f32) : FVec F S128x1x28x32 .f32 :=
  k1_pay8 (View.ld x0 r1_0) -- `v95`
def k1_pay22 (x0 : Vec F S128x3x32x32 .f32) (x1 : Vec F S15x32x168 .f32) (x2 : Vec F S1x168 .f32) (x3 : Vec F S30x14x160 .f32) (x4 : Vec F S1x160 .f32) : FVec F S128x14x84 .f32 :=
  k1_pay9 (View.ld x0 r1_0) (k1_pay18 x0 x1 x2 x3 x4) (k1_pay20 x0 x1 x2 x3 x4) (k1_pay21 x0 x1 x2 x3 x4) (View.ld x2 r1_3) -- `v120`

/-- Window 5's staging buffer after the body, from the input windows' blocks: its 1 store as pieces, LAST
    FIRST (Lib/Pipeline/FrameBody.lean `View.canon`; the payloads are the skeleton's and the values stated above). -/
def out1_5 (x0 : Vec F S128x3x32x32 .f32) (x1 : Vec F S15x32x168 .f32) (x2 : Vec F S1x168 .f32) (x3 : Vec F S30x14x160 .f32) (x4 : Vec F S1x160 .f32) : Vec F S128x5x80 .f32 :=
  View.canon [⟨r1_5, k1_pay1 (k1_pay17 (k1_pay19 x0 x1 x2 x3 x4) (k1_pay22 x0 x1 x2 x3 x4) (k1_pay14 (k1_pay19 x0 x1 x2 x3 x4) (k1_pay22 x0 x1 x2 x3 x4) (k1_pay12 (k1_pay19 x0 x1 x2 x3 x4) (k1_pay22 x0 x1 x2 x3 x4) (k1_pay10 (View.ld x0 r1_0) (k1_pay18 x0 x1 x2 x3 x4) (k1_pay19 x0 x1 x2 x3 x4) (k1_pay20 x0 x1 x2 x3 x4) (k1_pay21 x0 x1 x2 x3 x4) (View.ld x2 r1_3)) (k1_pay11 (View.ld x0 r1_0) (k1_pay18 x0 x1 x2 x3 x4) (k1_pay20 x0 x1 x2 x3 x4) (k1_pay21 x0 x1 x2 x3 x4) (View.ld x2 r1_3))) (k1_pay13 (k1_pay19 x0 x1 x2 x3 x4) (k1_pay22 x0 x1 x2 x3 x4))) (k1_pay15 (k1_pay22 x0 x1 x2 x3 x4)) (k1_pay16 (k1_pay19 x0 x1 x2 x3 x4))) (View.ld x4 r1_4)⟩]

/-- Its stores tile the buffer (checked by evaluation), so they cover it. -/
theorem cover1_5 (p0 : Vec F S128x5x80 .f32) (y : S128x5x80.Idx) :
    ∃ pc ∈ ([⟨r1_5, p0⟩] : List (View.Piece (Elt F) S128x5x80 .f32)), y ∈ pc.1.set :=
  View.cover_of_tiled [⟨r1_5, p0⟩] S128x5x80.size (by rfl) y

/-! ## The body's triple -/

set_option maxHeartbeats 1000000 in
/-- The kernel body on whole staging memrefs, the inputs' at read contents `xW` and the outputs' at anything, runs to
    the continuation holding the inputs' as they were and each output's at `out1_W` of the inputs': the printed functions
    are their skeletons (`Gen.*_eq_skeleton`), which `sl_exec` runs (Lib/Exec.lean), through every part call. -/
theorem sound_kernel1 (c : Dev nD) (E : Set ℕ) (i : grid1.Coords) (arg1 : Memref sig .tc .vmem S128x3x32x32 .f32) (harg1 : arg1.IsWhole) (arg2 : Memref sig .tc .vmem S15x32x168 .f32) (harg2 : arg2.IsWhole) (arg3 : Memref sig .tc .vmem S1x168 .f32) (harg3 : arg3.IsWhole) (arg4 : Memref sig .tc .vmem S30x14x160 .f32) (harg4 : arg4.IsWhole) (arg5 : Memref sig .tc .vmem S1x160 .f32) (harg5 : arg5.IsWhole) (arg6 : Memref sig .tc .vmem S128x5x80 .f32) (harg6 : arg6.IsWhole)
    (x0 : Vec F S128x3x32x32 .f32) (x1 : Vec F S15x32x168 .f32) (x2 : Vec F S1x168 .f32) (x3 : Vec F S30x14x160 .f32) (x4 : Vec F S1x160 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1_mad_featurize i arg1 harg1 arg2 harg2 arg3 harg3 arg4 harg4 arg5 harg5 arg6 harg6) K := by
  simp only [cc1_mad_featurize_eq_skeleton]; unfold cc1_mad_featurize_skel
  simp only [k1_part1_eq_skeleton, k1_part2_eq_skeleton, k1_part3_eq_skeleton, k1_part4_eq_skeleton, k1_part5_eq_skeleton, k1_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  refine (View.read_writes_eq_canon _ _ _ (cover1_5 _)).trans ?_
  rfl

/-! ## The pipeline's proof data -/

/-- The proof data of pipeline 1 on core `c`: the arrays as the region finds them (`V`); after the body at
    point `t` each input's buffer at its block and each output's at `out1_W` of the input blocks; the invariant the
    class's (Lib/Pipeline/Frame.lean `ΦA`: the scoped rest and the generator register, untouched); nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V c).after 0 t = iblk1 V c 0 t := by dsimp only [dat1]
/-- What a step of the call leaves in this window's block. -/
theorem after1_1 (c : Dev nD) (t : Fin cfg1.N) : (dat1 V c).after 1 t = iblk1 V c 1 t := by dsimp only [dat1]
/-- What a step of the call leaves in this window's block. -/
theorem after1_2 (c : Dev nD) (t : Fin cfg1.N) : (dat1 V c).after 2 t = iblk1 V c 2 t := by dsimp only [dat1]
/-- What a step of the call leaves in this window's block. -/
theorem after1_3 (c : Dev nD) (t : Fin cfg1.N) : (dat1 V c).after 3 t = iblk1 V c 3 t := by dsimp only [dat1]
/-- What a step of the call leaves in this window's block. -/
theorem after1_4 (c : Dev nD) (t : Fin cfg1.N) : (dat1 V c).after 4 t = iblk1 V c 4 t := by dsimp only [dat1]
/-- What a step of the call leaves in this window's block. -/
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
/-- What a step of the call finds in this window's block. -/
theorem before1_1 (c : Dev nD) (t : Fin cfg1.N) (d) : (dat1 V c).before 1 t d = iblk1 V c 1 t :=
  before1_1_of V (dat1 V c) (A_eq1 V c 1) (after1_1 V c) t d
/-- What a step of the call finds in this window's block. -/
theorem before1_2 (c : Dev nD) (t : Fin cfg1.N) (d) : (dat1 V c).before 2 t d = iblk1 V c 2 t :=
  before1_2_of V (dat1 V c) (A_eq1 V c 2) (after1_2 V c) t d
/-- What a step of the call finds in this window's block. -/
theorem before1_3 (c : Dev nD) (t : Fin cfg1.N) (d) : (dat1 V c).before 3 t d = iblk1 V c 3 t :=
  before1_3_of V (dat1 V c) (A_eq1 V c 3) (after1_3 V c) t d
/-- What a step of the call finds in this window's block. -/
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Run

end
-- ==== Proof.Ideal.Feat2.lean ====
/- The second featurize call (the gathered images) as the region finds it: what its body leaves in the output buffer, the proof data of the pipeline,
   and the body's obligation at every grid point. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 2 of @main: custom_call 2, `cc2_mad_featurize` (pipeline 2), at the entry contents `V` -/

/-! ## The windows' blocks -/

/-- Window `w`'s block at point `t`, read off its array as the region finds it (`V`). -/
noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S128x3x32x32 := Rect.unit (s := S128x3x32x32) ![0, 0, 0, 0] S128x3x32x32.size inb_S128x3x32x32_S128x3x32x32_0_0_0_0
abbrev r2_1 : Rect S15x32x168 := Rect.unit (s := S15x32x168) ![0, 0, 0] S15x32x168.size inb_S15x32x168_S15x32x168_0_0_0
abbrev r2_2 : Rect S30x14x160 := Rect.unit (s := S30x14x160) ![0, 0, 0] S30x14x160.size inb_S30x14x160_S30x14x160_0_0_0
abbrev r2_3 : Rect S1x168 := Rect.unit (s := S1x168) ![0, 0] S1x168.size inb_S1x168_S1x168_0_0
abbrev r2_4 : Rect S1x160 := Rect.unit (s := S1x160) ![0, 0] S1x160.size inb_S1x160_S1x160_0_0
abbrev r2_5 : Rect S128x5x80 := Rect.unit (s := S128x5x80) ![0, 0, 0] S128x5x80.size inb_S128x5x80_S128x5x80_0_0_0

/-! ## What the body leaves in each output window's buffer -/

/-! ### Values of the body that the stores' payloads, spelt out, would write more than once

    Each is a vector the body binds (often a part call's result), stated over the input windows' blocks and
-/

def k2_pay19 (x0 : Vec F S128x3x32x32 .f32) (x1 : Vec F S15x32x168 .f32) (x2 : Vec F S1x168 .f32) (x3 : Vec F S30x14x160 .f32) (x4 : Vec F S1x160 .f32) : FVec F S128x3x32x32 .f32 :=
  k2_pay2 (View.ld x0 r2_0) -- `v1`
def k2_pay20 (x0 : Vec F S128x3x32x32 .f32) (x1 : Vec F S15x32x168 .f32) (x2 : Vec F S1x168 .f32) (x3 : Vec F S30x14x160 .f32) (x4 : Vec F S1x160 .f32) : FVec F S15x32x168 .f32 :=
  k2_pay3 (View.ld x1 r2_1) -- `v3`
def k2_pay21 (x0 : Vec F S128x3x32x32 .f32) (x1 : Vec F S15x32x168 .f32) (x2 : Vec F S1x168 .f32) (x3 : Vec F S30x14x160 .f32) (x4 : Vec F S1x160 .f32) : FVec F S30x14x160 .f32 :=
  k2_pay4 (View.ld x3 r2_2) -- `v5`
def k2_pay22 (x0 : Vec F S128x3x32x32 .f32) (x1 : Vec F S15x32x168 .f32) (x2 : Vec F S1x168 .f32) (x3 : Vec F S30x14x160 .f32) (x4 : Vec F S1x160 .f32) : FVec F S3584x168 .f32 :=
  k2_pay8 (k2_pay19 x0 x1 x2 x3 x4) (k2_pay20 x0 x1 x2 x3 x4) (k2_pay5 (View.ld x0 r2_0) (View.ld x1 r2_1)) (k2_pay6 (View.ld x0 r2_0)) (k2_pay7 (View.ld x1 r2_1)) -- `v95`
def k2_pay23 (x0 : Vec F S128x3x32x32 .f32) (x1 : Vec F S15x32x168 .f32) (x2 : Vec F S1x168 .f32) (x3 : Vec F S30x14x160 .f32) (x4 : Vec F S1x160 .f32) : FVec F S128x14x84 .f32 :=
  k2_pay9 (k2_pay19 x0 x1 x2 x3 x4) (k2_pay20 x0 x1 x2 x3 x4) (k2_pay22 x0 x1 x2 x3 x4) (View.ld x2 r2_3) -- `v121`

/-- Window 5's staging buffer after the body, from the input windows' blocks: its 1 store as pieces, LAST
    FIRST (Lib/Pipeline/FrameBody.lean `View.canon`; the payloads are the skeleton's and the values stated above). -/
def out2_5 (x0 : Vec F S128x3x32x32 .f32) (x1 : Vec F S15x32x168 .f32) (x2 : Vec F S1x168 .f32) (x3 : Vec F S30x14x160 .f32) (x4 : Vec F S1x160 .f32) : Vec F S128x5x80 .f32 :=
  View.canon [⟨r2_5, k2_pay1 (k2_pay17 (k2_pay21 x0 x1 x2 x3 x4) (k2_pay23 x0 x1 x2 x3 x4) (k2_pay15 (k2_pay21 x0 x1 x2 x3 x4) (k2_pay23 x0 x1 x2 x3 x4) (k2_pay12 (k2_pay21 x0 x1 x2 x3 x4) (k2_pay23 x0 x1 x2 x3 x4) (k2_pay10 (k2_pay19 x0 x1 x2 x3 x4) (k2_pay20 x0 x1 x2 x3 x4) (k2_pay21 x0 x1 x2 x3 x4) (k2_pay22 x0 x1 x2 x3 x4) (View.ld x2 r2_3)) (k2_pay11 (k2_pay19 x0 x1 x2 x3 x4) (k2_pay20 x0 x1 x2 x3 x4) (k2_pay22 x0 x1 x2 x3 x4) (View.ld x2 r2_3))) (k2_pay13 (k2_pay23 x0 x1 x2 x3 x4)) (k2_pay14 (k2_pay21 x0 x1 x2 x3 x4)) (constant S1280x160 .f32 0x00000000#32)) (k2_pay16 (k2_pay23 x0 x1 x2 x3 x4))) (k2_pay18 (k2_pay21 x0 x1 x2 x3 x4) (k2_pay23 x0 x1 x2 x3 x4)) (View.ld x4 r2_4)⟩]

/-- Its stores tile the buffer (checked by evaluation), so they cover it. -/
theorem cover2_5 (p0 : Vec F S128x5x80 .f32) (y : S128x5x80.Idx) :
    ∃ pc ∈ ([⟨r2_5, p0⟩] : List (View.Piece (Elt F) S128x5x80 .f32)), y ∈ pc.1.set :=
  View.cover_of_tiled [⟨r2_5, p0⟩] S128x5x80.size (by rfl) y

/-! ## The body's triple -/

set_option maxHeartbeats 1000000 in
/-- The kernel body on whole staging memrefs, the inputs' at read contents `xW` and the outputs' at anything, runs to
    the continuation holding the inputs' as they were and each output's at `out2_W` of the inputs': the printed functions
    are their skeletons (`Gen.*_eq_skeleton`), which `sl_exec` runs (Lib/Exec.lean), through every part call. -/
theorem sound_kernel2 (c : Dev nD) (E : Set ℕ) (i : grid2.Coords) (arg1 : Memref sig .tc .vmem S128x3x32x32 .f32) (harg1 : arg1.IsWhole) (arg2 : Memref sig .tc .vmem S15x32x168 .f32) (harg2 : arg2.IsWhole) (arg3 : Memref sig .tc .vmem S1x168 .f32) (harg3 : arg3.IsWhole) (arg4 : Memref sig .tc .vmem S30x14x160 .f32) (harg4 : arg4.IsWhole) (arg5 : Memref sig .tc .vmem S1x160 .f32) (harg5 : arg5.IsWhole) (arg6 : Memref sig .tc .vmem S128x5x80 .f32) (harg6 : arg6.IsWhole)
    (x0 : Vec F S128x3x32x32 .f32) (x1 : Vec F S15x32x168 .f32) (x2 : Vec F S1x168 .f32) (x3 : Vec F S30x14x160 .f32) (x4 : Vec F S1x160 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2_5 x0 x1 x2 x3 x4)) -∗ K ⟨⟩))
      ⊢ wp frame (wpE (defs₀ (F := F)) Variants.none c none) E (cc2_mad_featurize i arg1 harg1 arg2 harg2 arg3 harg3 arg4 harg4 arg5 harg5 arg6 harg6) K := by
  simp only [cc2_mad_featurize_eq_skeleton]; unfold cc2_mad_featurize_skel
  simp only [k2_part1_eq_skeleton, k2_part2_eq_skeleton, k2_part3_eq_skeleton, k2_part4_eq_skeleton, k2_part5_eq_skeleton, k2_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  refine (View.read_writes_eq_canon _ _ _ (cover2_5 _)).trans ?_
  rfl

/-! ## The pipeline's proof data -/

/-- The proof data of pipeline 2 on core `c`: the arrays as the region finds them (`V`); after the body at
    point `t` each input's buffer at its block and each output's at `out2_W` of the input blocks; the invariant the
    class's (Lib/Pipeline/Frame.lean `ΦA`: the scoped rest and the generator register, untouched); nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- What the body leaves, window by window (the proof data's `match` reduced by `dsimp`, never `rfl`: Lib/Pipeline.lean `Dat`). -/
theorem after2_0 (c : Dev nD) (t : Fin cfg2.N) : (dat2 V c).after 0 t = iblk2 V c 0 t := by dsimp only [dat2]
/-- What a step of the call leaves in this window's block. -/
theorem after2_1 (c : Dev nD) (t : Fin cfg2.N) : (dat2 V c).after 1 t = iblk2 V c 1 t := by dsimp only [dat2]
/-- What a step of the call leaves in this window's block. -/
theorem after2_2 (c : Dev nD) (t : Fin cfg2.N) : (dat2 V c).after 2 t = iblk2 V c 2 t := by dsimp only [dat2]
/-- What a step of the call leaves in this window's block. -/
theorem after2_3 (c : Dev nD) (t : Fin cfg2.N) : (dat2 V c).after 3 t = iblk2 V c 3 t := by dsimp only [dat2]
/-- What a step of the call leaves in this window's block. -/
theorem after2_4 (c : Dev nD) (t : Fin cfg2.N) : (dat2 V c).after 4 t = iblk2 V c 4 t := by dsimp only [dat2]
/-- What a step of the call leaves in this window's block. -/
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
/-- What a step of the call finds in this window's block. -/
theorem before2_1 (c : Dev nD) (t : Fin cfg2.N) (d) : (dat2 V c).before 1 t d = iblk2 V c 1 t :=
  before2_1_of V (dat2 V c) (A_eq2 V c 1) (after2_1 V c) t d
/-- What a step of the call finds in this window's block. -/
theorem before2_2 (c : Dev nD) (t : Fin cfg2.N) (d) : (dat2 V c).before 2 t d = iblk2 V c 2 t :=
  before2_2_of V (dat2 V c) (A_eq2 V c 2) (after2_2 V c) t d
/-- What a step of the call finds in this window's block. -/
theorem before2_3 (c : Dev nD) (t : Fin cfg2.N) (d) : (dat2 V c).before 3 t d = iblk2 V c 3 t :=
  before2_3_of V (dat2 V c) (A_eq2 V c 3) (after2_3 V c) t d
/-- What a step of the call finds in this window's block. -/
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks (`before2_W`), so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Regions

end Cert.KernelIdeal.Run

end
-- ==== Proof.Ideal.Combine.lean ====
/- The combine call as the region finds it: what its body leaves in the output buffer, the proof data of the pipeline,
   and the body's obligation at every grid point. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 3 of @main: custom_call 3, `cc3_mad_combine` (pipeline 3), at the entry contents `V` -/

/-! ## The windows' blocks -/

/-- Window `w`'s block at point `t`, read off its array as the region finds it (`V`). -/
noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S128x5x80 := Rect.unit (s := S128x5x80) ![0, 0, 0] S128x5x80.size inb_S128x5x80_S128x5x80_0_0_0
abbrev r3_1 : Rect S1024x5x80 := Rect.unit (s := S1024x5x80) ![0, 0, 0] S1024x5x80.size inb_S1024x5x80_S1024x5x80_0_0_0
abbrev r3_2 : Rect S5x80x12 := Rect.unit (s := S5x80x12) ![0, 0, 0] S5x80x12.size inb_S5x80x12_S5x80x12_0_0_0
abbrev r3_3 : Rect S5x80x120 := Rect.unit (s := S5x80x120) ![0, 0, 0] S5x80x120.size inb_S5x80x120_S5x80x120_0_0_0
abbrev r3_4 : Rect S1x12 := Rect.unit (s := S1x12) ![0, 0] S1x12.size inb_S1x12_S1x12_0_0
abbrev r3_5 : Rect S1x120 := Rect.unit (s := S1x120) ![0, 0] S1x120.size inb_S1x120_S1x120_0_0
abbrev r3_6 : Rect S1024x1x10 := Rect.unit (s := S1024x1x10) ![0, 0, 0] S1024x1x10.size inb_S1024x1x10_S1024x1x10_0_0_0
abbrev r3_7 : Rect S10x10 := Rect.unit (s := S10x10) ![0, 0] S10x10.size inb_S10x10_S10x10_0_0
abbrev r3_8 : Rect S1x10 := Rect.unit (s := S1x10) ![0, 0] S1x10.size inb_S1x10_S1x10_0_0
abbrev r3_9 : Rect S128x10 := Rect.unit (s := S128x10) ![0, 0] S128x10.size inb_S128x10_S128x10_0_0

/-! ## What the body leaves in each output window's buffer -/

/-! ### Values of the body that the stores' payloads, spelt out, would write more than once

    Each is a vector the body binds (often a part call's result), stated over the input windows' blocks and
-/

def k3_pay21 (x0 : Vec F S128x5x80 .f32) (x1 : Vec F S1024x5x80 .f32) (x2 : Vec F S1024x1x10 .f32) (x3 : Vec F S5x80x12 .f32) (x4 : Vec F S1x12 .f32) (x5 : Vec F S5x80x120 .f32) (x6 : Vec F S1x120 .f32) (x7 : Vec F S10x10 .f32) (x8 : Vec F S1x10 .f32) : FVec F S128x5x80 .f32 :=
  k3_pay2 (View.ld x0 r3_0) -- `v1`
def k3_pay22 (x0 : Vec F S128x5x80 .f32) (x1 : Vec F S1024x5x80 .f32) (x2 : Vec F S1024x1x10 .f32) (x3 : Vec F S5x80x12 .f32) (x4 : Vec F S1x12 .f32) (x5 : Vec F S5x80x120 .f32) (x6 : Vec F S1x120 .f32) (x7 : Vec F S10x10 .f32) (x8 : Vec F S1x10 .f32) : FVec F S1024x5x80 .f32 :=
  k3_pay3 (View.ld x1 r3_1) -- `v3`
def k3_pay23 (x0 : Vec F S128x5x80 .f32) (x1 : Vec F S1024x5x80 .f32) (x2 : Vec F S1024x1x10 .f32) (x3 : Vec F S5x80x12 .f32) (x4 : Vec F S1x12 .f32) (x5 : Vec F S5x80x120 .f32) (x6 : Vec F S1x120 .f32) (x7 : Vec F S10x10 .f32) (x8 : Vec F S1x10 .f32) : FVec F S5x80x12 .f32 :=
  k3_pay4 (View.ld x3 r3_2) -- `v5`
def k3_pay24 (x0 : Vec F S128x5x80 .f32) (x1 : Vec F S1024x5x80 .f32) (x2 : Vec F S1024x1x10 .f32) (x3 : Vec F S5x80x12 .f32) (x4 : Vec F S1x12 .f32) (x5 : Vec F S5x80x120 .f32) (x6 : Vec F S1x120 .f32) (x7 : Vec F S10x10 .f32) (x8 : Vec F S1x10 .f32) : FVec F S5x80x120 .f32 :=
  k3_pay5 (View.ld x5 r3_3) -- `v7`
def k3_pay25 (x0 : Vec F S128x5x80 .f32) (x1 : Vec F S1024x5x80 .f32) (x2 : Vec F S1024x1x10 .f32) (x3 : Vec F S5x80x12 .f32) (x4 : Vec F S1x12 .f32) (x5 : Vec F S5x80x120 .f32) (x6 : Vec F S1x120 .f32) (x7 : Vec F S10x10 .f32) (x8 : Vec F S1x10 .f32) : FVec F S128x12 .f32 :=
  k3_pay9 (k3_pay21 x0 x1 x2 x3 x4 x5 x6 x7 x8) (k3_pay23 x0 x1 x2 x3 x4 x5 x6 x7 x8) (k3_pay6 (View.ld x0 r3_0) (View.ld x3 r3_2)) -- `v74`
def k3_pay26 (x0 : Vec F S128x5x80 .f32) (x1 : Vec F S1024x5x80 .f32) (x2 : Vec F S1024x1x10 .f32) (x3 : Vec F S5x80x12 .f32) (x4 : Vec F S1x12 .f32) (x5 : Vec F S5x80x120 .f32) (x6 : Vec F S1x120 .f32) (x7 : Vec F S10x10 .f32) (x8 : Vec F S1x10 .f32) : FVec F S1024x12 .f32 :=
  k3_pay10 (k3_pay22 x0 x1 x2 x3 x4 x5 x6 x7 x8) (k3_pay23 x0 x1 x2 x3 x4 x5 x6 x7 x8) (k3_pay7 (View.ld x1 r3_1) (View.ld x3 r3_2)) -- `v75`
def k3_pay27 (x0 : Vec F S128x5x80 .f32) (x1 : Vec F S1024x5x80 .f32) (x2 : Vec F S1024x1x10 .f32) (x3 : Vec F S5x80x12 .f32) (x4 : Vec F S1x12 .f32) (x5 : Vec F S5x80x120 .f32) (x6 : Vec F S1x120 .f32) (x7 : Vec F S10x10 .f32) (x8 : Vec F S1x10 .f32) : FVec F S128x120 .f32 :=
  k3_pay11 (k3_pay21 x0 x1 x2 x3 x4 x5 x6 x7 x8) (k3_pay24 x0 x1 x2 x3 x4 x5 x6 x7 x8) (k3_pay8 (View.ld x0 r3_0) (View.ld x5 r3_3)) -- `v76`
def k3_pay28 (x0 : Vec F S128x5x80 .f32) (x1 : Vec F S1024x5x80 .f32) (x2 : Vec F S1024x1x10 .f32) (x3 : Vec F S5x80x12 .f32) (x4 : Vec F S1x12 .f32) (x5 : Vec F S5x80x120 .f32) (x6 : Vec F S1x120 .f32) (x7 : Vec F S10x10 .f32) (x8 : Vec F S1x10 .f32) : FVec F S128x12 .f32 :=
  k3_pay12 (k3_pay21 x0 x1 x2 x3 x4 x5 x6 x7 x8) (k3_pay23 x0 x1 x2 x3 x4 x5 x6 x7 x8) -- `v81`
def k3_pay29 (x0 : Vec F S128x5x80 .f32) (x1 : Vec F S1024x5x80 .f32) (x2 : Vec F S1024x1x10 .f32) (x3 : Vec F S5x80x12 .f32) (x4 : Vec F S1x12 .f32) (x5 : Vec F S5x80x120 .f32) (x6 : Vec F S1x120 .f32) (x7 : Vec F S10x10 .f32) (x8 : Vec F S1x10 .f32) : FVec F S1024x12 .f32 :=
  k3_pay13 (k3_pay22 x0 x1 x2 x3 x4 x5 x6 x7 x8) (k3_pay23 x0 x1 x2 x3 x4 x5 x6 x7 x8) -- `v86`
def k3_pay30 (x0 : Vec F S128x5x80 .f32) (x1 : Vec F S1024x5x80 .f32) (x2 : Vec F S1024x1x10 .f32) (x3 : Vec F S5x80x12 .f32) (x4 : Vec F S1x12 .f32) (x5 : Vec F S5x80x120 .f32) (x6 : Vec F S1x120 .f32) (x7 : Vec F S10x10 .f32) (x8 : Vec F S1x10 .f32) : FVec F S128x120 .f32 :=
  k3_pay14 (k3_pay21 x0 x1 x2 x3 x4 x5 x6 x7 x8) (k3_pay24 x0 x1 x2 x3 x4 x5 x6 x7 x8) -- `v91`
def k3_pay31 (x0 : Vec F S128x5x80 .f32) (x1 : Vec F S1024x5x80 .f32) (x2 : Vec F S1024x1x10 .f32) (x3 : Vec F S5x80x12 .f32) (x4 : Vec F S1x12 .f32) (x5 : Vec F S5x80x120 .f32) (x6 : Vec F S1x120 .f32) (x7 : Vec F S10x10 .f32) (x8 : Vec F S1x10 .f32) : FVec F S128x120 .f32 :=
  k3_pay15 (k3_pay27 x0 x1 x2 x3 x4 x5 x6 x7 x8) (k3_pay30 x0 x1 x2 x3 x4 x5 x6 x7 x8) (View.ld x6 r3_5) -- `v107`
def k3_pay32 (x0 : Vec F S128x5x80 .f32) (x1 : Vec F S1024x5x80 .f32) (x2 : Vec F S1024x1x10 .f32) (x3 : Vec F S5x80x12 .f32) (x4 : Vec F S1x12 .f32) (x5 : Vec F S5x80x120 .f32) (x6 : Vec F S1x120 .f32) (x7 : Vec F S10x10 .f32) (x8 : Vec F S1x10 .f32) : FVec F S128x8x12 .f32 :=
  k3_pay16 (k3_pay25 x0 x1 x2 x3 x4 x5 x6 x7 x8) (k3_pay26 x0 x1 x2 x3 x4 x5 x6 x7 x8) (k3_pay28 x0 x1 x2 x3 x4 x5 x6 x7 x8) (k3_pay29 x0 x1 x2 x3 x4 x5 x6 x7 x8) (View.ld x4 r3_4) (View.ld x4 r3_4) -- `v110`

/-- Window 9's staging buffer after the body, from the input windows' blocks: its 1 store as pieces, LAST
    FIRST (Lib/Pipeline/FrameBody.lean `View.canon`; the payloads are the skeleton's and the values stated above). -/
def out3_9 (x0 : Vec F S128x5x80 .f32) (x1 : Vec F S1024x5x80 .f32) (x2 : Vec F S1024x1x10 .f32) (x3 : Vec F S5x80x12 .f32) (x4 : Vec F S1x12 .f32) (x5 : Vec F S5x80x120 .f32) (x6 : Vec F S1x120 .f32) (x7 : Vec F S10x10 .f32) (x8 : Vec F S1x10 .f32) : Vec F S128x10 .f32 :=
  View.canon [⟨r3_9, k3_pay1 (k3_pay31 x0 x1 x2 x3 x4 x5 x6 x7 x8) (k3_pay32 x0 x1 x2 x3 x4 x5 x6 x7 x8) (k3_pay19 (k3_pay31 x0 x1 x2 x3 x4 x5 x6 x7 x8) (k3_pay32 x0 x1 x2 x3 x4 x5 x6 x7 x8) (k3_pay17 (k3_pay25 x0 x1 x2 x3 x4 x5 x6 x7 x8) (k3_pay26 x0 x1 x2 x3 x4 x5 x6 x7 x8) (k3_pay27 x0 x1 x2 x3 x4 x5 x6 x7 x8) (k3_pay28 x0 x1 x2 x3 x4 x5 x6 x7 x8) (k3_pay29 x0 x1 x2 x3 x4 x5 x6 x7 x8) (k3_pay30 x0 x1 x2 x3 x4 x5 x6 x7 x8) (View.ld x4 r3_4) (View.ld x4 r3_4) (View.ld x6 r3_5) (View.ld x2 r3_6) (View.ld x7 r3_7) (View.ld x8 r3_8)) (k3_pay18 (k3_pay27 x0 x1 x2 x3 x4 x5 x6 x7 x8) (k3_pay30 x0 x1 x2 x3 x4 x5 x6 x7 x8) (View.ld x6 r3_5))) (k3_pay20 (k3_pay31 x0 x1 x2 x3 x4 x5 x6 x7 x8) (k3_pay32 x0 x1 x2 x3 x4 x5 x6 x7 x8))⟩]

/-- Its stores tile the buffer (checked by evaluation), so they cover it. -/
theorem cover3_9 (p0 : Vec F S128x10 .f32) (y : S128x10.Idx) :
    ∃ pc ∈ ([⟨r3_9, p0⟩] : List (View.Piece (Elt F) S128x10 .f32)), y ∈ pc.1.set :=
  View.cover_of_tiled [⟨r3_9, p0⟩] S128x10.size (by rfl) y

/-! ## The body's triple -/

set_option maxHeartbeats 1000000 in
/-- The kernel body on whole staging memrefs, the inputs' at read contents `xW` and the outputs' at anything, runs to
    the continuation holding the inputs' as they were and each output's at `out3_W` of the inputs': the printed functions
    are their skeletons (`Gen.*_eq_skeleton`), which `sl_exec` runs (Lib/Exec.lean), through every part call. -/
theorem sound_kernel3 (c : Dev nD) (E : Set ℕ) (i : grid3.Coords) (arg1 : Memref sig .tc .vmem S128x5x80 .f32) (harg1 : arg1.IsWhole) (arg2 : Memref sig .tc .vmem S1024x5x80 .f32) (harg2 : arg2.IsWhole) (arg3 : Memref sig .tc .vmem S1024x1x10 .f32) (harg3 : arg3.IsWhole) (arg4 : Memref sig .tc .vmem S5x80x12 .f32) (harg4 : arg4.IsWhole) (arg5 : Memref sig .tc .vmem S1x12 .f32) (harg5 : arg5.IsWhole) (arg6 : Memref sig .tc .vmem S5x80x120 .f32) (harg6 : arg6.IsWhole) (arg7 : Memref sig .tc .vmem S1x120 .f32) (harg7 : arg7.IsWhole) (arg8 : Memref sig .tc .vmem S10x10 .f32) (harg8 : arg8.IsWhole) (arg9 : Memref sig .tc .vmem S1x10 .f32) (harg9 : arg9.IsWhole) (arg10 : Memref sig .tc .vmem S128x10 .f32) (harg10 : arg10.IsWhole)
    (x0 : Vec F S128x5x80 .f32) (x1 : Vec F S1024x5x80 .f32) (x2 : Vec F S1024x1x10 .f32) (x3 : Vec F S5x80x12 .f32) (x4 : Vec F S1x12 .f32) (x5 : Vec F S5x80x120 .f32) (x6 : Vec F S1x120 .f32) (x7 : Vec F S10x10 .f32) (x8 : Vec F S1x10 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out3_9 x0 x1 x2 x3 x4 x5 x6 x7 x8)) -∗ K ⟨⟩))
      ⊢ wp frame (wpE (defs₀ (F := F)) Variants.none c none) E (cc3_mad_combine i arg1 harg1 arg2 harg2 arg3 harg3 arg4 harg4 arg5 harg5 arg6 harg6 arg7 harg7 arg8 harg8 arg9 harg9 arg10 harg10) K := by
  simp only [cc3_mad_combine_eq_skeleton]; unfold cc3_mad_combine_skel
  simp only [k3_part1_eq_skeleton, k3_part2_eq_skeleton, k3_part3_eq_skeleton, k3_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  refine (View.read_writes_eq_canon _ _ _ (cover3_9 _)).trans ?_
  rfl

/-! ## The pipeline's proof data -/

/-- The proof data of pipeline 3 on core `c`: the arrays as the region finds them (`V`); after the body at
    point `t` each input's buffer at its block and each output's at `out3_W` of the input blocks; the invariant the
    class's (Lib/Pipeline/Frame.lean `ΦA`: the scoped rest and the generator register, untouched); nothing owed;
    full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => out3_9 (iblk3 V c 0 t) (iblk3 V c 1 t) (iblk3 V c 2 t) (iblk3 V c 3 t) (iblk3 V c 4 t) (iblk3 V c 5 t) (iblk3 V c 6 t) (iblk3 V c 7 t) (iblk3 V c 8 t)
  Φ _ := Pipeline.ΦA spec3 c
  q _ := fullShare
  owed _ := 0

/-- The proof data's arrays are the region-entry contents, by projecting the definition (`dsimp`): a region record cites
    this for its arrays rather than have Lean unfold `V`, the fold through @main up to the region's entry. -/
theorem A_eq3 (c : Dev nD) (w : Fin cfg3.W) : (dat3 V c).A w = V c (Pipeline.arrRef spec3 w) := by
  dsimp only [dat3]

/-- What the body leaves, window by window (the proof data's `match` reduced by `dsimp`, never `rfl`: Lib/Pipeline.lean `Dat`). -/
theorem after3_0 (c : Dev nD) (t : Fin cfg3.N) : (dat3 V c).after 0 t = iblk3 V c 0 t := by dsimp only [dat3]
/-- What a step of the call leaves in this window's block. -/
theorem after3_1 (c : Dev nD) (t : Fin cfg3.N) : (dat3 V c).after 1 t = iblk3 V c 1 t := by dsimp only [dat3]
/-- What a step of the call leaves in this window's block. -/
theorem after3_2 (c : Dev nD) (t : Fin cfg3.N) : (dat3 V c).after 2 t = iblk3 V c 2 t := by dsimp only [dat3]
/-- What a step of the call leaves in this window's block. -/
theorem after3_3 (c : Dev nD) (t : Fin cfg3.N) : (dat3 V c).after 3 t = iblk3 V c 3 t := by dsimp only [dat3]
/-- What a step of the call leaves in this window's block. -/
theorem after3_4 (c : Dev nD) (t : Fin cfg3.N) : (dat3 V c).after 4 t = iblk3 V c 4 t := by dsimp only [dat3]
/-- What a step of the call leaves in this window's block. -/
theorem after3_5 (c : Dev nD) (t : Fin cfg3.N) : (dat3 V c).after 5 t = iblk3 V c 5 t := by dsimp only [dat3]
/-- What a step of the call leaves in this window's block. -/
theorem after3_6 (c : Dev nD) (t : Fin cfg3.N) : (dat3 V c).after 6 t = iblk3 V c 6 t := by dsimp only [dat3]
/-- What a step of the call leaves in this window's block. -/
theorem after3_7 (c : Dev nD) (t : Fin cfg3.N) : (dat3 V c).after 7 t = iblk3 V c 7 t := by dsimp only [dat3]
/-- What a step of the call leaves in this window's block. -/
theorem after3_8 (c : Dev nD) (t : Fin cfg3.N) : (dat3 V c).after 8 t = iblk3 V c 8 t := by dsimp only [dat3]
/-- What a step of the call leaves in this window's block. -/
theorem after3_9 (c : Dev nD) (t : Fin cfg3.N) : (dat3 V c).after 9 t = out3_9 (iblk3 V c 0 t) (iblk3 V c 1 t) (iblk3 V c 2 t) (iblk3 V c 3 t) (iblk3 V c 4 t) (iblk3 V c 5 t) (iblk3 V c 6 t) (iblk3 V c 7 t) (iblk3 V c 8 t) := by dsimp only [dat3]

/-- Each input's current staging buffer holds its block at every point, fetched there or not (`beforeK_W_of`). -/
theorem before3_0 (c : Dev nD) (t : Fin cfg3.N) (d) : (dat3 V c).before 0 t d = iblk3 V c 0 t :=
  before3_0_of V (dat3 V c) (A_eq3 V c 0) (after3_0 V c) t d
/-- What a step of the call finds in this window's block. -/
theorem before3_1 (c : Dev nD) (t : Fin cfg3.N) (d) : (dat3 V c).before 1 t d = iblk3 V c 1 t :=
  before3_1_of V (dat3 V c) (A_eq3 V c 1) (after3_1 V c) t d
/-- What a step of the call finds in this window's block. -/
theorem before3_2 (c : Dev nD) (t : Fin cfg3.N) (d) : (dat3 V c).before 2 t d = iblk3 V c 2 t :=
  before3_2_of V (dat3 V c) (A_eq3 V c 2) (after3_2 V c) t d
/-- What a step of the call finds in this window's block. -/
theorem before3_3 (c : Dev nD) (t : Fin cfg3.N) (d) : (dat3 V c).before 3 t d = iblk3 V c 3 t :=
  before3_3_of V (dat3 V c) (A_eq3 V c 3) (after3_3 V c) t d
/-- What a step of the call finds in this window's block. -/
theorem before3_4 (c : Dev nD) (t : Fin cfg3.N) (d) : (dat3 V c).before 4 t d = iblk3 V c 4 t :=
  before3_4_of V (dat3 V c) (A_eq3 V c 4) (after3_4 V c) t d
/-- What a step of the call finds in this window's block. -/
theorem before3_5 (c : Dev nD) (t : Fin cfg3.N) (d) : (dat3 V c).before 5 t d = iblk3 V c 5 t :=
  before3_5_of V (dat3 V c) (A_eq3 V c 5) (after3_5 V c) t d
/-- What a step of the call finds in this window's block. -/
theorem before3_6 (c : Dev nD) (t : Fin cfg3.N) (d) : (dat3 V c).before 6 t d = iblk3 V c 6 t :=
  before3_6_of V (dat3 V c) (A_eq3 V c 6) (after3_6 V c) t d
/-- What a step of the call finds in this window's block. -/
theorem before3_7 (c : Dev nD) (t : Fin cfg3.N) (d) : (dat3 V c).before 7 t d = iblk3 V c 7 t :=
  before3_7_of V (dat3 V c) (A_eq3 V c 7) (after3_7 V c) t d
/-- What a step of the call finds in this window's block. -/
theorem before3_8 (c : Dev nD) (t : Fin cfg3.N) (d) : (dat3 V c).before 8 t d = iblk3 V c 8 t :=
  before3_8_of V (dat3 V c) (A_eq3 V c 8) (after3_8 V c) t d

/-! ## The body obligation, at a generic point -/

/-- What the body is called with at point `t` (Lib/Pipeline.lean `BodyObligation`'s precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t))

/-- The body at any point: the inputs' memrefs hold their blocks (`before3_W`), so `sound_kernel3` applies; the invariant and
    the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel3 c Set.univ (grid3.coords t) _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots is the body as `bodyAt3` spells it. -/
theorem defs₀_row3 (t : Fin cfg3.N) :
    defs₀ (F := F) .tc cfg3.body (cfg3.bodyArgs t (cfg3.slots t)) = bodyAt3 t := by
  unfold defs₀; rw [Defs.onTc_tc]

/-- The library's body obligation, at every point: the body's triple restated (Lib/Pipeline/FrameBody.lean `triple_restated`). -/
theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

end Regions

end Cert.KernelIdeal.Run

end
-- ==== Proof.Ideal.Fold.lean ====
/- What every buffer holds between the calls: a fold of the host operations and of each call's write-backs from
   the launch memory; the arguments stay as launched. -/
module

public import proofs.«01_k».proof.Proof.Ideal.Gather
public import proofs.«01_k».proof.Proof.Ideal.Feat1
public import proofs.«01_k».proof.Proof.Ideal.Feat2
public import proofs.«01_k».proof.Proof.Ideal.Combine
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6, main_arg7, main_arg8, main_arg9, main_arg10, main_arg11, main_arg12, main_arg13, main_arg14]

/-! ## The host stretch: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_cst, main_cst_0, main_c, main_c_1, main_c_2, main_c_3, main_c_4, main_c_5, main_c_6, main_v0, main_v1, main_v2, main_v3, main_v4, main_v5, main_c_7, main_v6, main_v7, main_v8, main_v9, main_v10, main_c_8, main_v11, main_v12, main_v13, main_v14, main_v15, main_v16, main_v17, main_v18, main_v19, main_v20, main_v21, main_v22, main_v23, main_v24, main_v25, main_v26, main_v27, main_c_9, main_v28, main_v29, main_v30, main_v31, main_v32, main_v33, main_v34, main_c_10, main_v35, main_v36, main_v37, main_v38, main_v39, main_v40, main_v41, main_v42, main_v43, main_v44, main_v45, main_v46, main_v47]
/-- The host operations write only the listed buffers. -/
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
/-- At this point of the program the arguments are as launched. -/
theorem W0_args (c : Dev nD) : ∀ r ∈ argRefs, W0 m ρ c (Proc.devRef .tc r) = m ((c : Thread nD τ).loc r) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- At this point of the program the arguments are as launched. -/
theorem W1_args (c : Dev nD) : ∀ r ∈ argRefs, W1 m ρ c (Proc.devRef .tc r) = m ((c : Thread nD τ).loc r) :=
  fun r hr => (W1_of m ρ c r (hostOps0_args r hr)).trans (W0_args m ρ c r hr)
/-- The same read at the TensorCore's references (what region 0's proof data take). -/
abbrev V1 : (c : Dev nD) → (b : Ref sig .tc) → Buf (Elt F) ((c : Thread nD τ).loc b) := fun c b => W1 m ρ c b
variable (a : (pcfg0 (F := F)).Adm)
/-- At region 0's exit: its arrays at what the pipeline leaves (the inputs as entered, each output's write-backs
    folded: `Dat.arrAt … N`), every other buffer as entered (Lib/Pipeline/FrameSuffix.lean `withArrays`) (region 1's entry). -/
def W2 (c : Dev nD) : Valuation τ sig (Elt F) :=
  Pipeline.withArrays spec0 c (W1 m ρ c) fun w => (dat0 a (V1 m ρ) c).arrAt w (cfg0 a).N
/-- At the call's exit its arrays hold what its grid leaves. -/
theorem W2_arr (c : Dev nD) (w : Fin (cfg0 a).W) :
    W2 m ρ a c (Proc.devRef .tc (Pipeline.arrRef spec0 w)) = (dat0 a (V1 m ρ) c).arrAt w (cfg0 a).N := by
  unfold W2; exact (dat0 a (V1 m ρ) c).withArrays_arrAt (launch₀0 (F := F)).sharedIn _ (A_eq0 a (V1 m ρ) c) w
/-- A buffer that is none of the call's arrays is left as it was. -/
theorem W2_of_ne (c : Dev nD) (b : Ref sig .tc) (hb : ∀ w, Pipeline.arrRef spec0 w ≠ b) :
    W2 m ρ a c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin (cfg0 a).W, Pipeline.arrRef spec0 w = r → ((cfg0 a).win w).isOut = false) :
    W2 m ρ a c (Proc.devRef .tc r) = W1 m ρ c (Proc.devRef .tc r) := by
  by_cases hw : ∃ w : Fin (cfg0 a).W, Pipeline.arrRef spec0 w = r
  · obtain ⟨w, rfl⟩ := hw
    exact (W2_arr m ρ a c w).trans (((dat0 a (V1 m ρ) c).arrAt_in w (h w rfl) _).trans (A_eq0 a (V1 m ρ) c w))
  · exact W2_of_ne m ρ a c r fun w e => hw ⟨w, e⟩
/-- Every argument among region 0's arrays is an input window's (checked: each argument against each window). -/
theorem argsIn0 : ∀ r ∈ argRefs, ∀ w : Fin 66, Pipeline.arrRef spec0 w = r → (spec0 w).isOut = false :=
  ListAll.forall_mem_of_all_decide (by decide +kernel)
/-- At this point of the program the arguments are as launched. -/
theorem W2_args (c : Dev nD) : ∀ r ∈ argRefs, W2 m ρ a c (Proc.devRef .tc r) = m ((c : Thread nD τ).loc r) :=
  fun r hr => (W2_of m ρ a c r (argsIn0 r hr)).trans (W1_args m ρ c r hr)
/-- The same read at the TensorCore's references (region 0's exit contents). -/
abbrev V2 : (c : Dev nD) → (b : Ref sig .tc) → Buf (Elt F) ((c : Thread nD τ).loc b) := fun c b => W2 m ρ a c b
/-- At region 0's exit each of its arrays holds what the pipeline leaves (`hF0`) and every other buffer what it
    held at entry (`hrest0`): the two hypotheses of Lib/Pipeline/RegionsLoop.lean `unscopedBufs_of_arrays_shared`. -/
theorem hF0 (c : Dev nD) (w : Fin (cfg0 a).W) : (dat0 a (V1 m ρ) c).arrAt w (cfg0 a).N = V2 m ρ a c (Pipeline.arrRef spec0 w) :=
  (W2_arr m ρ a c w).symm
/-- Every other buffer holds at the call's exit what it held at its entry. -/
theorem hrest0 (c : Dev nD) : ∀ b, b ∉ Finset.univ.image (Pipeline.arrRef spec0) → V2 m ρ a c b = V1 m ρ c b :=
  fun b hb => W2_of_ne m ρ a c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`) (region 2's entry). -/
def W3 (c : Dev nD) : Valuation τ sig (Elt F) :=
  Pipeline.withArrays spec1 c (W2 m ρ a c) fun w => (dat1 (V2 m ρ a) c).arrAt w cfg1.N
/-- At the call's exit its arrays hold what its grid leaves. -/
theorem W3_arr (c : Dev nD) (w : Fin cfg1.W) :
    W3 m ρ a c (Proc.devRef .tc (Pipeline.arrRef spec1 w)) = (dat1 (V2 m ρ a) c).arrAt w cfg1.N := by
  unfold W3; exact Pipeline.withArrays_arr spec1 (launch1 (F := F)).win.arr_inj c _ _ w
/-- A buffer that is none of the call's arrays is left as it was. -/
theorem W3_of_ne (c : Dev nD) (b : Ref sig .tc) (hb : ∀ w, Pipeline.arrRef spec1 w ≠ b) :
    W3 m ρ a c (Proc.devRef .tc b) = W2 m ρ a c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ a c (Proc.devRef .tc r) = W2 m ρ a c (Proc.devRef .tc r) := by
  by_cases hw : ∃ w : Fin cfg1.W, Pipeline.arrRef spec1 w = r
  · obtain ⟨w, rfl⟩ := hw
    exact (W3_arr m ρ a c w).trans (((dat1 (V2 m ρ a) c).arrAt_in w (h w rfl) _).trans (A_eq1 (V2 m ρ a) c w))
  · exact W3_of_ne m ρ a c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
/-- At this point of the program the arguments are as launched. -/
theorem W3_args (c : Dev nD) : ∀ r ∈ argRefs, W3 m ρ a c (Proc.devRef .tc r) = m ((c : Thread nD τ).loc r) :=
  fun r hr => (W3_of m ρ a c r (argsIn1 r hr)).trans (W2_args m ρ a c r hr)
/-- The same read at the TensorCore's references (region 1's exit contents). -/
abbrev V3 : (c : Dev nD) → (b : Ref sig .tc) → Buf (Elt F) ((c : Thread nD τ).loc b) := fun c b => W3 m ρ a c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V2 m ρ a) c).arrAt w cfg1.N = V3 m ρ a c (Pipeline.arrRef spec1 w) :=
  (W3_arr m ρ a c w).symm
/-- Every other buffer holds at the call's exit what it held at its entry. -/
theorem hrest1 (c : Dev nD) : ∀ b, b ∉ Finset.univ.image (Pipeline.arrRef spec1) → V3 m ρ a c b = V2 m ρ a c b :=
  fun b hb => W3_of_ne m ρ a c b fun w e => hb (Finset.mem_image.mpr ⟨w, Finset.mem_univ _, e⟩)

/-- At region 2's exit: its arrays at what the pipeline leaves (the inputs as entered, each output's write-backs
    folded: `Dat.arrAt … N`), every other buffer as entered (Lib/Pipeline/FrameSuffix.lean `withArrays`) (region 3's entry). -/
def W4 (c : Dev nD) : Valuation τ sig (Elt F) :=
  Pipeline.withArrays spec2 c (W3 m ρ a c) fun w => (dat2 (V3 m ρ a) c).arrAt w cfg2.N
/-- At the call's exit its arrays hold what its grid leaves. -/
theorem W4_arr (c : Dev nD) (w : Fin cfg2.W) :
    W4 m ρ a c (Proc.devRef .tc (Pipeline.arrRef spec2 w)) = (dat2 (V3 m ρ a) c).arrAt w cfg2.N := by
  unfold W4; exact Pipeline.withArrays_arr spec2 (launch2 (F := F)).win.arr_inj c _ _ w
/-- A buffer that is none of the call's arrays is left as it was. -/
theorem W4_of_ne (c : Dev nD) (b : Ref sig .tc) (hb : ∀ w, Pipeline.arrRef spec2 w ≠ b) :
    W4 m ρ a c (Proc.devRef .tc b) = W3 m ρ a c (Proc.devRef .tc b) := by
  unfold W4; exact Pipeline.withArrays_of_ne spec2 c _ _ b hb
/-- A reference that is none of region 2's OUTPUT arrays keeps its entry contents across it: an input window's
    array is never written back (`Dat.arrAt_in`, `A_eq2`); any other buffer is left as is. -/
theorem W4_of (c : Dev nD) (r : Ref sig .tc) (h : ∀ w : Fin cfg2.W, Pipeline.arrRef spec2 w = r → (cfg2.win w).isOut = false) :
    W4 m ρ a c (Proc.devRef .tc r) = W3 m ρ a c (Proc.devRef .tc r) := by
  by_cases hw : ∃ w : Fin cfg2.W, Pipeline.arrRef spec2 w = r
  · obtain ⟨w, rfl⟩ := hw
    exact (W4_arr m ρ a c w).trans (((dat2 (V3 m ρ a) c).arrAt_in w (h w rfl) _).trans (A_eq2 (V3 m ρ a) c w))
  · exact W4_of_ne m ρ a c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
/-- At this point of the program the arguments are as launched. -/
theorem W4_args (c : Dev nD) : ∀ r ∈ argRefs, W4 m ρ a c (Proc.devRef .tc r) = m ((c : Thread nD τ).loc r) :=
  fun r hr => (W4_of m ρ a c r (argsIn2 r hr)).trans (W3_args m ρ a c r hr)
/-- The same read at the TensorCore's references (region 2's exit contents). -/
abbrev V4 : (c : Dev nD) → (b : Ref sig .tc) → Buf (Elt F) ((c : Thread nD τ).loc b) := fun c b => W4 m ρ a c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V3 m ρ a) c).arrAt w cfg2.N = V4 m ρ a c (Pipeline.arrRef spec2 w) :=
  (W4_arr m ρ a c w).symm
/-- Every other buffer holds at the call's exit what it held at its entry. -/
theorem hrest2 (c : Dev nD) : ∀ b, b ∉ Finset.univ.image (Pipeline.arrRef spec2) → V4 m ρ a c b = V3 m ρ a c b :=
  fun b hb => W4_of_ne m ρ a c b fun w e => hb (Finset.mem_image.mpr ⟨w, Finset.mem_univ _, e⟩)

/-- At region 3's exit: its arrays at what the pipeline leaves (the inputs as entered, each output's write-backs
    folded: `Dat.arrAt … N`), every other buffer as entered (Lib/Pipeline/FrameSuffix.lean `withArrays`). -/
def W5 (c : Dev nD) : Valuation τ sig (Elt F) :=
  Pipeline.withArrays spec3 c (W4 m ρ a c) fun w => (dat3 (V4 m ρ a) c).arrAt w cfg3.N
/-- At the call's exit its arrays hold what its grid leaves. -/
theorem W5_arr (c : Dev nD) (w : Fin cfg3.W) :
    W5 m ρ a c (Proc.devRef .tc (Pipeline.arrRef spec3 w)) = (dat3 (V4 m ρ a) c).arrAt w cfg3.N := by
  unfold W5; exact Pipeline.withArrays_arr spec3 (launch3 (F := F)).win.arr_inj c _ _ w
/-- A buffer that is none of the call's arrays is left as it was. -/
theorem W5_of_ne (c : Dev nD) (b : Ref sig .tc) (hb : ∀ w, Pipeline.arrRef spec3 w ≠ b) :
    W5 m ρ a c (Proc.devRef .tc b) = W4 m ρ a c (Proc.devRef .tc b) := by
  unfold W5; exact Pipeline.withArrays_of_ne spec3 c _ _ b hb
/-- A reference that is none of region 3's OUTPUT arrays keeps its entry contents across it: an input window's
    array is never written back (`Dat.arrAt_in`, `A_eq3`); any other buffer is left as is. -/
theorem W5_of (c : Dev nD) (r : Ref sig .tc) (h : ∀ w : Fin cfg3.W, Pipeline.arrRef spec3 w = r → (cfg3.win w).isOut = false) :
    W5 m ρ a c (Proc.devRef .tc r) = W4 m ρ a c (Proc.devRef .tc r) := by
  by_cases hw : ∃ w : Fin cfg3.W, Pipeline.arrRef spec3 w = r
  · obtain ⟨w, rfl⟩ := hw
    exact (W5_arr m ρ a c w).trans (((dat3 (V4 m ρ a) c).arrAt_in w (h w rfl) _).trans (A_eq3 (V4 m ρ a) c w))
  · exact W5_of_ne m ρ a c r fun w e => hw ⟨w, e⟩
/-- Every argument among region 3's arrays is an input window's (checked: each argument against each window). -/
theorem argsIn3 : ∀ a ∈ argRefs, ∀ w : Fin cfg3.W, Pipeline.arrRef spec3 w = a → (cfg3.win w).isOut = false :=
  ListAll.forall_mem_of_all_decide (by decide +kernel)
/-- At this point of the program the arguments are as launched. -/
theorem W5_args (c : Dev nD) : ∀ r ∈ argRefs, W5 m ρ a c (Proc.devRef .tc r) = m ((c : Thread nD τ).loc r) :=
  fun r hr => (W5_of m ρ a c r (argsIn3 r hr)).trans (W4_args m ρ a c r hr)
/-- The same read at the TensorCore's references (region 3's exit contents). -/
abbrev V5 : (c : Dev nD) → (b : Ref sig .tc) → Buf (Elt F) ((c : Thread nD τ).loc b) := fun c b => W5 m ρ a c b
/-- At region 3's exit each of its arrays holds what the pipeline leaves (`hF3`) and every other buffer what it
    held at entry (`hrest3`): the two hypotheses of Lib/Pipeline/RegionsLoop.lean `unscopedBufs_of_arrays`. -/
theorem hF3 (c : Dev nD) (w : Fin cfg3.W) : (dat3 (V4 m ρ a) c).arrAt w cfg3.N = V5 m ρ a c (Pipeline.arrRef spec3 w) :=
  (W5_arr m ρ a c w).symm
/-- Every other buffer holds at the call's exit what it held at its entry. -/
theorem hrest3 (c : Dev nD) : ∀ b, b ∉ Finset.univ.image (Pipeline.arrRef spec3) → V5 m ρ a c b = V4 m ρ a c b :=
  fun b hb => W5_of_ne m ρ a c b fun w e => hb (Finset.mem_image.mpr ⟨w, Finset.mem_univ _, e⟩)

end Cert.KernelIdeal.Run

end
-- ==== Proof.Ideal.State.lean ====
/- The proof data of the four calls and what every thread holds between them. -/
module

public import proofs.«01_k».proof.Proof.Ideal.Fold
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (a : (pcfg0 (F := F)).Adm)
/-- The prefetched tables' admissible contents: the gather's index table; the other calls have none. -/
abbrev adm : (p : Fin 4) → (pcfgs (F := F) p).Adm := fun
  | ⟨0, _⟩ => a
  | ⟨1, _⟩ => cfg1.toPCfg_adm
  | ⟨2, _⟩ => cfg2.toPCfg_adm
  | ⟨3, _⟩ => cfg3.toPCfg_adm
/-- Every pipeline's proof data, each at its region's entry contents — a literal `match`, so that the kit's
    `Pipeline.pin pcfgs adm p` at a numeral reduces to the printed configuration. -/
def pdats : (p : Fin 4) → (c : Dev nD) → Dat τ (Elt F) Unit ℕ (UR sig nD τ) ℕ (Pipeline.pin (pcfgs (F := F)) (adm a) p) c
  | ⟨0, _⟩ => fun c => dat0 a (V1 m ρ) c
  | ⟨1, _⟩ => fun c => dat1 (V2 m ρ a) c
  | ⟨2, _⟩ => fun c => dat2 (V3 m ρ a) c
  | ⟨3, _⟩ => fun c => dat3 (V4 m ρ a) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ a c) ∗ ∃ r, prngReg c r)

end Cert.KernelIdeal.Run

end
-- ==== Proof.Ideal.Records.lean ====
/- The four calls as segments of the program: what each takes from the thread and gives back. -/
module

public import proofs.«01_k».proof.Proof.Ideal.State
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (a : (pcfg0 (F := F)).Adm)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs_shared`) and put back at the exit contents (`unscopedBufs_of_arrays_shared`; its input windows on one array (`(launch₀0 (F := F)).sharedIn`) each dealt their share of it, `Pipeline.shareOf`, by the proof data); the generator register into the
    class invariant `ΦA` and out; nothing owed; no semaphore of the kernel's own. -/
def reg0 (hT : ∀ c : Dev nD, (fun k => V1 m ρ c (pre0.ref k)) = a.1) : Pipeline.RegionSeg (pcfgs (F := F)) (adm a) (pdats m ρ a) () defs₀ 𝒱₀ L lv 0 where
  win := (launch₀0 (F := F)).win
  block_pos := (launch₀0 (F := F)).block_pos
  stage_whole := (launch₀0 (F := F)).stage_whole
  K := PEmpty
  osem k := k.elim
  ho := Pipeline.OwnSemFacts.none _
  hbody c := (body_obligation0 a (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ a c) ∗ R c)
  X c := iprop(∃ r, prngReg c r)
  Y c := iprop((∃ r, prngReg c r) ∗ Pipeline.prefHeld pre0 c (fun _ => fullShare) a.1)
  Z c := Pipeline.unscopedRestP (Ix := Unit) (Name := ℕ) (U := UR sig nD τ) (Lvl := ℕ) pre0 spec0 c (V1 m ρ c)
  hentry c := by
    rw [Pipeline.ownSems0_none]
    have hsplit := Pipeline.arrays_of_unscopedBufs_shared (p := 0) (pcfgs (F := F)) (adm a) (pdats m ρ a) (launch₀0 (F := F)).win (launch₀0 (F := F)).sharedIn (launch₀0 (F := F)).arr_whole c
      (fun _ _ => rfl) (V1 m ρ c) (A_eq0 a (V1 m ρ) c)
    rw [Pipeline.unscopedBufs_held, show Pipeline.unscopedRest (Ix := Unit) (Name := ℕ) (U := UR sig nD τ) (Lvl := ℕ) (Pipeline.pin (pcfgs (F := F)) (adm a) 0).spec c (V1 m ρ c) = _ from
      Pipeline.unscopedRest_split preFacts0 c (V1 m ρ c), hT c] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ a 0 c).Φ 0 = iprop(Pipeline.ΦA spec0 c ∗ Pipeline.prefHeld pre0 c (fun _ => fullShare) a.1) from rfl]; unfold Pipeline.ΦA
    iintro ⟨Hp, Ht, Hr⟩
    isplitr [Ht]
    · isplitl [Hr]; · iexact Hr
      iexact Hp
    iexact Ht
  hout c := by
    rw [Pipeline.ownSems0_none, show (pdats m ρ a 0 c).Φ (Fin.last _) = iprop(Pipeline.ΦA spec0 c ∗ Pipeline.prefHeld pre0 c (fun _ => fullShare) a.1) from rfl]; unfold Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays_shared (p := 0) (pcfgs (F := F)) (adm a) (Ix := Unit) (Name := ℕ) (U := UR sig nD τ) (Lvl := ℕ)
      (launch₀0 (F := F)).win (launch₀0 (F := F)).sharedIn (launch₀0 (F := F)).arr_whole c (pdats m ρ a) (fun _ _ => rfl)
      (V1 m ρ c) (V2 m ρ a c) ((pdats m ρ a 0 c).arrAt · (cfg0 a).N) (hF0 m ρ a c) (hrest0 m ρ a c)
    rw [Pipeline.unscopedBufs_held, show Pipeline.unscopedRest (Ix := Unit) (Name := ℕ) (U := UR sig nD τ) (Lvl := ℕ) (Pipeline.pin (pcfgs (F := F)) (adm a) 0).spec c (V1 m ρ c) = _ from
      Pipeline.unscopedRest_split preFacts0 c (V1 m ρ c), hT c] at hjoin
    iintro ⟨Ha, HO, ⟨HY, Ht⟩, Hrest⟩
    imodintro
    isplitl [Ha Ht Hrest]
    · iapply hjoin; isplitl [Ha]; · iexact Ha
      isplitl [Ht]; · iexact Ht
      iexact Hrest
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) (adm a) (pdats m ρ a) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (V2 m ρ a) c).loose
  hwaits := Pipeline.hwaits_of_owed_zero _ _ _ _ L lv 1 fun _ _ => rfl
  pre c := iprop(StableHlo.held (c : Thread nD τ) (Pipeline.ucRefs τ sig) (W2 m ρ a c) ∗ R c)
  post c := iprop(StableHlo.held (c : Thread nD τ) (Pipeline.ucRefs τ sig) (W3 m ρ a c) ∗ R c)
  X c := iprop(∃ r, prngReg c r)
  Y c := iprop(∃ r, prngReg c r)
  Z c := Pipeline.unscopedRest (Ix := Unit) (Name := ℕ) (U := UR sig nD τ) (Lvl := ℕ) spec1 c (V2 m ρ a c)
  hentry c := by
    rw [Pipeline.ownSems0_none]
    have hsplit := Pipeline.arrays_of_unscopedBufs (p := 1) (pcfgs (F := F)) (adm a) (pdats m ρ a) (launch1 (F := F)).win (launch1 (F := F)).arr_whole c
      ((pdats m ρ a 1 c).share_full fun _ => rfl) (V2 m ρ a c) (A_eq1 (V2 m ρ a) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ a 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ a 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) (adm a) (Ix := Unit) (Name := ℕ) (U := UR sig nD τ) (Lvl := ℕ)
      (launch1 (F := F)).win (launch1 (F := F)).arr_whole c (pdats m ρ a) ((pdats m ρ a 1 c).share_full fun _ => rfl)
      (V2 m ρ a c) (V3 m ρ a c) ((pdats m ρ a 1 c).arrAt · cfg1.N) (hF1 m ρ a c) (hrest1 m ρ a c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 (custom_call 2) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) (adm a) (pdats m ρ a) () defs₀ 𝒱₀ L lv 2 where
  win := (launch2 (F := F)).win.to₀
  block_pos := (launch2 (F := F)).block_pos
  stage_whole := (launch2 (F := F)).stage_whole
  K := PEmpty
  osem k := k.elim
  ho := Pipeline.OwnSemFacts.none _
  hbody c := (body_obligation2 (V3 m ρ a) c).loose
  hwaits := Pipeline.hwaits_of_owed_zero _ _ _ _ L lv 2 fun _ _ => rfl
  pre c := iprop(StableHlo.held (c : Thread nD τ) (Pipeline.ucRefs τ sig) (W3 m ρ a c) ∗ R c)
  post c := iprop(StableHlo.held (c : Thread nD τ) (Pipeline.ucRefs τ sig) (W4 m ρ a c) ∗ R c)
  X c := iprop(∃ r, prngReg c r)
  Y c := iprop(∃ r, prngReg c r)
  Z c := Pipeline.unscopedRest (Ix := Unit) (Name := ℕ) (U := UR sig nD τ) (Lvl := ℕ) spec2 c (V3 m ρ a c)
  hentry c := by
    rw [Pipeline.ownSems0_none]
    have hsplit := Pipeline.arrays_of_unscopedBufs (p := 2) (pcfgs (F := F)) (adm a) (pdats m ρ a) (launch2 (F := F)).win (launch2 (F := F)).arr_whole c
      ((pdats m ρ a 2 c).share_full fun _ => rfl) (V3 m ρ a c) (A_eq2 (V3 m ρ a) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ a 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ a 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) (adm a) (Ix := Unit) (Name := ℕ) (U := UR sig nD τ) (Lvl := ℕ)
      (launch2 (F := F)).win (launch2 (F := F)).arr_whole c (pdats m ρ a) ((pdats m ρ a 2 c).share_full fun _ => rfl)
      (V3 m ρ a c) (V4 m ρ a c) ((pdats m ρ a 2 c).arrAt · cfg2.N) (hF2 m ρ a c) (hrest2 m ρ a c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 3 (custom_call 3) over the thread state: entered from every unscoped buffer at `W4`, left at `W5`
    (what the launch reads at the end). Its arrays split out of the unscoped buffers
    (`arrays_of_unscopedBufs`) and put back at the exit contents (`unscopedBufs_of_arrays`); the generator register into the
    class invariant `ΦA` and out; nothing owed; no semaphore of the kernel's own. -/
def reg3 : Pipeline.RegionSeg (pcfgs (F := F)) (adm a) (pdats m ρ a) () defs₀ 𝒱₀ L lv 3 where
  win := (launch3 (F := F)).win.to₀
  block_pos := (launch3 (F := F)).block_pos
  stage_whole := (launch3 (F := F)).stage_whole
  K := PEmpty
  osem k := k.elim
  ho := Pipeline.OwnSemFacts.none _
  hbody c := (body_obligation3 (V4 m ρ a) c).loose
  hwaits := Pipeline.hwaits_of_owed_zero _ _ _ _ L lv 3 fun _ _ => rfl
  pre c := iprop(StableHlo.held (c : Thread nD τ) (Pipeline.ucRefs τ sig) (W4 m ρ a c) ∗ R c)
  post c := iprop(Tₙ m ρ a c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V4 m ρ a c)
  hentry c := by
    rw [Pipeline.ownSems0_none]
    have hsplit := Pipeline.arrays_of_unscopedBufs (p := 3) (pcfgs (F := F)) (adm a) (pdats m ρ a) (launch3 (F := F)).win (launch3 (F := F)).arr_whole c
      ((pdats m ρ a 3 c).share_full fun _ => rfl) (V4 m ρ a c) (A_eq3 (V4 m ρ a) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ a 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ a 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) (adm a) (Ix := Unit) (Name := ℕ) (U := UR sig nD τ) (Lvl := ℕ)
      (launch3 (F := F)).win (launch3 (F := F)).arr_whole c (pdats m ρ a) ((pdats m ρ a 3 c).share_full fun _ => rfl)
      (V4 m ρ a c) (V5 m ρ a c) ((pdats m ρ a 3 c).arrAt · cfg3.N) (hF3 m ρ a c) (hrest3 m ρ a c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.KernelIdeal.Run

end
-- ==== Proof.Ideal.Run.lean ====
/- The run of the whole program: it ends with every buffer at the fold's last contents. -/
module

public import proofs.«01_k».proof.Proof.Ideal.Records
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (a : (pcfg0 (F := F)).Adm)

/-! ## @main as segments, and the launch -/

/-- @main's 5 segments in order: a host segment per stretch from its boundary's contents, a region per pallas_call. -/
abbrev segs (hT : ∀ c : Dev nD, (fun k => V1 m ρ c (pre0.ref k)) = a.1) : List (Pipeline.Seg (pcfgs (F := F)) (adm a) (pdats m ρ a) () defs₀ 𝒱₀ L lv) :=
  [ .host (hseg hostOps0 hostOps0_sub hostOps0_fresh (W0 m ρ)),
    .region (reg0 m ρ a hT),
    .region (reg1 m ρ a),
    .region (reg2 m ρ a),
    .region (reg3 m ρ a) ]
/-- @main IS the run of the segments: `Gen.main_chain`, then the segments' run against that chain by the kernel's
    definitional check (`chain_rfl`). -/
theorem main_run (hT : ∀ c : Dev nD, (fun k => V1 m ρ c (pre0.ref k)) = a.1) (c : Dev nD) : main (F := F) c = Pipeline.Seg.run (segs m ρ a hT) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- Every fair run from any memory with zero counters ends, nothing faulting, with every unscoped buffer at the last
    boundary's contents and every counter at zero. The hypothesis: the index table, as the host operations leave it, is
    the admissible one `a`. -/
theorem run_ends (hT : ∀ c : Dev nD, (fun k => V1 m ρ c (pre0.ref k)) = a.1) :
    θ_run defs (onTc (τ := τ) (main (F := F))) ⟨m, fun _ => 0, ρ⟩ (fun r => (∀ c : Dev nD, ∀ b : Ref sig .tc,
      ¬ (Proc.devRef .tc b : DevRef τ sig).isScoped → r.2.mem ((c.tc : Thread nD τ).loc b) = W5 m ρ a c (Proc.devRef .tc b))
      ∧ r.2.sem = fun _ => 0) :=
  Pipeline.θ_run_regions_kit_sems (pcfgs (F := F)) (adm a) (pdats m ρ a) () (cellOf_inj (adm a)) emb₁ defs₀ 𝒱₀ L lv m ρ main (segs m ρ a hT)
    (fun c Q => by rw [main_run m ρ a hT c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm a)) (cellOf_inj (adm a))) (Pipeline.launchToks (Pipeline.pin (pcfgs (F := F)) (adm a)) (cellOf_inj (adm a))))
    (hu₀ := by
      iintro Hu; imodintro
      isplitl [Hu]
      · iapply (show (ownU (initOf (Pipeline.cells (Pipeline.pin (pcfgs (F := F)) (adm a)) (cellOf_inj (adm a))) (Pipeline.launchToks (Pipeline.pin (pcfgs (F := F)) (adm a)) (cellOf_inj (adm a)))) : sProp 𝕄)
            ⊢ BI.own (emb₁ (initOf (Pipeline.cells (Pipeline.pin (pcfgs (F := F)) (adm a)) (cellOf_inj (adm a))) (Pipeline.launchToks (Pipeline.pin (pcfgs (F := F)) (adm a)) (cellOf_inj (adm a))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ a)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ a c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ a c) s')
      isplitl [Hh] <;> iassumption)
    (hQ := fun s h hz => ⟨fun c b hb => h c _ (mem_uc b hb), funext fun g => hz g (.inr (no_unscoped g.2))⟩)

end Cert.KernelIdeal.Run

end
-- ==== Proof.Ideal.Table.lean ====
/- The index table the gather reads: what the host leaves in it, that the indices in range make it admissible, and
   the frame of the whole program. -/
module

public import proofs.«01_k».proof.Defs
public import proofs.«01_k».proof.Proof.Gen.Pre_in_table
public import proofs.«01_k».proof.Proof.Ideal.Run
public import Idealize.ShloMosaic.Lib.ReduceAll
public import Idealize.ShloMosaic.Lib.StableHlo.RunRead

@[expose] public section

set_option maxRecDepth 16384

noncomputable section

namespace Cert.KernelIdeal.Run

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

/-- The table the gather reads is the reference indices in one row. -/
theorem table_eq (c : Dev nD) :
    W1 m ρ c (Proc.devRef .tc main_v46)
      = fun i => shapeCast S8192 (m ((c : Thread nD τ).loc main_arg14)) shapeCasts_S1024x8_S8192 i := by
  show StableHlo.after hostOps0 (W0 m ρ c) (Proc.devRef .tc main_v46) = _
  after_reads_simp
  rfl

/-- A row below the training set's length names a block of the image window. -/
theorem img_ok (v : BitVec 32) (hv : v.toNat < 50000) :
    ∃ h : (∀ a, ((![v.toNat, (0#32).toNat, (0#32).toNat, (0#32).toNat] : Fin 4 → Nat) a + 1) * S1x3x32x32.size a ≤ S50000x3x32x32.size a),
      EltTy.bits .f32 = 32 ∨ (Rect.block (s := S50000x3x32x32) S1x3x32x32.size ![v.toNat, (0#32).toNat, (0#32).toNat, (0#32).toNat] h).WholeWords (EltTy.packing .f32) := by
  refine ⟨fun a => ?_, .inl rfl⟩
  fin_cases a
  · show (v.toNat + 1) * 1 ≤ 50000
    omega
  all_goals first | exact (by decide : (0 + 1) * 3 ≤ 3) | exact (by decide : (0 + 1) * 32 ≤ 32) | exact (by decide : (0 + 1) * 1 ≤ 1) | exact (by decide : (0 + 1) * 10 ≤ 10)

/-- A row below the training set's length names a block of the label window. -/
theorem lab_ok (v : BitVec 32) (hv : v.toNat < 50000) :
    ∃ h : (∀ a, ((![v.toNat, (0#32).toNat, (0#32).toNat] : Fin 3 → Nat) a + 1) * S1x1x10.size a ≤ S50000x1x10.size a),
      EltTy.bits .f32 = 32 ∨ (Rect.block (s := S50000x1x10) S1x1x10.size ![v.toNat, (0#32).toNat, (0#32).toNat] h).WholeWords (EltTy.packing .f32) := by
  refine ⟨fun a => ?_, .inl rfl⟩
  fin_cases a
  · show (v.toNat + 1) * 1 ≤ 50000
    omega
  all_goals first | exact (by decide : (0 + 1) * 3 ≤ 3) | exact (by decide : (0 + 1) * 32 ≤ 32) | exact (by decide : (0 + 1) * 1 ≤ 1) | exact (by decide : (0 + 1) * 10 ≤ 10)

/-- A table whose entries are all rows of the training set is admissible. -/
theorem ok_of_lt (pf : pre0.Contents (Elt F)) (H : ∀ j : S8192.Idx, (pf 0 j : BitVec 32).toNat < 50000) : ok0 pf := by
  unfold ok0
  and_intros
  all_goals intro i
  all_goals first
    | exact img_ok _ (H _)
    | exact lab_ok _ (H _)

/-- The precondition bounds every reference index. -/
theorem refs_lt (hpre : (∀ c : Dev nD, Cert.Pre_in_table.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) = fun _ => 1#1)) (c : Dev nD) (i : S1024x8.Idx) :
    (m ((c : Thread nD τ).loc main_arg14) i : BitVec 32).toNat < 50000 := by
  have h0 := congrFun (hpre c) (fun a => a.elim0)
  simp only [Cert.Pre_in_table.fn] at h0
  have h1 := Host.reduce_andi_eq_one _ _ _ _ _ h0 i (funext fun a => a.elim0)
  obtain ⟨h2, h3⟩ := IntOp.andi_eq_one.1 h1
  have h4 : (0#32).sle (m ((c : Thread nD τ).loc main_arg14) i : BitVec 32) = true := by
    have h2' : BitVec.ofBool ((0#32).sle (m ((c : Thread nD τ).loc main_arg14) i : BitVec 32)) = 1#1 := h2
    cases hb : (0#32).sle (m ((c : Thread nD τ).loc main_arg14) i : BitVec 32)
    · rw [hb] at h2'; exact absurd h2' (by decide)
    · rfl
  have h5 : (m ((c : Thread nD τ).loc main_arg14) i : BitVec 32).slt 50000#32 = true := by
    have h3' : BitVec.ofBool ((m ((c : Thread nD τ).loc main_arg14) i : BitVec 32).slt 50000#32) = 1#1 := h3
    cases hb : (m ((c : Thread nD τ).loc main_arg14) i : BitVec 32).slt 50000#32
    · rw [hb] at h3'; exact absurd h3' (by decide)
    · rfl
  generalize (m ((c : Thread nD τ).loc main_arg14) i : BitVec 32) = v at *
  have h6 := BitVec.sle_iff_toInt_le.1 h4
  have h7 := BitVec.slt_iff_toInt_lt.1 h5
  rw [BitVec.toInt_eq_toNat_cond v] at h6 h7
  have : (50000#32).toInt = 50000 := by decide
  have : (0#32).toInt = 0 := by decide
  split at h6 <;> omega

variable (hpre : (∀ c : Dev nD, Cert.Pre_in_table.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) = fun _ => 1#1))
include hpre

/-- Every entry of the table the gather reads is a row of the training set. -/
theorem table_lt (c : Dev nD) (j : S8192.Idx) : (V1 m ρ c main_v46 j : BitVec 32).toNat < 50000 := by
  rw [show V1 m ρ c main_v46 = _ from table_eq m ρ c]
  exact refs_lt m hpre c _

/-- The table as launched, an admissible one. -/
def tbl : (pcfg0 (F := F)).Adm :=
  ⟨fun k => V1 m ρ 0 (pre0.ref k), ok_of_lt _ fun j => table_lt m ρ hpre 0 j⟩

/-- Every device (there is one) holds that table. -/
theorem tbl_eq (c : Dev nD) : (fun k => V1 m ρ c (pre0.ref k)) = (tbl m ρ hpre).1 := by
  have hc : c = 0 := Subsingleton.elim _ _
  subst hc
  rfl

/-- **The run**: it ends, each buffer holding the fold of the calls' write-backs and each semaphore at zero. -/
theorem ends : θ_run defs (onTc (τ := τ) (main (F := F))) ⟨m, fun _ => 0, ρ⟩
    (fun r => (∀ c : Dev nD, ∀ b : Ref sig .tc, ¬ (Proc.devRef .tc b : DevRef τ sig).isScoped →
        r.2.mem ((c.tc : Thread nD τ).loc b) = W5 m ρ (tbl m ρ hpre) c (Proc.devRef .tc b)) ∧ r.2.sem = fun _ => 0) :=
  run_ends m ρ (tbl m ρ hpre) (tbl_eq m ρ hpre)

/-- An argument ends as it was launched. -/
theorem arg_kept (c : Dev nD) (σ : (ℓ : Loc nD τ sig) → Buf (Elt F) ℓ) (h : ∀ b : Ref sig .tc, ¬ (Proc.devRef .tc b : DevRef τ sig).isScoped →
    σ ((c.tc : Thread nD τ).loc b) = W5 m ρ (tbl m ρ hpre) c (Proc.devRef .tc b)) (r : Ref sig .tc) (hr : r ∈ argRefs)
    (hs : ¬ (Proc.devRef .tc r : DevRef τ sig).isScoped) : σ ((c.tc : Thread nD τ).loc r) = m ((c.tc : Thread nD τ).loc r) :=
  (h r hs).trans (W5_args m ρ (tbl m ρ hpre) c r hr)

/-- **The frame**: the run ends, every argument as launched and every semaphore at zero. -/
theorem frame : θ_run defs (onTc (τ := τ) (main (F := F))) ⟨m, fun _ => 0, ρ⟩
    (fun r => (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) ∧ r.2.mem ((c.tc : Thread nD τ).loc main_arg11) = m ((c.tc : Thread nD τ).loc main_arg11) ∧ r.2.mem ((c.tc : Thread nD τ).loc main_arg12) = m ((c.tc : Thread nD τ).loc main_arg12) ∧ r.2.mem ((c.tc : Thread nD τ).loc main_arg13) = m ((c.tc : Thread nD τ).loc main_arg13) ∧ r.2.mem ((c.tc : Thread nD τ).loc main_arg14) = m ((c.tc : Thread nD τ).loc main_arg14)) ∧ r.2.sem = fun _ => 0) := by
  refine (θ_run defs _ _).mono (fun r h => ⟨fun c => ?_, h.2⟩) (ends m ρ hpre)
  have K := fun r hr hs => arg_kept m ρ hpre c _ (h.1 c) r hr hs
  refine ⟨K _ (by decide) (by decide), K _ (by decide) (by decide), K _ (by decide) (by decide), K _ (by decide) (by decide), K _ (by decide) (by decide), K _ (by decide) (by decide), K _ (by decide) (by decide), K _ (by decide) (by decide), K _ (by decide) (by decide), K _ (by decide) (by decide), K _ (by decide) (by decide), K _ (by decide) (by decide), K _ (by decide) (by decide), K _ (by decide) (by decide), K _ (by decide) (by decide)⟩

end Cert.KernelIdeal.Run

end
-- ==== Proof.Frames.lean ====
/- The frames of the three programs, and what the idealization preserves. -/
module

public import proofs.«01_k».proof.Defs
public import proofs.«01_k».proof.Proof.Ideal.Table
public import proofs.«01_k».proof.Proof.Bits.Table
public import proofs.«01_k».proof.Proof.Gen.Pre_in_table
public import proofs.«01_k».proof.Proof.Gen.ReferenceIdeal.Run
public import Idealize.ShloMosaic.Lib.Quiescent

@[expose] public section

noncomputable section

namespace Cert.Proof

open Idealize.ShloMosaic Idealize.SL.Sem

/-- The kernel on words ends with its arguments unchanged and its semaphores at zero. -/
theorem frame_kernel : Cert.quiescent_Kernel (hKernel := Cert.Kernel.Gen.facts) (hPre_in_table := Cert.Pre_in_table.Gen.facts) :=
  fun m ρ hpre => Cert.Kernel.Run.frame m ρ hpre

/-- The kernel on the extended reals ends with its arguments unchanged and its semaphores at zero. -/
theorem frame_ideal : Cert.quiescent_KernelIdeal (hKernelIdeal := Cert.KernelIdeal.Gen.facts) (hPre_in_table := Cert.Pre_in_table.Gen.facts) :=
  fun m ρ hpre => Cert.KernelIdeal.Run.frame m ρ hpre

/-- The reference ends with its arguments unchanged; it has no semaphore. -/
theorem frame_reference : Cert.quiescent_ReferenceIdeal (hReferenceIdeal := Cert.ReferenceIdeal.Gen.facts) :=
  fun m ρ _ => (θ_run _ _ _).mono (fun r h => ⟨fun c => (h c).2, sem_eq_zero_of_no_sems rfl r.2⟩)
    (Cert.ReferenceIdeal.Value.run m ρ)

/-- The same on the reference numbers inside the training set. -/
theorem frame_reference_pre : Cert.quiescent_ReferenceIdeal_pre_in_table (hReferenceIdeal := Cert.ReferenceIdeal.Gen.facts) (hPre_in_table := Cert.Pre_in_table.Gen.facts) :=
  fun m ρ _ => frame_reference m ρ trivial

end Cert.Proof

end
-- ==== Proof.Spec.lean ====
/- The mathematics both programs compute, over the extended reals, written as plain functions. -/
module

public import Idealize.ShloMosaic.Lib.Pointwise

@[expose] public section

noncomputable section

namespace Cert.Spec

open Idealize.ShloMosaic
open scoped BigOperators

/-- The value a maximum over an axis starts from. -/
def lo : EReal := Ideal.ofBits .f32 0xFF800000#32

/-- The linear head over one image's features: the sum over the five pooled rows and eighty lanes. -/
def lin (G : Fin 5 → Fin 80 → EReal) (H : Fin 5 → Fin 80 → EReal) : EReal := ∑ i : Fin 5, ∑ q : Fin 80, G i q * H i q

/-- The softmax of eight scores. -/
def soft (N : Fin 8 → EReal) (s : Fin 8) : EReal :=
  Ideal.div (Ideal.exp (N s - Finset.univ.fold max lo N)) (∑ t : Fin 8, Ideal.exp (N t - Finset.univ.fold max lo N))

/-- One class of one query's answer: eight neighbours' corrected label scores weighted by the softmax of minus their distances. `D s h` is
    the difference of the heads, `G h` the gate of this class, `M s` the label score of this class. -/
def answer (D : Fin 8 → Fin 12 → EReal) (G : Fin 12 → EReal) (M : Fin 8 → EReal) : EReal :=
  ∑ s : Fin 8, (M s + ∑ h : Fin 12, D s h * G h) * soft (fun t => 0 - Ideal.sqrt (∑ h : Fin 12, D t h * D t h)) s

/-- The first layer as banded products: row `h`, lane `q` (bias and positive part included). -/
def band1 (x : Fin 3 → Fin 32 → Fin 32 → EReal) (T : Fin 15 → Fin 32 → Fin 168 → EReal) (b : Fin 168 → EReal) (h : Fin 28) (q : Fin 168) : EReal :=
  max ((∑ c : Fin 3, ∑ d : Fin 5, ∑ w : Fin 32, x c ⟨d.val + h.val, by omega⟩ w * T ⟨c.val * 5 + d.val, by omega⟩ w q) + b q) 0

/-- Its two-by-two pooling: the two lane halves are the even and the odd columns. -/
def bandPool1 (x : Fin 3 → Fin 32 → Fin 32 → EReal) (T : Fin 15 → Fin 32 → Fin 168 → EReal) (b : Fin 168 → EReal) (r : Fin 14) (q : Fin 84) : EReal :=
  Finset.univ.fold max lo fun k : Fin 2 => max (band1 x T b ⟨r.val * 2 + k.val, by omega⟩ ⟨q.val, by omega⟩)
    (band1 x T b ⟨r.val * 2 + k.val, by omega⟩ ⟨84 + q.val, by omega⟩)

/-- The second layer as banded products over the pooled first layer, six channels of fourteen lanes. -/
def band2 (p : Fin 14 → Fin 84 → EReal) (T : Fin 30 → Fin 14 → Fin 160 → EReal) (b : Fin 160 → EReal) (h : Fin 10) (q : Fin 160) : EReal :=
  max ((∑ c : Fin 6, ∑ d : Fin 5, ∑ w : Fin 14, p ⟨d.val + h.val, by omega⟩ ⟨c.val * 14 + w.val, by omega⟩ * T ⟨c.val * 5 + d.val, by omega⟩ w q) + b q) 0

/-- Its pooling. -/
def bandPool2 (p : Fin 14 → Fin 84 → EReal) (T : Fin 30 → Fin 14 → Fin 160 → EReal) (b : Fin 160 → EReal) (r : Fin 5) (q : Fin 80) : EReal :=
  Finset.univ.fold max lo fun k : Fin 2 => max (band2 p T b ⟨r.val * 2 + k.val, by omega⟩ ⟨q.val, by omega⟩)
    (band2 p T b ⟨r.val * 2 + k.val, by omega⟩ ⟨80 + q.val, by omega⟩)

end Cert.Spec
-- ==== Proof.Band.lean ====
/- The banded products of the specification as plain convolutions: a band matrix whose rows are shifted copies of a kernel row
   multiplies a line of pixels as the convolution does. -/
module

public import proofs.«01_k».proof.Proof.Spec
public import Idealize.ShloMosaic.Lib.Tactic

@[expose] public section

noncomputable section

namespace Cert.Spec

open Idealize.ShloMosaic
open scoped BigOperators

/-- A five-by-five convolution over `C` channels at row `h`, column `j`, bias and positive part included. -/
def conv {C O S R : Nat} (hS : R + 4 ≤ S) (x : Fin C → Fin S → Fin S → EReal) (w : Fin O → Fin C → Fin 5 → Fin 5 → EReal) (b : Fin O → EReal)
    (o : Fin O) (h j : Fin R) : EReal :=
  max ((∑ c : Fin C, ∑ d : Fin 5, ∑ D : Fin 5, w o c d D * x c ⟨d.val + h.val, by omega⟩ ⟨D.val + j.val, by omega⟩) + b o) 0

/-- The maximum over the two-by-two square of row pair `r` and column pair `j`. -/
def pool {R Q : Nat} (hR : Q * 2 ≤ R) (a : Fin R → Fin R → EReal) (r j : Fin Q) : EReal :=
  max (max (a ⟨r.val * 2, by omega⟩ ⟨j.val * 2, by omega⟩) (a ⟨r.val * 2, by omega⟩ ⟨j.val * 2 + 1, by omega⟩))
    (max (a ⟨r.val * 2 + 1, by omega⟩ ⟨j.val * 2, by omega⟩) (a ⟨r.val * 2 + 1, by omega⟩ ⟨j.val * 2 + 1, by omega⟩))

/-- The two layers of one image: the features, by channel, row and column. -/
def feat (x : Fin 3 → Fin 32 → Fin 32 → EReal) (w1 : Fin 6 → Fin 3 → Fin 5 → Fin 5 → EReal) (b1 : Fin 6 → EReal)
    (w2 : Fin 16 → Fin 6 → Fin 5 → Fin 5 → EReal) (b2 : Fin 16 → EReal) (o : Fin 16) (r j : Fin 5) : EReal :=
  pool (R := 10) (by omega) (conv (S := 14) (by omega) (fun c h w => pool (R := 28) (Q := 14) (by omega) (conv (S := 32) (by omega) x w1 b1 c) h w) w2 b2 o) r j

/-- The start of a maximum is below everything. -/
theorem lo_eq : lo = ⊥ := by
  simp [lo, Ideal.ofBits, Ideal.ieee]

/-- The word of one is one. -/
theorem one_eq : Ideal.ofBits .f32 0x3F800000#32 = 1 := by
  simp [Ideal.ofBits, Ideal.ieee, -EReal.coe_mul]
  norm_num

/-- The word of zero is zero. -/
theorem zero_eq : Ideal.ofBits .f32 0x00000000#32 = 0 := by
  simp [Ideal.ofBits, Ideal.ieee]

/-- A line of pixels times a band of shifted kernel rows is the kernel row over the shifted pixels. -/
theorem line_band {W K : Nat} (x : Fin W → EReal) (k : Fin K → EReal) (j : Nat) (hj : j + K ≤ W) :
    ∑ w : Fin W, x w * ∑ D : Fin K, k D * (if w.val = D.val + j then 1 else 0) = ∑ D : Fin K, k D * x ⟨D.val + j, by omega⟩ := by
  have one : ∀ w : Fin W, x w * ∑ D : Fin K, k D * (if w.val = D.val + j then (1 : EReal) else 0)
      = ∑ D : Fin K, if w.val = D.val + j then k D * x w else 0 := by
    intro w
    by_cases hw : ∃ D : Fin K, w.val = D.val + j
    · obtain ⟨D, hD⟩ := hw
      rw [Finset.sum_eq_single D, Finset.sum_eq_single D]
      · rw [if_pos hD, if_pos hD, mul_one, mul_comm]
      · intro E _ hE
        rw [if_neg]
        intro h
        exact hE (Fin.ext (by omega))
      · intro h; exact absurd (Finset.mem_univ _) h
      · intro E _ hE
        rw [if_neg, mul_zero]
        intro h
        exact hE (Fin.ext (by omega))
      · intro h; exact absurd (Finset.mem_univ _) h
    · have hn : ∀ D : Fin K, ¬ w.val = D.val + j := fun D h => hw ⟨D, h⟩
      simp only [hn, if_false, mul_zero, Finset.sum_const_zero]
  rw [Finset.sum_congr rfl fun w _ => one w, Finset.sum_comm]
  refine Finset.sum_congr rfl fun D _ => ?_
  rw [Finset.sum_eq_single (⟨D.val + j, by omega⟩ : Fin W)]
  · rw [if_pos rfl]
  · intro w _ hw
    rw [if_neg]
    intro h
    exact hw (Fin.ext h)
  · intro h; exact absurd (Finset.mem_univ _) h

/-- A maximum of two rows of column pairs, started from below everything, is the maximum over the square. -/
theorem fold_two (f g : Fin 2 → EReal) : Finset.univ.fold max lo (fun k : Fin 2 => max (f k) (g k)) = max (max (f 0) (g 0)) (max (f 1) (g 1)) := by
  rw [lo_eq]
  apply le_antisymm
  · rw [Finset.fold_max_le]
    refine ⟨bot_le, fun k _ => ?_⟩
    fin_cases k
    · exact le_max_left _ _
    · exact le_max_right _ _
  · refine max_le ?_ ?_
    · exact (Finset.le_fold_max _).2 (Or.inr ⟨0, Finset.mem_univ _, le_rfl⟩)
    · exact (Finset.le_fold_max _).2 (Or.inr ⟨1, Finset.mem_univ _, le_rfl⟩)

/-- The first layer: the banded products with the lanes of column parity `p`, channel `o`, column pair `j`. -/
theorem band1_conv (x : Fin 3 → Fin 32 → Fin 32 → EReal) (T : Fin 15 → Fin 32 → Fin 168 → EReal) (b : Fin 168 → EReal)
    (w1 : Fin 6 → Fin 3 → Fin 5 → Fin 5 → EReal) (b1 : Fin 6 → EReal)
    (hT : ∀ (c : Fin 3) (d : Fin 5) (w : Fin 32) (p : Fin 2) (o : Fin 6) (j : Fin 14), T ⟨c.val * 5 + d.val, by omega⟩ w ⟨p.val * 84 + (o.val * 14 + j.val), by omega⟩
      = ∑ D : Fin 5, w1 o c d D * (if w.val = D.val + (j.val * 2 + p.val) then 1 else 0))
    (hb : ∀ (p : Fin 2) (o : Fin 6) (j : Fin 14), b ⟨p.val * 84 + (o.val * 14 + j.val), by omega⟩ = b1 o)
    (h : Fin 28) (p : Fin 2) (o : Fin 6) (j : Fin 14) :
    band1 x T b h ⟨p.val * 84 + (o.val * 14 + j.val), by omega⟩ = conv (S := 32) (by omega) x w1 b1 o h ⟨j.val * 2 + p.val, by omega⟩ := by
  unfold band1 conv
  rw [hb]
  congr 2
  refine Finset.sum_congr rfl fun c _ => Finset.sum_congr rfl fun d _ => ?_
  rw [← line_band (fun w => x c ⟨d.val + h.val, by omega⟩ w) (fun D => w1 o c d D) (j.val * 2 + p.val) (by omega)]
  exact Finset.sum_congr rfl fun w _ => by rw [hT]

/-- … and its pooling. -/
theorem bandPool1_pool (x : Fin 3 → Fin 32 → Fin 32 → EReal) (T : Fin 15 → Fin 32 → Fin 168 → EReal) (b : Fin 168 → EReal)
    (w1 : Fin 6 → Fin 3 → Fin 5 → Fin 5 → EReal) (b1 : Fin 6 → EReal)
    (hT : ∀ (c : Fin 3) (d : Fin 5) (w : Fin 32) (p : Fin 2) (o : Fin 6) (j : Fin 14), T ⟨c.val * 5 + d.val, by omega⟩ w ⟨p.val * 84 + (o.val * 14 + j.val), by omega⟩
      = ∑ D : Fin 5, w1 o c d D * (if w.val = D.val + (j.val * 2 + p.val) then 1 else 0))
    (hb : ∀ (p : Fin 2) (o : Fin 6) (j : Fin 14), b ⟨p.val * 84 + (o.val * 14 + j.val), by omega⟩ = b1 o)
    (r : Fin 14) (o : Fin 6) (j : Fin 14) :
    bandPool1 x T b r ⟨o.val * 14 + j.val, by omega⟩ = pool (R := 28) (Q := 14) (by omega) (conv (S := 32) (by omega) x w1 b1 o) r j := by
  have e0 : ∀ h : Fin 28, band1 x T b h ⟨o.val * 14 + j.val, by omega⟩ = conv (S := 32) (by omega) x w1 b1 o h ⟨j.val * 2, by omega⟩ := fun h => by
    rw [← show _ = conv (S := 32) (by omega) x w1 b1 o h ⟨j.val * 2, by omega⟩ from band1_conv x T b w1 b1 hT hb h 0 o j]
    congr 1 <;> exact Fin.ext (by simp)
  have e1 : ∀ h : Fin 28, band1 x T b h ⟨84 + (o.val * 14 + j.val), by omega⟩ = conv (S := 32) (by omega) x w1 b1 o h ⟨j.val * 2 + 1, by omega⟩ := fun h => by
    rw [← show _ = conv (S := 32) (by omega) x w1 b1 o h ⟨j.val * 2 + 1, by omega⟩ from band1_conv x T b w1 b1 hT hb h 1 o j]
    congr 1 <;> exact Fin.ext (by simp)
  unfold bandPool1 pool
  rw [fold_two]
  simp only [e0, e1]
  rfl

/-- The second layer: the banded products with the lanes of column parity `p`, channel `o`, column pair `j`, over planes `P` laid out in lanes. -/
theorem band2_conv (p : Fin 14 → Fin 84 → EReal) (P : Fin 6 → Fin 14 → Fin 14 → EReal) (T : Fin 30 → Fin 14 → Fin 160 → EReal) (b : Fin 160 → EReal)
    (w2 : Fin 16 → Fin 6 → Fin 5 → Fin 5 → EReal) (b2 : Fin 16 → EReal)
    (hP : ∀ (c : Fin 6) (h w : Fin 14), p h ⟨c.val * 14 + w.val, by omega⟩ = P c h w)
    (hT : ∀ (c : Fin 6) (d : Fin 5) (w : Fin 14) (p : Fin 2) (o : Fin 16) (j : Fin 5), T ⟨c.val * 5 + d.val, by omega⟩ w ⟨p.val * 80 + (o.val * 5 + j.val), by omega⟩
      = ∑ D : Fin 5, w2 o c d D * (if w.val = D.val + (j.val * 2 + p.val) then 1 else 0))
    (hb : ∀ (p : Fin 2) (o : Fin 16) (j : Fin 5), b ⟨p.val * 80 + (o.val * 5 + j.val), by omega⟩ = b2 o)
    (h : Fin 10) (q : Fin 2) (o : Fin 16) (j : Fin 5) :
    band2 p T b h ⟨q.val * 80 + (o.val * 5 + j.val), by omega⟩ = conv (S := 14) (by omega) P w2 b2 o h ⟨j.val * 2 + q.val, by omega⟩ := by
  unfold band2 conv
  rw [hb]
  congr 2
  refine Finset.sum_congr rfl fun c _ => Finset.sum_congr rfl fun d _ => ?_
  rw [← line_band (fun w => P c ⟨d.val + h.val, by omega⟩ w) (fun D => w2 o c d D) (j.val * 2 + q.val) (by omega)]
  exact Finset.sum_congr rfl fun w _ => by rw [hT, hP]

/-- … and its pooling. -/
theorem bandPool2_pool (p : Fin 14 → Fin 84 → EReal) (P : Fin 6 → Fin 14 → Fin 14 → EReal) (T : Fin 30 → Fin 14 → Fin 160 → EReal) (b : Fin 160 → EReal)
    (w2 : Fin 16 → Fin 6 → Fin 5 → Fin 5 → EReal) (b2 : Fin 16 → EReal)
    (hP : ∀ (c : Fin 6) (h w : Fin 14), p h ⟨c.val * 14 + w.val, by omega⟩ = P c h w)
    (hT : ∀ (c : Fin 6) (d : Fin 5) (w : Fin 14) (p : Fin 2) (o : Fin 16) (j : Fin 5), T ⟨c.val * 5 + d.val, by omega⟩ w ⟨p.val * 80 + (o.val * 5 + j.val), by omega⟩
      = ∑ D : Fin 5, w2 o c d D * (if w.val = D.val + (j.val * 2 + p.val) then 1 else 0))
    (hb : ∀ (p : Fin 2) (o : Fin 16) (j : Fin 5), b ⟨p.val * 80 + (o.val * 5 + j.val), by omega⟩ = b2 o)
    (r : Fin 5) (o : Fin 16) (j : Fin 5) :
    bandPool2 p T b r ⟨o.val * 5 + j.val, by omega⟩ = pool (R := 10) (Q := 5) (by omega) (conv (S := 14) (by omega) P w2 b2 o) r j := by
  have e0 : ∀ h : Fin 10, band2 p T b h ⟨o.val * 5 + j.val, by omega⟩ = conv (S := 14) (by omega) P w2 b2 o h ⟨j.val * 2, by omega⟩ := fun h => by
    rw [← show _ = conv (S := 14) (by omega) P w2 b2 o h ⟨j.val * 2, by omega⟩ from band2_conv p P T b w2 b2 hP hT hb h 0 o j]
    congr 1 <;> exact Fin.ext (by simp)
  have e1 : ∀ h : Fin 10, band2 p T b h ⟨80 + (o.val * 5 + j.val), by omega⟩ = conv (S := 14) (by omega) P w2 b2 o h ⟨j.val * 2 + 1, by omega⟩ := fun h => by
    rw [← show _ = conv (S := 14) (by omega) P w2 b2 o h ⟨j.val * 2 + 1, by omega⟩ from band2_conv p P T b w2 b2 hP hT hb h 1 o j]
    congr 1 <;> exact Fin.ext (by simp)
  unfold bandPool2 pool
  rw [fold_two]
  simp only [e0, e1]
  rfl

/-- The four hundred features in the order of the weights' columns are the five rows of eighty lanes. -/
theorem sum_lanes (f : Fin 400 → EReal) : ∑ k : Fin 400, f k = ∑ i : Fin 5, ∑ q : Fin 80, f ⟨q.val / 5 * 25 + i.val * 5 + q.val % 5, by omega⟩ := by
  rw [← Fintype.sum_prod_type']
  symm
  refine Fintype.sum_equiv ⟨fun p : Fin 5 × Fin 80 => (⟨p.2.val / 5 * 25 + p.1.val * 5 + p.2.val % 5, by omega⟩ : Fin 400),
    fun k => (⟨k.val % 25 / 5, by omega⟩, ⟨k.val / 25 * 5 + k.val % 5, by omega⟩), fun p => ?_, fun k => ?_⟩ _ _ fun p => rfl
  · obtain ⟨i, q⟩ := p
    refine Prod.ext (Fin.ext ?_) (Fin.ext ?_)
    · show (q.val / 5 * 25 + i.val * 5 + q.val % 5) % 25 / 5 = i.val
      omega
    · show (q.val / 5 * 25 + i.val * 5 + q.val % 5) / 25 * 5 + (q.val / 5 * 25 + i.val * 5 + q.val % 5) % 5 = q.val
      omega
  · refine Fin.ext ?_
    show (k.val / 25 * 5 + k.val % 5) / 5 * 25 + k.val % 25 / 5 * 5 + (k.val / 25 * 5 + k.val % 5) % 5 = k.val
    omega

end Cert.Spec
-- ==== Proof.GatherRef.lean ====
/- Gathers along one axis read at an index: rows of a stack of arrays, columns of a matrix. Stated once for any sizes. -/
module

public import Idealize.ShloMosaic.Lib.Pointwise
public import Idealize.ShloMosaic.Lib.Tactic
public import Idealize.ShloMosaic.Lib.ValueIdx

@[expose] public section

noncomputable section

namespace Cert.Spec

open Idealize.ShloMosaic Idealize.ShloMosaic.TcCoe Idealize.ShloMosaic.Tactic

variable {α : Type} {A B N n w : Nat}

/-- The dimension numbers of taking columns (last axis) of a rank-three array. -/
abbrev cols3 (A B N n : Nat) (wf : GatherDims.WF ⟨3, ![A, B, N]⟩ ⟨2, ![n, 1]⟩ ⟨3, ![A, B, n]⟩ [0, 1] [2] [] [2] [] 1 ![A, B, 1]) :
    GatherDims ⟨3, ![A, B, N]⟩ ⟨2, ![n, 1]⟩ ⟨3, ![A, B, n]⟩ where
  offsetDims := [0, 1]
  collapsedSliceDims := [2]
  operandBatchingDims := []
  startIndicesBatchingDims := []
  startIndexMap := [2]
  indexVectorDim := 1
  sliceSizes := ![A, B, 1]
  wf := wf

/-- Taking columns reads the column the index names, clamped. -/
theorem cols3_at (wf) (x : (⟨3, ![A, B, N]⟩ : Shape).Idx → α) (idx : IVec ⟨2, ![n, 1]⟩ w) (a : Fin A) (b : Fin B) (q : Fin n) (k : Fin N)
    (hk : (idx (ix2 (n1 := 1) q 0)).toInt.toNat = k.val) :
    Host.gather (cols3 A B N n wf) x idx (ix3 a b q) = x (ix3 a b k) := by
  unfold Host.gather
  refine congrArg x ?_
  funext i
  refine Fin.ext ?_
  show GatherDims.start _ _ _ i + GatherDims.batchCoord _ _ i + GatherDims.offCoord _ _ i = _
  rw [GatherDims.batchCoord_eq_zero _ _ _ List.not_mem_nil]
  have hi : i = 0 ∨ i = 1 ∨ i = 2 := by
    match i with
    | ⟨0, _⟩ => exact Or.inl rfl
    | ⟨1, _⟩ => exact Or.inr (Or.inl rfl)
    | ⟨2, _⟩ => exact Or.inr (Or.inr rfl)
  rcases hi with rfl | rfl | rfl
  · unfold GatherDims.start
    rw [dif_neg (show (0 : Fin 3) ∉ [(2 : Fin 3)] by decide)]
    unfold GatherDims.offCoord
    rw [dif_pos (show (0 : Fin 3) ∈ (cols3 A B N n wf).sKept from (show (0 : Fin 3) ∈ [(0 : Fin 3), 1] by decide))]
    show 0 + 0 + _ = _
    rw [Nat.zero_add]
    rfl
  · unfold GatherDims.start
    rw [dif_neg (show (1 : Fin 3) ∉ [(2 : Fin 3)] by decide)]
    unfold GatherDims.offCoord
    rw [dif_pos (show (1 : Fin 3) ∈ (cols3 A B N n wf).sKept from (show (1 : Fin 3) ∈ [(0 : Fin 3), 1] by decide))]
    show 0 + 0 + _ = _
    rw [Nat.zero_add]
    rfl
  · rw [GatherDims.offCoord_eq_zero _ _ _ (fun h => ((GatherDims.mem_sKept _ _).mp h).1 (List.mem_singleton.mpr rfl))]
    unfold GatherDims.start
    rw [dif_pos (by exact List.mem_singleton.mpr rfl)]
    have hsi : (cols3 A B N n wf).siIdx (ix3 a b q) ⟨List.idxOf (2 : Fin 3) (cols3 A B N n wf).startIndexMap,
        List.idxOf_lt_length_iff.2 (List.mem_singleton.mpr rfl)⟩ = ix2 (n1 := 1) q 0 := by
      funext b; refine Fin.ext ?_
      match b with
      | ⟨0, _⟩ => rfl
      | ⟨1, _⟩ => rfl
    rw [hsi, hk]
    show min k.val (N - 1) + 0 + 0 = k.val
    omega

/-- The dimension numbers of taking columns of a matrix. -/
abbrev cols2 (A N n : Nat) (wf : GatherDims.WF ⟨2, ![A, N]⟩ ⟨2, ![n, 1]⟩ ⟨2, ![A, n]⟩ [0] [1] [] [1] [] 1 ![A, 1]) :
    GatherDims ⟨2, ![A, N]⟩ ⟨2, ![n, 1]⟩ ⟨2, ![A, n]⟩ where
  offsetDims := [0]
  collapsedSliceDims := [1]
  operandBatchingDims := []
  startIndicesBatchingDims := []
  startIndexMap := [1]
  indexVectorDim := 1
  sliceSizes := ![A, 1]
  wf := wf

/-- Taking columns of a matrix reads the column the index names. -/
theorem cols2_at (wf) (x : (⟨2, ![A, N]⟩ : Shape).Idx → α) (idx : IVec ⟨2, ![n, 1]⟩ w) (a : Fin A) (q : Fin n) (k : Fin N)
    (hk : (idx (ix2 (n1 := 1) q 0)).toInt.toNat = k.val) :
    Host.gather (cols2 A N n wf) x idx (ix2 a q) = x (ix2 a k) := by
  unfold Host.gather
  refine congrArg x ?_
  funext i
  refine Fin.ext ?_
  show GatherDims.start _ _ _ i + GatherDims.batchCoord _ _ i + GatherDims.offCoord _ _ i = _
  rw [GatherDims.batchCoord_eq_zero _ _ _ List.not_mem_nil]
  have hi : i = 0 ∨ i = 1 := by
    match i with
    | ⟨0, _⟩ => exact Or.inl rfl
    | ⟨1, _⟩ => exact Or.inr rfl
  rcases hi with rfl | rfl
  · unfold GatherDims.start
    rw [dif_neg (show (0 : Fin 2) ∉ [(1 : Fin 2)] by decide)]
    unfold GatherDims.offCoord
    rw [dif_pos (show (0 : Fin 2) ∈ (cols2 A N n wf).sKept from (show (0 : Fin 2) ∈ [(0 : Fin 2)] by decide))]
    show 0 + 0 + _ = _
    rw [Nat.zero_add]
    rfl
  · rw [GatherDims.offCoord_eq_zero _ _ _ (fun h => ((GatherDims.mem_sKept _ _).mp h).1 (List.mem_singleton.mpr rfl))]
    unfold GatherDims.start
    rw [dif_pos (by exact List.mem_singleton.mpr rfl)]
    have hsi : (cols2 A N n wf).siIdx (ix2 a q) ⟨List.idxOf (1 : Fin 2) (cols2 A N n wf).startIndexMap,
        List.idxOf_lt_length_iff.2 (List.mem_singleton.mpr rfl)⟩ = ix2 (n1 := 1) q 0 := by
      funext b; refine Fin.ext ?_
      match b with
      | ⟨0, _⟩ => rfl
      | ⟨1, _⟩ => rfl
    rw [hsi, hk]
    show min k.val (N - 1) + 0 + 0 = k.val
    omega

/-- The dimension numbers of taking images out of a stack. -/
abbrev rows4 (N A B C n : Nat) (wf : GatherDims.WF ⟨4, ![N, A, B, C]⟩ ⟨2, ![n, 1]⟩ ⟨4, ![n, A, B, C]⟩ [1, 2, 3] [0] [] [0] [] 1 ![1, A, B, C]) :
    GatherDims ⟨4, ![N, A, B, C]⟩ ⟨2, ![n, 1]⟩ ⟨4, ![n, A, B, C]⟩ where
  offsetDims := [1, 2, 3]
  collapsedSliceDims := [0]
  operandBatchingDims := []
  startIndicesBatchingDims := []
  startIndexMap := [0]
  indexVectorDim := 1
  sliceSizes := ![1, A, B, C]
  wf := wf

/-- Taking images out of a stack reads the image the index names. -/
theorem rows4_at {C : Nat} (wf) (x : (⟨4, ![N, A, B, C]⟩ : Shape).Idx → α) (idx : IVec ⟨2, ![n, 1]⟩ w) (q : Fin n) (a : Fin A) (b : Fin B) (c : Fin C) (k : Fin N)
    (hk : (idx (ix2 (n1 := 1) q 0)).toInt.toNat = k.val) :
    Host.gather (rows4 N A B C n wf) x idx (ix4 q a b c) = x (ix4 k a b c) := by
  unfold Host.gather
  refine congrArg x ?_
  funext i
  refine Fin.ext ?_
  show GatherDims.start _ _ _ i + GatherDims.batchCoord _ _ i + GatherDims.offCoord _ _ i = _
  rw [GatherDims.batchCoord_eq_zero _ _ _ List.not_mem_nil]
  by_cases h0 : i = 0
  · subst h0
    rw [GatherDims.offCoord_eq_zero _ _ _ (fun h => ((GatherDims.mem_sKept _ _).mp h).1 (List.mem_singleton.mpr rfl))]
    unfold GatherDims.start
    rw [dif_pos (by exact List.mem_singleton.mpr rfl)]
    have hsi : (rows4 N A B C n wf).siIdx (ix4 q a b c) ⟨List.idxOf (0 : Fin 4) (rows4 N A B C n wf).startIndexMap,
        List.idxOf_lt_length_iff.2 (List.mem_singleton.mpr rfl)⟩ = ix2 (n1 := 1) q 0 := by
      funext b; refine Fin.ext ?_
      match b with
      | ⟨0, _⟩ => rfl
      | ⟨1, _⟩ => rfl
    rw [hsi, hk]
    show min k.val (N - 1) + 0 + 0 = k.val
    omega
  · unfold GatherDims.start
    rw [dif_neg (show i ∉ [(0 : Fin 4)] by simpa using h0)]
    unfold GatherDims.offCoord
    rw [dif_pos (show i ∈ (rows4 N A B C n wf).sKept from (show i ∈ [(1 : Fin 4), 2, 3] from (by decide : ∀ i : Fin 4, ¬ i = 0 → i ∈ [(1 : Fin 4), 2, 3]) i h0))]
    show 0 + 0 + _ = _
    rw [Nat.zero_add]
    match i, h0 with
    | ⟨1, _⟩, _ => rfl
    | ⟨2, _⟩, _ => rfl
    | ⟨3, _⟩, _ => rfl

/-- The dimension numbers of taking rows of a matrix at a matrix of indices. -/
abbrev rows2 (N A n p : Nat) (wf : GatherDims.WF ⟨2, ![N, A]⟩ ⟨3, ![n, p, 1]⟩ ⟨3, ![n, p, A]⟩ [2] [0] [] [0] [] 2 ![1, A]) :
    GatherDims ⟨2, ![N, A]⟩ ⟨3, ![n, p, 1]⟩ ⟨3, ![n, p, A]⟩ where
  offsetDims := [2]
  collapsedSliceDims := [0]
  operandBatchingDims := []
  startIndicesBatchingDims := []
  startIndexMap := [0]
  indexVectorDim := 2
  sliceSizes := ![1, A]
  wf := wf

/-- Taking rows of a matrix reads the row the index names. -/
theorem rows2_at {p : Nat} (wf) (x : (⟨2, ![N, A]⟩ : Shape).Idx → α) (idx : IVec ⟨3, ![n, p, 1]⟩ w) (q : Fin n) (s : Fin p) (a : Fin A) (k : Fin N)
    (hk : (idx (ix3 (n2 := 1) q s 0)).toInt.toNat = k.val) :
    Host.gather (rows2 N A n p wf) x idx (ix3 q s a) = x (ix2 k a) := by
  unfold Host.gather
  refine congrArg x ?_
  funext i
  refine Fin.ext ?_
  show GatherDims.start _ _ _ i + GatherDims.batchCoord _ _ i + GatherDims.offCoord _ _ i = _
  rw [GatherDims.batchCoord_eq_zero _ _ _ List.not_mem_nil]
  by_cases h0 : i = 0
  · subst h0
    rw [GatherDims.offCoord_eq_zero _ _ _ (fun h => ((GatherDims.mem_sKept _ _).mp h).1 (List.mem_singleton.mpr rfl))]
    unfold GatherDims.start
    rw [dif_pos (by exact List.mem_singleton.mpr rfl)]
    have hsi : (rows2 N A n p wf).siIdx (ix3 q s a) ⟨List.idxOf (0 : Fin 2) (rows2 N A n p wf).startIndexMap,
        List.idxOf_lt_length_iff.2 (List.mem_singleton.mpr rfl)⟩ = ix3 (n2 := 1) q s 0 := by
      funext b; refine Fin.ext ?_
      match b with
      | ⟨0, _⟩ => rfl
      | ⟨1, _⟩ => rfl
      | ⟨2, _⟩ => rfl
    rw [hsi, hk]
    show min k.val (N - 1) + 0 + 0 = k.val
    omega
  · unfold GatherDims.start
    rw [dif_neg (show i ∉ [(0 : Fin 2)] by simpa using h0)]
    unfold GatherDims.offCoord
    rw [dif_pos (show i ∈ (rows2 N A n p wf).sKept from (show i ∈ [(1 : Fin 2)] from (by decide : ∀ i : Fin 2, ¬ i = 0 → i ∈ [(1 : Fin 2)]) i h0))]
    show 0 + 0 + _ = _
    rw [Nat.zero_add]
    match i, h0 with
    | ⟨1, _⟩, _ => rfl

end Cert.Spec
-- ==== Proof.Ideal.HostVal.lean ====
/- What the host code prepares for the first layer, entry by entry. -/
module

public import proofs.«01_k».proof.Proof.Ideal.Fold
public import proofs.«01_k».proof.Proof.Band
public import proofs.«01_k».proof.Proof.GatherRef
public import Idealize.ShloMosaic.Lib.StableHlo.RunRead
public import Idealize.ShloMosaic.Lib.Pointwise
public import Idealize.ShloMosaic.Lib.Ring
public import Idealize.ShloMosaic.Lib.Tactic

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open scoped BigOperators

variable (m : (ℓ : Loc nD τ sig) → Buf (Elt Ideal) ℓ) (ρ : Dev nD → PrngReg) (c : Dev nD)

/-- The kernel's arguments as arrays. -/
abbrev a3 : Vec Ideal S6x3x5x5 .f32 := m ((c : Thread nD τ).loc main_arg3)
abbrev a4 : Vec Ideal S6 .f32 := m ((c : Thread nD τ).loc main_arg4)
abbrev a5 : Vec Ideal S16x6x5x5 .f32 := m ((c : Thread nD τ).loc main_arg5)
abbrev a6 : Vec Ideal S16 .f32 := m ((c : Thread nD τ).loc main_arg6)

/-- The band matrix of the first layer before its lanes are permuted. -/
def band1Raw (w1 : Vec Ideal S6x3x5x5 .f32) : Vec Ideal S15x32x168 .f32 :=
  shapeCast S15x32x168 (transpose S3x5x32x6x28 [1, 2, 3, 0, 4] (Host.dotGeneral (φ₁ := .f32) (φ₂ := .f32) dot_S6x3x5x5_S5x32x28_S6x3x5x32x28_3_0_012_12_n_n none w1 (fun i => Ideal.ofBits .f32 (lit0 (S5x32x28.rowMajor i)))) transposes_S6x3x5x32x28_S3x5x32x6x28_1_2_3_0_4) shapeCasts_S3x5x32x6x28_S15x32x168

/-- The first band matrix before the lanes are permuted, read at an entry. -/
theorem band1Raw_at (w1 : Vec Ideal S6x3x5x5 .f32) (k : Fin 15) (w : Fin 32) (q : Fin 168) :
    band1Raw w1 (ix3 k w q) = ∑ D : Fin 5, w1 (ix4 (n0 := 6) (n1 := 3) (n2 := 5) ⟨q.val / 28, by omega⟩ ⟨k.val / 5, by omega⟩ ⟨k.val % 5, by omega⟩ D) * Ideal.ofBits .f32 (lit0 (S5x32x28.rowMajor (ix3 (n0 := 5) (n1 := 32) (n2 := 28) D w ⟨q.val % 28, by omega⟩))) := by
  pointwise [band1Raw]

/-- The lanes of the first band matrix, in the order the kernel wants them. -/
def lanes1 : Vec Ideal S168x1 .i32 :=
  broadcastInDim S168x1 ![0] bcast_S168_S168x1_0
      (select (constantI S168 1 0#1)
        (addi (fun i => lit2 (S168.rowMajor i)) (broadcastInDim S168 ![] bcast_S_S168 (constantI S_ 32 168#32)))
        fun i => lit2 (S168.rowMajor i))

/-- A lane index without its dead guard against negatives. -/
theorem read_guard {s : Shape} (x y : IVec s 32) (i : s.Idx) : select (constantI s 1 0#1) x y i = y i := rfl

/-- The first permutation: even and odd columns of every channel in two halves. -/
theorem lanes1_at (q : Fin 168) (z : Fin 1) : (lanes1 (ix2 q z)).toInt.toNat = q.val % 84 / 14 * 28 + q.val % 14 * 2 + q.val / 84 := by
  have h : ∀ q : Fin 168, (lit2 q).toInt.toNat = q.val % 84 / 14 * 28 + q.val % 14 * 2 + q.val / 84 := by decide +kernel
  have e : lanes1 (ix2 q z) = lit2 (S168.rowMajor (ix1 q)) := by pointwise [lanes1]
  rw [e]
  have r : S168.rowMajor (ix1 q) = q := by
    refine Fin.ext ?_
    exact rowMajor_val1 _
  rw [r]
  exact h q

/-- What the host code leaves in the buffer, as one term of the arguments. -/
theorem read_v10 : W1 m ρ c main_v10 = fun i => Host.gather gather_S15x32x168_S168x1_S15x32x168_01_2_n_n_2_1_15321 (band1Raw (m ((c : Thread nD τ).loc main_arg3))) lanes1 i := by
  show StableHlo.after hostOps0 (W0 m ρ c) (Proc.devRef .tc main_v10) = _
  after_reads_simp
  rfl

/-- The first shift table, word by word. -/
theorem lit0_at (i : Fin 4480) : lit0 i = if i.val / 28 % 32 = i.val / 896 + i.val % 28 then 0x3F800000#32 else 0#32 := by
  revert i; decide +kernel

/-- The first shift table: one where the pixel is the kernel column plus the output column. -/
theorem shift1_at (D : Fin 5) (w : Fin 32) (j : Fin 28) : Ideal.ofBits .f32 (lit0 (S5x32x28.rowMajor (ix3 D w j))) = if w.val = D.val + j.val then 1 else 0 := by
  have key : ∀ i : Fin 4480, i.val = D.val * 896 + w.val * 28 + j.val → Ideal.ofBits .f32 (lit0 i) = if w.val = D.val + j.val then 1 else 0 := by
    intro i hi
    rw [lit0_at, hi]
    have e1 : (D.val * 896 + w.val * 28 + j.val) / 28 % 32 = w.val := by omega
    have e2 : (D.val * 896 + w.val * 28 + j.val) / 896 = D.val := by omega
    have e3 : (D.val * 896 + w.val * 28 + j.val) % 28 = j.val := by omega
    rw [e1, e2, e3]
    split
    · exact Cert.Spec.one_eq
    · exact Cert.Spec.zero_eq
  exact key _ (rowMajor_val3 _ _ _ rfl rfl)

/-- The kernel's first band matrix, entry by entry. -/
theorem band1_lanes (ch : Fin 3) (d : Fin 5) (w : Fin 32) (p : Fin 2) (o : Fin 6) (j : Fin 14) :
    (W1 m ρ c main_v10 : Vec Ideal S15x32x168 .f32) (ix3 (n0 := 15) (n1 := 32) (n2 := 168) ⟨ch.val * 5 + d.val, by omega⟩ w ⟨p.val * 84 + (o.val * 14 + j.val), by omega⟩)
      = (∑ D : Fin 5, a3 m c (ix4 (n0 := 6) (n1 := 3) o ch d D) * (if w.val = D.val + (j.val * 2 + p.val) then 1 else 0) : EReal) := by
  rw [read_v10]
  refine (Cert.Spec.cols3_at _ _ _ _ _ _ ⟨o.val * 28 + (j.val * 2 + p.val), by omega⟩ ((lanes1_at _ 0).trans ?_)).trans ?_
  · show (p.val * 84 + (o.val * 14 + j.val)) % 84 / 14 * 28 + (p.val * 84 + (o.val * 14 + j.val)) % 14 * 2 + (p.val * 84 + (o.val * 14 + j.val)) / 84 = o.val * 28 + (j.val * 2 + p.val)
    omega
  · rw [band1Raw_at]
    show @Eq EReal _ _
    refine Finset.sum_congr rfl fun D _ => ?_
    rw [shift1_at]
    have e1 : (⟨(o.val * 28 + (j.val * 2 + p.val)) / 28, by omega⟩ : Fin 6) = o := Fin.ext (by show _ / 28 = _; omega)
    have e2 : (⟨(ch.val * 5 + d.val) / 5, by omega⟩ : Fin 3) = ch := Fin.ext (by show _ / 5 = _; omega)
    have e3 : (⟨(ch.val * 5 + d.val) % 5, by omega⟩ : Fin 5) = d := Fin.ext (by show _ % 5 = _; omega)
    have e4 : (o.val * 28 + (j.val * 2 + p.val)) % 28 = j.val * 2 + p.val := by omega
    simp only [e1, e2, e3, e4]

/-- What the host code leaves in the buffer, as one term of the arguments. -/
theorem read_v21 : W1 m ρ c main_v21 = shapeCast S1x168 (shapeCast S168 (broadcastInDim S2x84 ![0, 1] bcast_S1x84_S2x84_0_1 (shapeCast S1x84 (shapeCast S84 (broadcastInDim S6x14 ![0] bcast_S6_S6x14_0 (a4 m c)) shapeCasts_S6x14_S84) shapeCasts_S84_S1x84)) shapeCasts_S2x84_S168) shapeCasts_S168_S1x168 := by
  show StableHlo.after hostOps0 (W0 m ρ c) (Proc.devRef .tc main_v21) = _
  after_reads_simp
  rfl

/-- The kernel's first bias, lane by lane. -/
theorem bias1_lanes (p : Fin 2) (o : Fin 6) (j : Fin 14) :
    (W1 m ρ c main_v21 : Vec Ideal S1x168 .f32) (ix2 (n0 := 1) (n1 := 168) 0 ⟨p.val * 84 + (o.val * 14 + j.val), by omega⟩) = a4 m c (ix1 (n0 := 6) o) := by
  rw [read_v21]
  pointwise

end Cert.KernelIdeal.Run
-- ==== Proof.Ideal.HostVal2.lean ====
/- What the host code prepares for the second layer, entry by entry. -/
module

public import proofs.«01_k».proof.Proof.Ideal.HostVal
public import Idealize.ShloMosaic.Lib.Pointwise
public import Idealize.ShloMosaic.Lib.Ring
public import Idealize.ShloMosaic.Lib.Tactic

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open scoped BigOperators

variable (m : (ℓ : Loc nD τ sig) → Buf (Elt Ideal) ℓ) (ρ : Dev nD → PrngReg) (c : Dev nD)

/-- The band matrix of the second layer before its lanes are permuted. -/
def band2Raw (w2 : Vec Ideal S16x6x5x5 .f32) : Vec Ideal S30x14x160 .f32 :=
  shapeCast S30x14x160 (transpose S6x5x14x16x10 [1, 2, 3, 0, 4] (Host.dotGeneral (φ₁ := .f32) (φ₂ := .f32) dot_S16x6x5x5_S5x14x10_S16x6x5x14x10_3_0_012_12_n_n none w2 (fun i => Ideal.ofBits .f32 (lit1 (S5x14x10.rowMajor i)))) transposes_S16x6x5x14x10_S6x5x14x16x10_1_2_3_0_4) shapeCasts_S6x5x14x16x10_S30x14x160

/-- The second band matrix before the lanes are permuted, read at an entry. -/
theorem band2Raw_at (w2 : Vec Ideal S16x6x5x5 .f32) (k : Fin 30) (w : Fin 14) (q : Fin 160) :
    band2Raw w2 (ix3 k w q) = ∑ D : Fin 5, w2 (ix4 (n0 := 16) (n1 := 6) (n2 := 5) ⟨q.val / 10, by omega⟩ ⟨k.val / 5, by omega⟩ ⟨k.val % 5, by omega⟩ D) * Ideal.ofBits .f32 (lit1 (S5x14x10.rowMajor (ix3 (n0 := 5) (n1 := 14) (n2 := 10) D w ⟨q.val % 10, by omega⟩))) := by
  pointwise [band2Raw]

/-- The lanes of the second band matrix, in the order the kernel wants them. -/
def lanes2 : Vec Ideal S160x1 .i32 :=
  broadcastInDim S160x1 ![0] bcast_S160_S160x1_0
      (select (constantI S160 1 0#1)
        (addi (fun i => lit3 (S160.rowMajor i)) (broadcastInDim S160 ![] bcast_S_S160 (constantI S_ 32 160#32)))
        fun i => lit3 (S160.rowMajor i))

/-- The second permutation: even and odd columns of every channel in two halves. -/
theorem lanes2_at (q : Fin 160) (z : Fin 1) : (lanes2 (ix2 q z)).toInt.toNat = q.val % 80 / 5 * 10 + q.val % 5 * 2 + q.val / 80 := by
  have h : ∀ q : Fin 160, (lit3 q).toInt.toNat = q.val % 80 / 5 * 10 + q.val % 5 * 2 + q.val / 80 := by decide +kernel
  have e : lanes2 (ix2 q z) = lit3 (S160.rowMajor (ix1 q)) := by pointwise [lanes2]
  rw [e]
  have r : S160.rowMajor (ix1 q) = q := by
    refine Fin.ext ?_
    exact rowMajor_val1 _
  rw [r]
  exact h q

/-- What the host code leaves in the buffer, as one term of the arguments. -/
theorem read_v15 : W1 m ρ c main_v15 = fun i => Host.gather gather_S30x14x160_S160x1_S30x14x160_01_2_n_n_2_1_30141 (band2Raw (a5 m c)) lanes2 i := by
  show StableHlo.after hostOps0 (W0 m ρ c) (Proc.devRef .tc main_v15) = _
  after_reads_simp
  rfl

/-- The second shift table, word by word. -/
theorem lit1_at (i : Fin 700) : lit1 i = if i.val / 10 % 14 = i.val / 140 + i.val % 10 then 0x3F800000#32 else 0#32 := by
  revert i; decide +kernel

/-- The second shift table: one where the pixel is the kernel column plus the output column. -/
theorem shift2_at (D : Fin 5) (w : Fin 14) (j : Fin 10) : Ideal.ofBits .f32 (lit1 (S5x14x10.rowMajor (ix3 D w j))) = if w.val = D.val + j.val then 1 else 0 := by
  have key : ∀ i : Fin 700, i.val = D.val * 140 + w.val * 10 + j.val → Ideal.ofBits .f32 (lit1 i) = if w.val = D.val + j.val then 1 else 0 := by
    intro i hi
    rw [lit1_at, hi]
    have e1 : (D.val * 140 + w.val * 10 + j.val) / 10 % 14 = w.val := by omega
    have e2 : (D.val * 140 + w.val * 10 + j.val) / 140 = D.val := by omega
    have e3 : (D.val * 140 + w.val * 10 + j.val) % 10 = j.val := by omega
    rw [e1, e2, e3]
    split
    · exact Cert.Spec.one_eq
    · exact Cert.Spec.zero_eq
  exact key _ (rowMajor_val3 _ _ _ rfl rfl)

/-- The kernel's second band matrix, entry by entry. -/
theorem band2_lanes (ch : Fin 6) (d : Fin 5) (w : Fin 14) (p : Fin 2) (o : Fin 16) (j : Fin 5) :
    (W1 m ρ c main_v15 : Vec Ideal S30x14x160 .f32) (ix3 (n0 := 30) (n1 := 14) (n2 := 160) ⟨ch.val * 5 + d.val, by omega⟩ w ⟨p.val * 80 + (o.val * 5 + j.val), by omega⟩)
      = (∑ D : Fin 5, a5 m c (ix4 (n0 := 16) (n1 := 6) o ch d D) * (if w.val = D.val + (j.val * 2 + p.val) then 1 else 0) : EReal) := by
  rw [read_v15]
  refine (Cert.Spec.cols3_at _ _ _ _ _ _ ⟨o.val * 10 + (j.val * 2 + p.val), by omega⟩ ((lanes2_at _ 0).trans ?_)).trans ?_
  · show (p.val * 80 + (o.val * 5 + j.val)) % 80 / 5 * 10 + (p.val * 80 + (o.val * 5 + j.val)) % 5 * 2 + (p.val * 80 + (o.val * 5 + j.val)) / 80 = o.val * 10 + (j.val * 2 + p.val)
    omega
  · rw [band2Raw_at]
    show @Eq EReal _ _
    refine Finset.sum_congr rfl fun D _ => ?_
    rw [shift2_at]
    have e1 : (⟨(o.val * 10 + (j.val * 2 + p.val)) / 10, by omega⟩ : Fin 16) = o := Fin.ext (by show _ / 10 = _; omega)
    have e2 : (⟨(ch.val * 5 + d.val) / 5, by omega⟩ : Fin 6) = ch := Fin.ext (by show _ / 5 = _; omega)
    have e3 : (⟨(ch.val * 5 + d.val) % 5, by omega⟩ : Fin 5) = d := Fin.ext (by show _ % 5 = _; omega)
    have e4 : (o.val * 10 + (j.val * 2 + p.val)) % 10 = j.val * 2 + p.val := by omega
    simp only [e1, e2, e3, e4]

/-- What the host code leaves in the buffer, as one term of the arguments. -/
theorem read_v27 : W1 m ρ c main_v27 = shapeCast S1x160 (shapeCast S160 (broadcastInDim S2x80 ![0, 1] bcast_S1x80_S2x80_0_1 (shapeCast S1x80 (shapeCast S80 (broadcastInDim S16x5 ![0] bcast_S16_S16x5_0 (a6 m c)) shapeCasts_S16x5_S80) shapeCasts_S80_S1x80)) shapeCasts_S2x80_S160) shapeCasts_S160_S1x160 := by
  show StableHlo.after hostOps0 (W0 m ρ c) (Proc.devRef .tc main_v27) = _
  after_reads_simp
  rfl

/-- The kernel's second bias, lane by lane. -/
theorem bias2_lanes (p : Fin 2) (o : Fin 16) (j : Fin 5) :
    (W1 m ρ c main_v27 : Vec Ideal S1x160 .f32) (ix2 (n0 := 1) (n1 := 160) 0 ⟨p.val * 80 + (o.val * 5 + j.val), by omega⟩) = a6 m c (ix1 (n0 := 16) o) := by
  rw [read_v27]
  pointwise

end Cert.KernelIdeal.Run
-- ==== Proof.Ideal.HostVal3.lean ====
/- What the host code prepares for the heads, entry by entry. -/
module

public import proofs.«01_k».proof.Proof.Ideal.Fold
public import proofs.«01_k».proof.Proof.GatherRef
public import Idealize.ShloMosaic.Lib.StableHlo.RunRead
public import Idealize.ShloMosaic.Lib.Pointwise
public import Idealize.ShloMosaic.Lib.Ring
public import Idealize.ShloMosaic.Lib.Tactic

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open scoped BigOperators

variable (m : (ℓ : Loc nD τ sig) → Buf (Elt Ideal) ℓ) (ρ : Dev nD → PrngReg) (c : Dev nD)

/-- The kernel's remaining arguments as arrays. -/
abbrev a2 : Vec Ideal S50000x10 .f32 := m ((c : Thread nD τ).loc main_arg2)
abbrev a7 : Vec Ideal S12x400 .f32 := m ((c : Thread nD τ).loc main_arg7)
abbrev a8 : Vec Ideal S12 .f32 := m ((c : Thread nD τ).loc main_arg8)
abbrev a9 : Vec Ideal S120x400 .f32 := m ((c : Thread nD τ).loc main_arg9)
abbrev a10 : Vec Ideal S120 .f32 := m ((c : Thread nD τ).loc main_arg10)
abbrev a11 : Vec Ideal S10x10 .f32 := m ((c : Thread nD τ).loc main_arg11)
abbrev a12 : Vec Ideal S10 .f32 := m ((c : Thread nD τ).loc main_arg12)

/-- The order of the features the kernel's heads want. -/
def lanes3 : Vec Ideal S400x1 .i32 :=
  broadcastInDim S400x1 ![0] bcast_S400_S400x1_0
      (select (constantI S400 1 0#1)
        (addi (fun i => lit4 (S400.rowMajor i)) (broadcastInDim S400 ![] bcast_S_S400 (constantI S_ 32 400#32)))
        fun i => lit4 (S400.rowMajor i))

/-- The heads' permutation: from row, channel and column to channel, row and column. -/
theorem lanes3_at (q : Fin 400) (z : Fin 1) : (lanes3 (ix2 q z)).toInt.toNat = q.val % 80 / 5 * 25 + q.val / 80 * 5 + q.val % 80 % 5 := by
  have h : ∀ q : Fin 400, (lit4 q).toInt.toNat = q.val % 80 / 5 * 25 + q.val / 80 * 5 + q.val % 80 % 5 := by decide +kernel
  have e : lanes3 (ix2 q z) = lit4 (S400.rowMajor (ix1 q)) := by pointwise [lanes3]
  rw [e]
  have r : S400.rowMajor (ix1 q) = q := by
    refine Fin.ext ?_
    exact rowMajor_val1 _
  rw [r]
  exact h q

/-- What the host code leaves in the buffer, as one term of the arguments. -/
theorem read_v34 : W1 m ρ c main_v34 = transpose S5x80x12 [1, 2, 0] (shapeCast S12x5x80 (Host.gather gather_S12x400_S400x1_S12x400_0_1_n_n_1_1_121 (a7 m c) lanes3) shapeCasts_S12x400_S12x5x80) transposes_S12x5x80_S5x80x12_1_2_0 := by
  show StableHlo.after hostOps0 (W0 m ρ c) (Proc.devRef .tc main_v34) = _
  after_reads_simp
  rfl

/-- What the host code leaves in the buffer, as one term of the arguments. -/
theorem read_v41 : W1 m ρ c main_v41 = transpose S5x80x120 [1, 2, 0] (shapeCast S120x5x80 (Host.gather gather_S120x400_S400x1_S120x400_0_1_n_n_1_1_1201 (a9 m c) lanes3) shapeCasts_S120x400_S120x5x80) transposes_S120x5x80_S5x80x120_1_2_0 := by
  show StableHlo.after hostOps0 (W0 m ρ c) (Proc.devRef .tc main_v41) = _
  after_reads_simp
  rfl

/-- The kernel's first head's weights, entry by entry. -/
theorem head1_at (i : Fin 5) (q : Fin 80) (h : Fin 12) :
    (W1 m ρ c main_v34 : Vec Ideal S5x80x12 .f32) (ix3 i q h) = a7 m c (ix2 (n0 := 12) (n1 := 400) h ⟨q.val / 5 * 25 + i.val * 5 + q.val % 5, by omega⟩) := by
  rw [read_v34]
  have e : ∀ y : Vec Ideal S12x400 .f32, transpose S5x80x12 [1, 2, 0] (shapeCast S12x5x80 y shapeCasts_S12x400_S12x5x80) transposes_S12x5x80_S5x80x12_1_2_0 (ix3 i q h) = y (ix2 (n0 := 12) (n1 := 400) h ⟨i.val * 80 + q.val, by omega⟩) := by
    intro y
    pointwise
  rw [e]
  refine Cert.Spec.cols2_at _ _ _ _ _ ⟨q.val / 5 * 25 + i.val * 5 + q.val % 5, by omega⟩ ((lanes3_at _ 0).trans ?_)
  show (i.val * 80 + q.val) % 80 / 5 * 25 + (i.val * 80 + q.val) / 80 * 5 + (i.val * 80 + q.val) % 80 % 5 = q.val / 5 * 25 + i.val * 5 + q.val % 5
  omega

/-- The kernel's second head's weights, entry by entry. -/
theorem head2_at (i : Fin 5) (q : Fin 80) (h : Fin 120) :
    (W1 m ρ c main_v41 : Vec Ideal S5x80x120 .f32) (ix3 i q h) = a9 m c (ix2 (n0 := 120) (n1 := 400) h ⟨q.val / 5 * 25 + i.val * 5 + q.val % 5, by omega⟩) := by
  rw [read_v41]
  have e : ∀ y : Vec Ideal S120x400 .f32, transpose S5x80x120 [1, 2, 0] (shapeCast S120x5x80 y shapeCasts_S120x400_S120x5x80) transposes_S120x5x80_S5x80x120_1_2_0 (ix3 i q h) = y (ix2 (n0 := 120) (n1 := 400) h ⟨i.val * 80 + q.val, by omega⟩) := by
    intro y
    pointwise
  rw [e]
  refine Cert.Spec.cols2_at _ _ _ _ _ ⟨q.val / 5 * 25 + i.val * 5 + q.val % 5, by omega⟩ ((lanes3_at _ 0).trans ?_)
  show (i.val * 80 + q.val) % 80 / 5 * 25 + (i.val * 80 + q.val) / 80 * 5 + (i.val * 80 + q.val) % 80 % 5 = q.val / 5 * 25 + i.val * 5 + q.val % 5
  omega

/-- The first head's bias as the kernel takes it. -/
theorem head1_bias (h : Fin 12) : (W1 m ρ c main_v42 : Vec Ideal S1x12 .f32) (ix2 (n0 := 1) 0 h) = a8 m c (ix1 h) := by
  have e : W1 m ρ c main_v42 = shapeCast S1x12 (a8 m c) shapeCasts_S12_S1x12 := by
    show StableHlo.after hostOps0 (W0 m ρ c) (Proc.devRef .tc main_v42) = _
    after_reads_simp
    rfl
  rw [e]
  pointwise

/-- The second head's bias as the kernel takes it. -/
theorem head2_bias (h : Fin 120) : (W1 m ρ c main_v43 : Vec Ideal S1x120 .f32) (ix2 (n0 := 1) 0 h) = a10 m c (ix1 h) := by
  have e : W1 m ρ c main_v43 = shapeCast S1x120 (a10 m c) shapeCasts_S120_S1x120 := by
    show StableHlo.after hostOps0 (W0 m ρ c) (Proc.devRef .tc main_v43) = _
    after_reads_simp
    rfl
  rw [e]
  pointwise

/-- The label weights as the kernel takes them: transposed. -/
theorem label_weights (j k : Fin 10) : (W1 m ρ c main_v44 : Vec Ideal S10x10 .f32) (ix2 j k) = a11 m c (ix2 k j) := by
  have e : W1 m ρ c main_v44 = transpose S10x10 [1, 0] (a11 m c) transposes_S10x10_S10x10_1_0 := by
    show StableHlo.after hostOps0 (W0 m ρ c) (Proc.devRef .tc main_v44) = _
    after_reads_simp
  rw [e]
  pointwise

/-- The label bias as the kernel takes it. -/
theorem label_bias (k : Fin 10) : (W1 m ρ c main_v45 : Vec Ideal S1x10 .f32) (ix2 (n0 := 1) 0 k) = a12 m c (ix1 k) := by
  have e : W1 m ρ c main_v45 = shapeCast S1x10 (a12 m c) shapeCasts_S10_S1x10 := by
    show StableHlo.after hostOps0 (W0 m ρ c) (Proc.devRef .tc main_v45) = _
    after_reads_simp
    rfl
  rw [e]
  pointwise

/-- The label table as the kernel takes it: one row per training image. -/
theorem labels_at (n : Fin 50000) (k : Fin 10) : (W1 m ρ c main_v47 : Vec Ideal S50000x1x10 .f32) (ix3 (n1 := 1) n 0 k) = a2 m c (ix2 n k) := by
  have e : W1 m ρ c main_v47 = shapeCast S50000x1x10 (a2 m c) shapeCasts_S50000x10_S50000x1x10 := by
    show StableHlo.after hostOps0 (W0 m ρ c) (Proc.devRef .tc main_v47) = _
    after_reads_simp
    rfl
  rw [e]
  pointwise

end Cert.KernelIdeal.Run
-- ==== Proof.Ideal.FeatBlock.lean ====
/- The block a featurize step stores, read entry by entry. -/
module

public import proofs.«01_k».proof.Proof.Ideal.Feat1
public import proofs.«01_k».proof.Proof.Spec
public import Idealize.ShloMosaic.Lib.Pipeline.ValueKit
public import Idealize.ShloMosaic.Lib.Pointwise
public import Idealize.ShloMosaic.Lib.Ring
public import Idealize.ShloMosaic.Lib.Tactic

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open scoped BigOperators

/-- One product of the first layer, at flat row `m` (28 rows per image): row `d + m % 28` of channel `c` against Toeplitz matrix
    `c*5+d`, column `q`. -/
def term1 (x : Vec Ideal S128x3x32x32 .f32) (T : Vec Ideal S15x32x168 .f32) (m : Fin 3584)
    (q : Fin 168) (c : Fin 3) (d : Fin 5) : EReal :=
  ∑ w : Fin 32, x (ix4 ⟨m.val / 28, by omega⟩ c ⟨d.val + m.val % 28, by omega⟩ w) * T (ix3 ⟨c.val * 5 + d.val, by omega⟩ w q)

/-- The first five products of the first layer, summed. -/
theorem pay4_apply (x : Vec Ideal S128x3x32x32 .f32) (T : Vec Ideal S15x32x168 .f32) (m : Fin 3584) (q : Fin 168) :
    k1_pay4 x T (ix2 m q) = term1 x T m q 0 0 + term1 x T m q 0 1 + term1 x T m q 0 2 + term1 x T m q 0 3 + term1 x T m q 0 4
      := by
  pointwise [k1_pay4, k1_pay2, term1]

/-- The next eight products added to what came before. -/
theorem pay7_apply (x : Vec Ideal S128x3x32x32 .f32) (T : Vec Ideal S15x32x168 .f32) (a : Vec Ideal S3584x168 .f32)
    (m : Fin 3584) (q : Fin 168) :
    k1_pay7 x (k1_pay2 T) a (k1_pay5 x) (k1_pay6 T) (ix2 m q) = a (ix2 m q) + term1 x T m q 1 0 + term1 x T m q 1 1 + term1 x T m q 1 2 + term1 x T m q 1 3 + term1 x T m q 1 4
      + term1 x T m q 2 0 + term1 x T m q 2 1 + term1 x T m q 2 2
      := by
  pointwise [k1_pay7, k1_pay5, k1_pay6, k1_pay2, term1]

/-- The last two products, the bias, the positive part and the pooling. -/
theorem pay9_apply (x : Vec Ideal S128x3x32x32 .f32) (T : Vec Ideal S15x32x168 .f32) (a : Vec Ideal S3584x168 .f32) (b : Vec Ideal S1x168 .f32)
    (n : Fin 128) (r : Fin 14) (q : Fin 84) :
    k1_pay9 x (k1_pay2 T) a (k1_pay8 x) b (ix3 n r q) =
      Finset.univ.fold max (Ideal.ofBits .f32 0xFF800000#32) fun k : Fin 2 =>
        max (max (a (ix2 ⟨(n.val * 14 + r.val) * 2 + k.val, by omega⟩ ⟨q.val, by omega⟩)
            + term1 x T ⟨(n.val * 14 + r.val) * 2 + k.val, by omega⟩ ⟨q.val, by omega⟩ 2 3
            + term1 x T ⟨(n.val * 14 + r.val) * 2 + k.val, by omega⟩ ⟨q.val, by omega⟩ 2 4 + b (ix2 0 ⟨q.val, by omega⟩)) 0)
          (max (a (ix2 ⟨(n.val * 14 + r.val) * 2 + k.val, by omega⟩ ⟨84 + q.val, by omega⟩)
            + term1 x T ⟨(n.val * 14 + r.val) * 2 + k.val, by omega⟩ ⟨84 + q.val, by omega⟩ 2 3
            + term1 x T ⟨(n.val * 14 + r.val) * 2 + k.val, by omega⟩ ⟨84 + q.val, by omega⟩ 2 4 + b (ix2 0 ⟨84 + q.val, by omega⟩)) 0) := by
  pointwise [k1_pay9, k1_pay8, k1_pay2, term1]

/-- The first layer before pooling at a flat row: all fifteen products, the bias, and the positive part. -/
def layer1 (x : Vec Ideal S128x3x32x32 .f32) (T : Vec Ideal S15x32x168 .f32) (b : Vec Ideal S1x168 .f32) (m : Fin 3584)
    (q : Fin 168) : EReal :=
  max ((∑ c : Fin 3, ∑ d : Fin 5, term1 x T m q c d) + b (ix2 0 q)) 0

/-- The first layer after pooling, read at image `n`, row `r`, lane `q`. -/
theorem pool1_apply (x : Vec Ideal S128x3x32x32 .f32) (T : Vec Ideal S15x32x168 .f32) (b : Vec Ideal S1x168 .f32)
    (n : Fin 128) (r : Fin 14) (q : Fin 84) :
    k1_pay9 x (k1_pay2 T) (k1_pay7 x (k1_pay2 T) (k1_pay4 x T) (k1_pay5 x) (k1_pay6 T)) (k1_pay8 x) b (ix3 n r q) =
      Finset.univ.fold max (Ideal.ofBits .f32 0xFF800000#32) fun k : Fin 2 => max (layer1 x T b ⟨(n.val * 14 + r.val) * 2 + k.val, by omega⟩ ⟨q.val, by omega⟩)
        (layer1 x T b ⟨(n.val * 14 + r.val) * 2 + k.val, by omega⟩ ⟨84 + q.val, by omega⟩) := by
  simp only [layer1, Fin.sum_univ_three, Fin.sum_univ_five, ← add_assoc, pay9_apply, pay7_apply, pay4_apply]

/-- One product of the second layer, at flat row `m` (10 rows per image): row `d + m % 10` of channel `c` (lanes `14c..14c+13`)
    against Toeplitz matrix `c*5+d`, column `q`. -/
def term2 (p : Vec Ideal S128x14x84 .f32) (T : Vec Ideal S30x14x160 .f32) (m : Fin 1280)
    (q : Fin 160) (c : Fin 6) (d : Fin 5) : EReal :=
  ∑ w : Fin 14, p (ix3 ⟨m.val / 10, by omega⟩ ⟨d.val + m.val % 10, by omega⟩ ⟨c.val * 14 + w.val, by omega⟩) * T (ix3 ⟨c.val * 5 + d.val, by omega⟩ w q)

/-- The first four products of the second layer. -/
theorem pay10_apply (x : Vec Ideal S128x3x32x32 .f32) (T : Vec Ideal S15x32x168 .f32) (T2 : Vec Ideal S30x14x160 .f32)
    (a : Vec Ideal S3584x168 .f32) (b : Vec Ideal S1x168 .f32) (y : Vec Ideal S128x1x28x32 .f32) (m : Fin 1280) (q : Fin 160) :
    k1_pay10 (F := Ideal) x T T2 a y b (ix2 m q) =
      term2 (k1_pay9 x T a y b) T2 m q 0 0 + term2 (k1_pay9 x T a y b) T2 m q 0 1 + term2 (k1_pay9 x T a y b) T2 m q 0 2 + term2 (k1_pay9 x T a y b) T2 m q 0 3 := by
  pointwise [k1_pay10, term2]

/-- The next eight. -/
theorem pay12_apply (x : Vec Ideal S128x3x32x32 .f32) (T : Vec Ideal S15x32x168 .f32) (T2 : Vec Ideal S30x14x160 .f32)
    (a : Vec Ideal S3584x168 .f32) (b : Vec Ideal S1x168 .f32) (y : Vec Ideal S128x1x28x32 .f32)
    (s : Vec Ideal S1280x160 .f32) (m : Fin 1280) (q : Fin 160) :
    k1_pay12 (F := Ideal) T2 (k1_pay9 x T a y b) s (k1_pay11 x T a y b) (ix2 m q) = s (ix2 m q) +
      term2 (k1_pay9 x T a y b) T2 m q 0 4 + term2 (k1_pay9 x T a y b) T2 m q 1 0 + term2 (k1_pay9 x T a y b) T2 m q 1 1 + term2 (k1_pay9 x T a y b) T2 m q 1 2 + term2 (k1_pay9 x T a y b) T2 m q 1 3 + term2 (k1_pay9 x T a y b) T2 m q 1 4 + term2 (k1_pay9 x T a y b) T2 m q 2 0 + term2 (k1_pay9 x T a y b) T2 m q 2 1 := by
  pointwise [k1_pay12, k1_pay11, term2]

/-- The next nine. -/
theorem pay14_apply (p : Vec Ideal S128x14x84 .f32) (T2 : Vec Ideal S30x14x160 .f32)
    (s : Vec Ideal S1280x160 .f32) (m : Fin 1280) (q : Fin 160) :
    k1_pay14 (F := Ideal) T2 p s (k1_pay13 T2 p) (ix2 m q) = s (ix2 m q) +
      term2 p T2 m q 2 2 + term2 p T2 m q 2 3 + term2 p T2 m q 2 4 + term2 p T2 m q 3 0 + term2 p T2 m q 3 1 + term2 p T2 m q 3 2 + term2 p T2 m q 3 3 + term2 p T2 m q 3 4 + term2 p T2 m q 4 0 := by
  pointwise [k1_pay14, k1_pay13, term2]

/-- The last nine. -/
theorem pay17_apply (p : Vec Ideal S128x14x84 .f32) (T2 : Vec Ideal S30x14x160 .f32)
    (s : Vec Ideal S1280x160 .f32) (m : Fin 1280) (q : Fin 160) :
    k1_pay17 (F := Ideal) T2 p s (k1_pay15 p) (k1_pay16 T2) (ix2 m q) = s (ix2 m q) +
      term2 p T2 m q 4 1 + term2 p T2 m q 4 2 + term2 p T2 m q 4 3 + term2 p T2 m q 4 4 + term2 p T2 m q 5 0 + term2 p T2 m q 5 1 + term2 p T2 m q 5 2 + term2 p T2 m q 5 3 + term2 p T2 m q 5 4 := by
  pointwise [k1_pay17, k1_pay15, k1_pay16, term2]

/-- The bias, the positive part and the pooling of the second layer. -/
theorem pay1_apply (s : Vec Ideal S1280x160 .f32) (b : Vec Ideal S1x160 .f32)
    (n : Fin 128) (r : Fin 5) (q : Fin 80) :
    k1_pay1 (F := Ideal) s b (ix3 n r q) =
      Finset.univ.fold max (Ideal.ofBits .f32 0xFF800000#32) fun k : Fin 2 =>
        max (max (s (ix2 ⟨(n.val * 5 + r.val) * 2 + k.val, by omega⟩ ⟨q.val, by omega⟩) + b (ix2 0 ⟨q.val, by omega⟩)) 0)
          (max (s (ix2 ⟨(n.val * 5 + r.val) * 2 + k.val, by omega⟩ ⟨80 + q.val, by omega⟩) + b (ix2 0 ⟨80 + q.val, by omega⟩)) 0) := by
  pointwise [k1_pay1]

/-- The pooled first layer of a block of images. -/
def pool1 (x : Vec Ideal S128x3x32x32 .f32) (T : Vec Ideal S15x32x168 .f32) (b : Vec Ideal S1x168 .f32) : Vec Ideal S128x14x84 .f32 :=
  k1_pay9 x (k1_pay2 T) (k1_pay7 x (k1_pay2 T) (k1_pay4 x T) (k1_pay5 x) (k1_pay6 T)) (k1_pay8 x) b

/-- The second layer before pooling at a flat row: all thirty products, the bias, and the positive part. -/
def layer2 (p : Vec Ideal S128x14x84 .f32) (T : Vec Ideal S30x14x160 .f32) (b : Vec Ideal S1x160 .f32) (m : Fin 1280)
    (q : Fin 160) : EReal :=
  max ((∑ c : Fin 6, ∑ d : Fin 5, term2 p T m q c d) + b (ix2 0 q)) 0

/-- What a featurize step stores, read at image `n`, row `r`, lane `q`. -/
theorem out1_apply (x : Vec Ideal S128x3x32x32 .f32) (T : Vec Ideal S15x32x168 .f32) (b : Vec Ideal S1x168 .f32)
    (T2 : Vec Ideal S30x14x160 .f32) (b2 : Vec Ideal S1x160 .f32) (n : Fin 128) (r : Fin 5) (q : Fin 80) :
    out1_5 x T b T2 b2 (ix3 n r q) =
      Finset.univ.fold max (Ideal.ofBits .f32 0xFF800000#32) fun k : Fin 2 =>
        max (layer2 (pool1 x T b) T2 b2 ⟨(n.val * 5 + r.val) * 2 + k.val, by omega⟩ ⟨q.val, by omega⟩)
          (layer2 (pool1 x T b) T2 b2 ⟨(n.val * 5 + r.val) * 2 + k.val, by omega⟩ ⟨80 + q.val, by omega⟩) := by
  have h0 : View.ld x r1_0 = x := View.ld_unit_lit' _ _ (by decide)
  have h1 : View.ld T r1_1 = T := View.ld_unit_lit' _ _ (by decide)
  have h2 : View.ld b r1_3 = b := View.ld_unit_lit' _ _ (by decide)
  have h3 : View.ld T2 r1_2 = T2 := View.ld_unit_lit' _ _ (by decide)
  have h4 : View.ld b2 r1_4 = b2 := View.ld_unit_lit' _ _ (by decide)
  have hT2 : k1_pay3 (F := Ideal) T2 = T2 := by simp only [k1_pay3, shapeCast_id]
  simp only [out1_5, k1_pay18, k1_pay19, k1_pay20, k1_pay21, k1_pay22, h0, h1, h2, h3, h4, hT2]
  have h5 : ∀ (w : Vec Ideal S128x5x80 .f32), View.canon [⟨r1_5, w⟩] = w := fun w => View.canon_cons_unit_lit' _ w [] (by decide)
  rw [h5, pay1_apply]
  simp only [pay17_apply, pay14_apply, pay12_apply, pay10_apply, layer2, Fin.sum_univ_six, Fin.sum_univ_five, add_assoc, pool1]

/-- The featurize block, image by image. -/
theorem out1_image (x : Vec Ideal S128x3x32x32 .f32) (T : Vec Ideal S15x32x168 .f32) (b : Vec Ideal S1x168 .f32)
    (T2 : Vec Ideal S30x14x160 .f32) (b2 : Vec Ideal S1x160 .f32) (n : Fin 128) (r : Fin 5) (q : Fin 80) :
    out1_5 x T b T2 b2 (ix3 n r q) =
      Cert.Spec.bandPool2 (Cert.Spec.bandPool1 (fun c h w => x (ix4 n c h w)) (fun k w q => T (ix3 k w q)) (fun q => b (ix2 0 q)))
        (fun k w q => T2 (ix3 k w q)) (fun q => b2 (ix2 0 q)) r q := by
  have r1 : ∀ (n : Fin 128) (r : Fin 14) (k : Fin 2) (q : Fin 168),
      layer1 x T b ⟨(n.val * 14 + r.val) * 2 + k.val, by omega⟩ q =
        Cert.Spec.band1 (fun c h w => x (ix4 n c h w)) (fun k w q => T (ix3 k w q)) (fun q => b (ix2 0 q)) ⟨r.val * 2 + k.val, by omega⟩ q := by
    intro n r k q
    have e1 : ((n.val * 14 + r.val) * 2 + k.val) / 28 = n.val := by omega
    have e2 : ((n.val * 14 + r.val) * 2 + k.val) % 28 = r.val * 2 + k.val := by omega
    simp only [layer1, term1, Cert.Spec.band1, e1, e2, Fin.eta]
  have hp : ∀ (n : Fin 128) (r : Fin 14) (q : Fin 84), pool1 x T b (ix3 n r q) =
      Cert.Spec.bandPool1 (fun c h w => x (ix4 n c h w)) (fun k w q => T (ix3 k w q)) (fun q => b (ix2 0 q)) r q := by
    intro n r q
    rw [pool1, pool1_apply]
    simp only [r1, Cert.Spec.bandPool1, Cert.Spec.lo]
  have r2 : ∀ (n : Fin 128) (r : Fin 5) (k : Fin 2) (q : Fin 160),
      layer2 (pool1 x T b) T2 b2 ⟨(n.val * 5 + r.val) * 2 + k.val, by omega⟩ q =
        Cert.Spec.band2 (Cert.Spec.bandPool1 (fun c h w => x (ix4 n c h w)) (fun k w q => T (ix3 k w q)) (fun q => b (ix2 0 q)))
          (fun k w q => T2 (ix3 k w q)) (fun q => b2 (ix2 0 q)) ⟨r.val * 2 + k.val, by omega⟩ q := by
    intro n r k q
    have e1 : ((n.val * 5 + r.val) * 2 + k.val) / 10 = n.val := by omega
    have e2 : ((n.val * 5 + r.val) * 2 + k.val) % 10 = r.val * 2 + k.val := by omega
    simp only [layer2, term2, Cert.Spec.band2, e1, e2, hp, Fin.eta]
  rw [out1_apply]
  simp only [r2, Cert.Spec.bandPool2, Cert.Spec.lo]

end Cert.KernelIdeal.Run
-- ==== Proof.Ideal.Out2.lean ====
/- Both featurize calls store the same block. -/
module

public import proofs.«01_k».proof.Proof.Ideal.Feat1
public import proofs.«01_k».proof.Proof.Ideal.Feat2
public import Idealize.ShloMosaic.Lib.Pointwise
public import Idealize.ShloMosaic.Lib.Ring
public import Idealize.ShloMosaic.Lib.Tactic

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open scoped BigOperators

set_option maxHeartbeats 1000000 in
/-- The second featurize call stores the same block as the first does, from the same inputs. -/
theorem out2_eq (x0 : Vec Ideal S128x3x32x32 .f32) (x1 : Vec Ideal S15x32x168 .f32) (x2 : Vec Ideal S1x168 .f32) (x3 : Vec Ideal S30x14x160 .f32) (x4 : Vec Ideal S1x160 .f32) :
   out2_5 x0 x1 x2 x3 x4 = out1_5 x0 x1 x2 x3 x4 := by
  simp only [out2_5, out1_5, k1_pay18, k1_pay19, k1_pay20, k1_pay21, k1_pay22, k1_pay1, k1_pay2, k1_pay3, k1_pay4, k1_pay5, k1_pay6, k1_pay7, k1_pay8, k1_pay9, k1_pay10, k1_pay11, k1_pay12, k1_pay13, k1_pay14, k1_pay15, k1_pay16, k1_pay17, k2_pay1, k2_pay2, k2_pay3, k2_pay4, k2_pay5, k2_pay6, k2_pay7, k2_pay8, k2_pay9, k2_pay10, k2_pay11, k2_pay12, k2_pay13, k2_pay14, k2_pay15, k2_pay16, k2_pay17, k2_pay18, k2_pay19, k2_pay20, k2_pay21, k2_pay22, k2_pay23, shapeCast_id]

end Cert.KernelIdeal.Run
-- ==== Proof.Ideal.CombineBlock.lean ====
/- The block a combine step stores, read entry by entry. -/
module

public import proofs.«01_k».proof.Proof.Ideal.Combine
public import proofs.«01_k».proof.Proof.Spec
public import Idealize.ShloMosaic.Lib.Pipeline.ValueKit
public import Idealize.ShloMosaic.Lib.Pointwise
public import Idealize.ShloMosaic.Lib.Ring
public import Idealize.ShloMosaic.Lib.Tactic

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open scoped BigOperators

/-- The first head before its bias, for the query images. -/
theorem headq_apply (x : Vec Ideal S128x5x80 .f32) (W : Vec Ideal S5x80x12 .f32) (n : Fin 128) (h : Fin 12) :
    k3_pay9 (F := Ideal) (k3_pay2 x) (k3_pay4 W) (k3_pay6 x W) (ix2 n h) + k3_pay12 (k3_pay2 x) (k3_pay4 W) (ix2 n h) =
      Cert.Spec.lin (fun i q => x (ix3 n i q)) (fun i q => W (ix3 i q h)) := by
  rw [Cert.Spec.lin, Fin.sum_univ_five]
  pointwise [k3_pay9, k3_pay2, k3_pay4, k3_pay6, k3_pay12]

/-- The first head before its bias, for the gathered images. -/
theorem headg_apply (x : Vec Ideal S1024x5x80 .f32) (W : Vec Ideal S5x80x12 .f32) (n : Fin 1024) (h : Fin 12) :
    k3_pay10 (F := Ideal) (k3_pay3 x) (k3_pay4 W) (k3_pay7 x W) (ix2 n h) + k3_pay13 (k3_pay3 x) (k3_pay4 W) (ix2 n h) =
      Cert.Spec.lin (fun i q => x (ix3 n i q)) (fun i q => W (ix3 i q h)) := by
  rw [Cert.Spec.lin, Fin.sum_univ_five]
  pointwise [k3_pay10, k3_pay3, k3_pay4, k3_pay7, k3_pay13]

/-- The gate head before its bias. -/
theorem gate_apply (x : Vec Ideal S128x5x80 .f32) (W : Vec Ideal S5x80x120 .f32) (n : Fin 128) (h : Fin 120) :
    k3_pay11 (F := Ideal) (k3_pay2 x) (k3_pay5 W) (k3_pay8 x W) (ix2 n h) + k3_pay14 (k3_pay2 x) (k3_pay5 W) (ix2 n h) =
      Cert.Spec.lin (fun i q => x (ix3 n i q)) (fun i q => W (ix3 i q h)) := by
  rw [Cert.Spec.lin, Fin.sum_univ_five]
  pointwise [k3_pay11, k3_pay2, k3_pay5, k3_pay8, k3_pay14]

/-- The gates: the gate head with its bias. -/
theorem pay15_3_apply (a b : Vec Ideal S128x120 .f32) (c : Vec Ideal S1x120 .f32) (n : Fin 128) (h : Fin 120) :
    k3_pay15 (F := Ideal) a b c (ix2 n h) = a (ix2 n h) + b (ix2 n h) + c (ix2 0 h) := by
  pointwise [k3_pay15]

/-- The difference of the two heads. -/
theorem pay16_3_apply (a : Vec Ideal S128x12 .f32) (b : Vec Ideal S1024x12 .f32) (a' : Vec Ideal S128x12 .f32) (b' : Vec Ideal S1024x12 .f32) (c d : Vec Ideal S1x12 .f32) (n : Fin 128) (s : Fin 8) (h : Fin 12) :
    k3_pay16 (F := Ideal) a b a' b' c d (ix3 n s h) = (a (ix2 n h) + a' (ix2 n h) + c (ix2 0 h)) -
      (b (ix2 ⟨n.val * 8 + s.val, by omega⟩ h) + b' (ix2 ⟨n.val * 8 + s.val, by omega⟩ h) + d (ix2 0 h)) := by
  pointwise [k3_pay16]

/-- The first terms of the logits: the label part and the first gated differences. -/
theorem pay17_3_apply (a : Vec Ideal S128x12 .f32) (b : Vec Ideal S1024x12 .f32) (a' : Vec Ideal S128x12 .f32) (b' : Vec Ideal S1024x12 .f32) (c d : Vec Ideal S1x12 .f32)
    (e f : Vec Ideal S128x120 .f32) (g : Vec Ideal S1x120 .f32) (gm : Vec Ideal S1024x1x10 .f32) (wm : Vec Ideal S10x10 .f32) (bm : Vec Ideal S1x10 .f32) (n : Fin 128) (s : Fin 8) (k : Fin 10) :
    k3_pay17 (F := Ideal) a b e a' b' f c d g gm wm bm (ix3 n s k) =
     (∑ j : Fin 10, gm (ix3 ⟨n.val * 8 + s.val, by omega⟩ 0 j) * wm (ix2 j k)) + bm (ix2 0 k) +
       k3_pay16 (F := Ideal) a b a' b' c d (ix3 n s 0) * k3_pay15 (F := Ideal) e f g (ix2 n ⟨k.val, by omega⟩) +
       k3_pay16 (F := Ideal) a b a' b' c d (ix3 n s 1) * k3_pay15 (F := Ideal) e f g (ix2 n ⟨10 + k.val, by omega⟩) := by
  pointwise [k3_pay17]

/-- The next eight gated differences. -/
theorem pay19_3_apply (e f : Vec Ideal S128x120 .f32) (g : Vec Ideal S1x120 .f32) (D : Vec Ideal S128x8x12 .f32) (L : Vec Ideal S128x8x10 .f32) (n : Fin 128) (s : Fin 8) (k : Fin 10) :
    k3_pay19 (F := Ideal) (k3_pay15 (F := Ideal) e f g) D L (k3_pay18 e f g) (ix3 n s k) = L (ix3 n s k) +
      D (ix3 n s 2) * k3_pay15 (F := Ideal) e f g (ix2 n ⟨20 + k.val, by omega⟩) +
      D (ix3 n s 3) * k3_pay15 (F := Ideal) e f g (ix2 n ⟨30 + k.val, by omega⟩) +
      D (ix3 n s 4) * k3_pay15 (F := Ideal) e f g (ix2 n ⟨40 + k.val, by omega⟩) +
      D (ix3 n s 5) * k3_pay15 (F := Ideal) e f g (ix2 n ⟨50 + k.val, by omega⟩) +
      D (ix3 n s 6) * k3_pay15 (F := Ideal) e f g (ix2 n ⟨60 + k.val, by omega⟩) +
      D (ix3 n s 7) * k3_pay15 (F := Ideal) e f g (ix2 n ⟨70 + k.val, by omega⟩) +
      D (ix3 n s 8) * k3_pay15 (F := Ideal) e f g (ix2 n ⟨80 + k.val, by omega⟩) +
      D (ix3 n s 9) * k3_pay15 (F := Ideal) e f g (ix2 n ⟨90 + k.val, by omega⟩) := by
  pointwise [k3_pay19, k3_pay18]

/-- The eleventh gated difference. -/
theorem pay20_3_apply (G : Vec Ideal S128x120 .f32) (D : Vec Ideal S128x8x12 .f32) (n : Fin 128) (s : Fin 8) (k : Fin 10) :
    k3_pay20 (F := Ideal) G D (ix3 n s k) = D (ix3 n s 10) * G (ix2 n ⟨100 + k.val, by omega⟩) := by
  pointwise [k3_pay20]

/-- The last gated difference, the distances, their softmax and the weighted sum. -/
theorem pay1_3_apply (G : Vec Ideal S128x120 .f32) (D : Vec Ideal S128x8x12 .f32) (L M : Vec Ideal S128x8x10 .f32) (n : Fin 128) (k : Fin 10) :
    k3_pay1 (F := Ideal) G D L M (ix2 n k) =
      ∑ s : Fin 8, (L (ix3 n s k) + M (ix3 n s k) + D (ix3 n s 11) * G (ix2 n ⟨110 + k.val, by omega⟩)) *
        Cert.Spec.soft (fun t => 0 - Ideal.sqrt (∑ h : Fin 12, D (ix3 n t h) * D (ix3 n t h))) s := by
  pointwise [k3_pay1, Cert.Spec.soft, Cert.Spec.lo]

/-- The twelve gated differences added one by one are their sum. -/
theorem gated_sum (M : EReal) (D : Fin 12 → EReal) (G : Fin 120 → EReal) (k : Fin 10) :
    M + D 0 * G ⟨k.val, by omega⟩ + D 1 * G ⟨10 + k.val, by omega⟩ + D 2 * G ⟨20 + k.val, by omega⟩ + D 3 * G ⟨30 + k.val, by omega⟩ + D 4 * G ⟨40 + k.val, by omega⟩ + D 5 * G ⟨50 + k.val, by omega⟩ + D 6 * G ⟨60 + k.val, by omega⟩ + D 7 * G ⟨70 + k.val, by omega⟩ + D 8 * G ⟨80 + k.val, by omega⟩ + D 9 * G ⟨90 + k.val, by omega⟩ + D 10 * G ⟨100 + k.val, by omega⟩ + D 11 * G ⟨110 + k.val, by omega⟩ =
      M + ∑ h : Fin 12, D h * G ⟨h.val * 10 + k.val, by omega⟩ := by
  have e : ∀ f : Fin 12 → EReal, ∑ h, f h = f 0 + f 1 + f 2 + f 3 + f 4 + f 5 + f 6 + f 7 + f 8 + f 9 + f 10 + f 11 := fun f => by
    simp only [Fin.sum_univ_castSucc, Finset.univ_eq_empty, Finset.sum_empty, zero_add]
    rfl
  rw [e]
  have i0 : (⟨k.val, by omega⟩ : Fin 120) = ⟨(0 : Fin 12).val * 10 + k.val, by simp; omega⟩ := Fin.ext (by simp)
  rw [i0]
  simp only [add_assoc]
  rfl

/-- What a combine step stores, read at query `n`, class `k`. -/
theorem out3_apply (fi : Vec Ideal S128x5x80 .f32) (fr : Vec Ideal S1024x5x80 .f32) (gm : Vec Ideal S1024x1x10 .f32) (Wf : Vec Ideal S5x80x12 .f32)
    (bf : Vec Ideal S1x12 .f32) (Wg : Vec Ideal S5x80x120 .f32) (bg : Vec Ideal S1x120 .f32) (Wm : Vec Ideal S10x10 .f32) (bm : Vec Ideal S1x10 .f32)
    (n : Fin 128) (k : Fin 10) :
    out3_9 fi fr gm Wf bf Wg bg Wm bm (ix2 n k) =
      Cert.Spec.answer
        (fun s h => (Cert.Spec.lin (fun i q => fi (ix3 n i q)) (fun i q => Wf (ix3 i q h)) + bf (ix2 0 h))
          - (Cert.Spec.lin (fun i q => fr (ix3 ⟨n.val * 8 + s.val, by omega⟩ i q)) (fun i q => Wf (ix3 i q h)) + bf (ix2 0 h)))
        (fun h => Cert.Spec.lin (fun i q => fi (ix3 n i q)) (fun i q => Wg (ix3 i q ⟨h.val * 10 + k.val, by omega⟩)) + bg (ix2 0 ⟨h.val * 10 + k.val, by omega⟩))
        (fun s => (∑ j : Fin 10, gm (ix3 ⟨n.val * 8 + s.val, by omega⟩ 0 j) * Wm (ix2 j k)) + bm (ix2 0 k)) := by
  have h0 : View.ld fi r3_0 = fi := View.ld_unit_lit' _ _ (by decide)
  have h1 : View.ld fr r3_1 = fr := View.ld_unit_lit' _ _ (by decide)
  have h2 : View.ld Wf r3_2 = Wf := View.ld_unit_lit' _ _ (by decide)
  have h3 : View.ld Wg r3_3 = Wg := View.ld_unit_lit' _ _ (by decide)
  have h4 : View.ld bf r3_4 = bf := View.ld_unit_lit' _ _ (by decide)
  have h5 : View.ld bg r3_5 = bg := View.ld_unit_lit' _ _ (by decide)
  have h6 : View.ld gm r3_6 = gm := View.ld_unit_lit' _ _ (by decide)
  have h7 : View.ld Wm r3_7 = Wm := View.ld_unit_lit' _ _ (by decide)
  have h8 : View.ld bm r3_8 = bm := View.ld_unit_lit' _ _ (by decide)
  have h9 : ∀ (w : Vec Ideal S128x10 .f32), View.canon [⟨r3_9, w⟩] = w := fun w => View.canon_cons_unit_lit' _ w [] (by decide)
  simp only [out3_9, k3_pay21, k3_pay22, k3_pay23, k3_pay24, k3_pay25, k3_pay26, k3_pay27, k3_pay28, k3_pay29, k3_pay30, k3_pay31, k3_pay32,
    h0, h1, h2, h3, h4, h5, h6, h7, h8, h9, pay1_3_apply, pay20_3_apply, pay19_3_apply, pay17_3_apply, pay16_3_apply, pay15_3_apply,
    headq_apply, headg_apply, gate_apply, Cert.Spec.answer]
  refine Finset.sum_congr rfl fun s _ => ?_
  congr 1
  exact gated_sum _ (fun h => (Cert.Spec.lin (fun i q => fi (ix3 n i q)) (fun i q => Wf (ix3 i q h)) + bf (ix2 0 h))
      - (Cert.Spec.lin (fun i q => fr (ix3 ⟨n.val * 8 + s.val, by omega⟩ i q)) (fun i q => Wf (ix3 i q h)) + bf (ix2 0 h)))
    (fun h => Cert.Spec.lin (fun i q => fi (ix3 n i q)) (fun i q => Wg (ix3 i q h)) + bg (ix2 0 h)) k

end Cert.KernelIdeal.Run
-- ==== Proof.Ideal.RegionVal.lean ====
/- The arrays the two featurize calls leave, and the combine call's blocks, read entry by entry. -/
module

public import proofs.«01_k».proof.Proof.Ideal.FeatBlock
public import proofs.«01_k».proof.Proof.Ideal.Out2
public import proofs.«01_k».proof.Proof.Ideal.CombineBlock
public import Idealize.ShloMosaic.Lib.Pipeline.ValueKit
public import Idealize.ShloMosaic.Lib.Pointwise
public import Idealize.ShloMosaic.Lib.Ring
public import Idealize.ShloMosaic.Lib.Tactic

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open scoped BigOperators

variable (V : (c : Dev nD) → (b : Ref sig .tc) → Buf (Elt Ideal) ((c : Thread nD τ).loc b))

/-- The window's block index at each grid point. -/
theorem idx1_0 : ∀ t : Fin cfg1.N, win1_0.index t = ![t.val, 0, 0, 0] := (by decide +kernel : ∀ t : Fin grid1.N, _)
/-- The window's block index at each grid point. -/
theorem idx1_5 : ∀ t : Fin cfg1.N, win1_5.index t = ![t.val, 0, 0] := (by decide +kernel : ∀ t : Fin grid1.N, _)
/-- The window's block index at each grid point. -/
theorem idx1_1 : ∀ t : Fin cfg1.N, win1_1.index t = ![0, 0, 0] := (by decide +kernel : ∀ t : Fin grid1.N, _)
/-- The window's block index at each grid point. -/
theorem idx1_2 : ∀ t : Fin cfg1.N, win1_2.index t = ![0, 0] := (by decide +kernel : ∀ t : Fin grid1.N, _)
/-- The window's block index at each grid point. -/
theorem idx1_3 : ∀ t : Fin cfg1.N, win1_3.index t = ![0, 0, 0] := (by decide +kernel : ∀ t : Fin grid1.N, _)
/-- The window's block index at each grid point. -/
theorem idx1_4 : ∀ t : Fin cfg1.N, win1_4.index t = ![0, 0] := (by decide +kernel : ∀ t : Fin grid1.N, _)
/-- The number of the call's grid points bounds each of them. -/
theorem N1 (t : Fin cfg1.N) : t.val < 8 := lt_of_lt_of_eq t.isLt (by decide +kernel : cfg1.N = 8)

/-- The features of one image of an array of `N` images, by the banded products. -/
def feats {N : Nat} (x : Vec Ideal ⟨4, ![N, 3, 32, 32]⟩ .f32) (T : Vec Ideal S15x32x168 .f32) (b : Vec Ideal S1x168 .f32)
    (T2 : Vec Ideal S30x14x160 .f32) (b2 : Vec Ideal S1x160 .f32) (n : Fin N) (r : Fin 5) (q : Fin 80) : EReal :=
  Cert.Spec.bandPool2 (Cert.Spec.bandPool1 (fun c h w => x (ix4 n c h w)) (fun k w q => T (ix3 k w q)) (fun q => b (ix2 0 q)))
        (fun k w q => T2 (ix3 k w q)) (fun q => b2 (ix2 0 q)) r q

/-- The weights' windows are the whole arrays at every grid point. -/
theorem blk1_1 (c : Dev nD) (t : Fin cfg1.N) : iblk1 V c 1 t = V c main_v10 := by
  funext y; blk_simp [iblk1]; congr 1; blk_ext [idx1_1 t]
/-- The window is the whole array at every grid point. -/
theorem blk1_2 (c : Dev nD) (t : Fin cfg1.N) : iblk1 V c 2 t = V c main_v21 := by
  funext y; blk_simp [iblk1]; congr 1; blk_ext [idx1_2 t]
/-- The window is the whole array at every grid point. -/
theorem blk1_3 (c : Dev nD) (t : Fin cfg1.N) : iblk1 V c 3 t = V c main_v15 := by
  funext y; blk_simp [iblk1]; congr 1; blk_ext [idx1_3 t]
/-- The window is the whole array at every grid point. -/
theorem blk1_4 (c : Dev nD) (t : Fin cfg1.N) : iblk1 V c 4 t = V c main_v27 := by
  funext y; blk_simp [iblk1]; congr 1; blk_ext [idx1_4 t]

/-- The images' window at grid point `t` holds images `128 t` to `128 t + 127`. -/
theorem blk1_0 (c : Dev nD) (t : Fin cfg1.N) (n : Fin 128) (k : Fin 3) (h w : Fin 32) :
    iblk1 V c 0 t (ix4 n k h w) = V c main_arg0 (ix4 (n0 := 1024) ⟨t.val * 128 + n.val, by have := N1 t; omega⟩ k h w) := by
  blk_simp [iblk1]; congr 1; blk_ext [idx1_0 t]

/-- What the first featurize call leaves: every image's features. -/
theorem final1 (c : Dev nD) : (dat1 V c).arrAt 5 cfg1.N = fun i => feats (N := 1024) (V c main_arg0) (V c main_v10) (V c main_v21) (V c main_v15) (V c main_v27) (i 0) (i 1) (i 2) := by
  refine (dat1 V c).arrAt_eq_of_covers 5 _ (by decide +kernel) fun t hf y => ?_
  blk_simp
  rw [after1_5, blk1_1, blk1_2, blk1_3, blk1_4]
  have key : ∀ y : S128x5x80.Idx, out1_5 (iblk1 V c 0 t) (V c main_v10) (V c main_v21) (V c main_v15) (V c main_v27) y =
      feats (N := 1024) (V c main_arg0) (V c main_v10) (V c main_v21) (V c main_v15) (V c main_v27) ⟨t.val * 128 + (y 0).val, by have := N1 t; have : (y 0).val < 128 := (y 0).isLt; omega⟩ (y 1) (y 2) := by
    intro y
    idx_vars y
    rw [out1_image]
    simp only [feats, blk1_0]
  have e : ∀ y : S128x5x80.Idx, ((win1_5.blk t).view.emb y) = ix3 (n0 := 1024) ⟨t.val * 128 + (y 0).val, by have := N1 t; have : (y 0).val < 128 := (y 0).isLt; omega⟩ (y 1) (y 2) := by
    intro y
    blk_ext [idx1_5 t]
  exact (key y).trans (by rw [e y]; rfl)

/-- The window's block index at each grid point. -/
theorem idx2_0 : ∀ t : Fin cfg2.N, win2_0.index t = ![t.val, 0, 0, 0] := (by decide +kernel : ∀ t : Fin grid2.N, _)
/-- The window's block index at each grid point. -/
theorem idx2_5 : ∀ t : Fin cfg2.N, win2_5.index t = ![t.val, 0, 0] := (by decide +kernel : ∀ t : Fin grid2.N, _)
/-- The window's block index at each grid point. -/
theorem idx2_1 : ∀ t : Fin cfg2.N, win2_1.index t = ![0, 0, 0] := (by decide +kernel : ∀ t : Fin grid2.N, _)
/-- The window's block index at each grid point. -/
theorem idx2_2 : ∀ t : Fin cfg2.N, win2_2.index t = ![0, 0] := (by decide +kernel : ∀ t : Fin grid2.N, _)
/-- The window's block index at each grid point. -/
theorem idx2_3 : ∀ t : Fin cfg2.N, win2_3.index t = ![0, 0, 0] := (by decide +kernel : ∀ t : Fin grid2.N, _)
/-- The window's block index at each grid point. -/
theorem idx2_4 : ∀ t : Fin cfg2.N, win2_4.index t = ![0, 0] := (by decide +kernel : ∀ t : Fin grid2.N, _)
/-- The number of the call's grid points bounds each of them. -/
theorem N2 (t : Fin cfg2.N) : t.val < 64 := lt_of_lt_of_eq t.isLt (by decide +kernel : cfg2.N = 64)

/-- The weights' windows are the whole arrays at every grid point. -/
theorem blk2_1 (c : Dev nD) (t : Fin cfg2.N) : iblk2 V c 1 t = V c main_v10 := by
  funext y; blk_simp [iblk2]; congr 1; blk_ext [idx2_1 t]
/-- The window is the whole array at every grid point. -/
theorem blk2_2 (c : Dev nD) (t : Fin cfg2.N) : iblk2 V c 2 t = V c main_v21 := by
  funext y; blk_simp [iblk2]; congr 1; blk_ext [idx2_2 t]
/-- The window is the whole array at every grid point. -/
theorem blk2_3 (c : Dev nD) (t : Fin cfg2.N) : iblk2 V c 3 t = V c main_v15 := by
  funext y; blk_simp [iblk2]; congr 1; blk_ext [idx2_3 t]
/-- The window is the whole array at every grid point. -/
theorem blk2_4 (c : Dev nD) (t : Fin cfg2.N) : iblk2 V c 4 t = V c main_v27 := by
  funext y; blk_simp [iblk2]; congr 1; blk_ext [idx2_4 t]

/-- The images' window at grid point `t` holds images `128 t` to `128 t + 127`. -/
theorem blk2_0 (c : Dev nD) (t : Fin cfg2.N) (n : Fin 128) (k : Fin 3) (h w : Fin 32) :
    iblk2 V c 0 t (ix4 n k h w) = V c main_v48_0 (ix4 (n0 := 8192) ⟨t.val * 128 + n.val, by have := N2 t; omega⟩ k h w) := by
  blk_simp [iblk2]; congr 1; blk_ext [idx2_0 t]

/-- What the second featurize call leaves: every image's features. -/
theorem final2 (c : Dev nD) : (dat2 V c).arrAt 5 cfg2.N = fun i => feats (N := 8192) (V c main_v48_0) (V c main_v10) (V c main_v21) (V c main_v15) (V c main_v27) (i 0) (i 1) (i 2) := by
  refine (dat2 V c).arrAt_eq_of_covers 5 _ (by decide +kernel) fun t hf y => ?_
  blk_simp
  rw [after2_5, blk2_1, blk2_2, blk2_3, blk2_4]
  have key : ∀ y : S128x5x80.Idx, out2_5 (iblk2 V c 0 t) (V c main_v10) (V c main_v21) (V c main_v15) (V c main_v27) y =
      feats (N := 8192) (V c main_v48_0) (V c main_v10) (V c main_v21) (V c main_v15) (V c main_v27) ⟨t.val * 128 + (y 0).val, by have := N2 t; have : (y 0).val < 128 := (y 0).isLt; omega⟩ (y 1) (y 2) := by
    intro y
    idx_vars y
    rw [out2_eq, out1_image]
    simp only [feats, blk2_0]
  have e : ∀ y : S128x5x80.Idx, ((win2_5.blk t).view.emb y) = ix3 (n0 := 8192) ⟨t.val * 128 + (y 0).val, by have := N2 t; have : (y 0).val < 128 := (y 0).isLt; omega⟩ (y 1) (y 2) := by
    intro y
    blk_ext [idx2_5 t]
  exact (key y).trans (by rw [e y]; rfl)

/-- The window's block index at each grid point. -/
theorem idx3_0 : ∀ t : Fin cfg3.N, win3_0.index t = ![t.val, 0, 0] := (by decide +kernel : ∀ t : Fin grid3.N, _)
/-- The window's block index at each grid point. -/
theorem idx3_1 : ∀ t : Fin cfg3.N, win3_1.index t = ![t.val, 0, 0] := (by decide +kernel : ∀ t : Fin grid3.N, _)
/-- The window's block index at each grid point. -/
theorem idx3_2 : ∀ t : Fin cfg3.N, win3_2.index t = ![t.val, 0, 0] := (by decide +kernel : ∀ t : Fin grid3.N, _)
/-- The window's block index at each grid point. -/
theorem idx3_3 : ∀ t : Fin cfg3.N, win3_3.index t = ![0, 0, 0] := (by decide +kernel : ∀ t : Fin grid3.N, _)
/-- The window's block index at each grid point. -/
theorem idx3_4 : ∀ t : Fin cfg3.N, win3_4.index t = ![0, 0] := (by decide +kernel : ∀ t : Fin grid3.N, _)
/-- The window's block index at each grid point. -/
theorem idx3_5 : ∀ t : Fin cfg3.N, win3_5.index t = ![0, 0, 0] := (by decide +kernel : ∀ t : Fin grid3.N, _)
/-- The window's block index at each grid point. -/
theorem idx3_6 : ∀ t : Fin cfg3.N, win3_6.index t = ![0, 0] := (by decide +kernel : ∀ t : Fin grid3.N, _)
/-- The window's block index at each grid point. -/
theorem idx3_7 : ∀ t : Fin cfg3.N, win3_7.index t = ![0, 0] := (by decide +kernel : ∀ t : Fin grid3.N, _)
/-- The window's block index at each grid point. -/
theorem idx3_8 : ∀ t : Fin cfg3.N, win3_8.index t = ![0, 0] := (by decide +kernel : ∀ t : Fin grid3.N, _)
/-- The window's block index at each grid point. -/
theorem idx3_9 : ∀ t : Fin cfg3.N, win3_9.index t = ![t.val, 0] := (by decide +kernel : ∀ t : Fin grid3.N, _)
/-- The number of the call's grid points bounds each of them. -/
theorem N3 (t : Fin cfg3.N) : t.val < 8 := lt_of_lt_of_eq t.isLt (by decide +kernel : cfg3.N = 8)

/-- The weights' windows are the whole arrays at every grid point. -/
theorem blk3_3 (c : Dev nD) (t : Fin cfg3.N) : iblk3 V c 3 t = V c main_v34 := by
  funext y; blk_simp [iblk3]; congr 1; blk_ext [idx3_3 t]
/-- The window is the whole array at every grid point. -/
theorem blk3_4 (c : Dev nD) (t : Fin cfg3.N) : iblk3 V c 4 t = V c main_v42 := by
  funext y; blk_simp [iblk3]; congr 1; blk_ext [idx3_4 t]
/-- The window is the whole array at every grid point. -/
theorem blk3_5 (c : Dev nD) (t : Fin cfg3.N) : iblk3 V c 5 t = V c main_v41 := by
  funext y; blk_simp [iblk3]; congr 1; blk_ext [idx3_5 t]
/-- The window is the whole array at every grid point. -/
theorem blk3_6 (c : Dev nD) (t : Fin cfg3.N) : iblk3 V c 6 t = V c main_v43 := by
  funext y; blk_simp [iblk3]; congr 1; blk_ext [idx3_6 t]
/-- The window is the whole array at every grid point. -/
theorem blk3_7 (c : Dev nD) (t : Fin cfg3.N) : iblk3 V c 7 t = V c main_v44 := by
  funext y; blk_simp [iblk3]; congr 1; blk_ext [idx3_7 t]
/-- The window is the whole array at every grid point. -/
theorem blk3_8 (c : Dev nD) (t : Fin cfg3.N) : iblk3 V c 8 t = V c main_v45 := by
  funext y; blk_simp [iblk3]; congr 1; blk_ext [idx3_8 t]

/-- The queries' features at grid point `t`: queries `128 t` to `128 t + 127`. -/
theorem blk3_0 (c : Dev nD) (t : Fin cfg3.N) (n : Fin 128) (i : Fin 5) (q : Fin 80) :
    iblk3 V c 0 t (ix3 n i q) = V c main_v49 (ix3 (n0 := 1024) ⟨t.val * 128 + n.val, by have := N3 t; omega⟩ i q) := by
  blk_simp [iblk3]; congr 1; blk_ext [idx3_0 t]
/-- The neighbours' features at grid point `t`: eight per query. -/
theorem blk3_1 (c : Dev nD) (t : Fin cfg3.N) (n : Fin 1024) (i : Fin 5) (q : Fin 80) :
    iblk3 V c 1 t (ix3 n i q) = V c main_v50 (ix3 (n0 := 8192) ⟨t.val * 1024 + n.val, by have := N3 t; omega⟩ i q) := by
  blk_simp [iblk3]; congr 1; blk_ext [idx3_1 t]
/-- The neighbours' label rows at grid point `t`. -/
theorem blk3_2 (c : Dev nD) (t : Fin cfg3.N) (n : Fin 1024) (i : Fin 1) (q : Fin 10) :
    iblk3 V c 2 t (ix3 n i q) = V c main_v48_1 (ix3 (n0 := 8192) ⟨t.val * 1024 + n.val, by have := N3 t; omega⟩ i q) := by
  blk_simp [iblk3]; congr 1; blk_ext [idx3_2 t]

/-- The answer to query `n`, class `k`, from features, label rows and weights. -/
def answers (fi : Vec Ideal S1024x5x80 .f32) (fr : Vec Ideal S8192x5x80 .f32) (gm : Vec Ideal S8192x1x10 .f32) (Wf : Vec Ideal S5x80x12 .f32)
    (bf : Vec Ideal S1x12 .f32) (Wg : Vec Ideal S5x80x120 .f32) (bg : Vec Ideal S1x120 .f32) (Wm : Vec Ideal S10x10 .f32) (bm : Vec Ideal S1x10 .f32)
    (n : Fin 1024) (k : Fin 10) : EReal :=
  Cert.Spec.answer
    (fun s h => (Cert.Spec.lin (fun i q => fi (ix3 n i q)) (fun i q => Wf (ix3 i q h)) + bf (ix2 0 h))
      - (Cert.Spec.lin (fun i q => fr (ix3 ⟨n.val * 8 + s.val, by omega⟩ i q)) (fun i q => Wf (ix3 i q h)) + bf (ix2 0 h)))
    (fun h => Cert.Spec.lin (fun i q => fi (ix3 n i q)) (fun i q => Wg (ix3 i q ⟨h.val * 10 + k.val, by omega⟩)) + bg (ix2 0 ⟨h.val * 10 + k.val, by omega⟩))
    (fun s => (∑ j : Fin 10, gm (ix3 ⟨n.val * 8 + s.val, by omega⟩ 0 j) * Wm (ix2 j k)) + bm (ix2 0 k))

end Cert.KernelIdeal.Run
-- ==== Proof.Ideal.RegionVal3.lean ====
/- The array the combine call leaves, read entry by entry. -/
module

public import proofs.«01_k».proof.Proof.Ideal.RegionVal
public import Idealize.ShloMosaic.Lib.Pointwise
public import Idealize.ShloMosaic.Lib.Ring
public import Idealize.ShloMosaic.Lib.Tactic

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open scoped BigOperators

variable (V : (c : Dev nD) → (b : Ref sig .tc) → Buf (Elt Ideal) ((c : Thread nD τ).loc b))

/-- Every query's answer, from the arrays the combine call reads. -/
def answers3 (c : Dev nD) : S1024x10.Idx → EReal := fun i => answers (V c main_v49) (V c main_v50) (V c main_v48_1) (V c main_v34) (V c main_v42)
    (V c main_v41) (V c main_v43) (V c main_v44) (V c main_v45) (i 0) (i 1)

/-- A combine step stores the answers of its 128 queries. -/
theorem step3 (c : Dev nD) (t : Fin cfg3.N) (n : Fin 128) (k : Fin 10) :
    out3_9 (iblk3 V c 0 t) (iblk3 V c 1 t) (iblk3 V c 2 t) (V c main_v34) (V c main_v42)
      (V c main_v41) (V c main_v43) (V c main_v44) (V c main_v45) (ix2 n k) =
      answers3 V c (ix2 (n0 := 1024) ⟨t.val * 128 + n.val, by have := N3 t; omega⟩ k) := by
  have e : ∀ s : Fin 8, t.val * 1024 + (n.val * 8 + s.val) = (t.val * 128 + n.val) * 8 + s.val := fun s => by omega
  rw [out3_apply]
  simp only [answers3, answers, blk3_0, blk3_1, blk3_2, e]
  rfl

/-- What the combine call leaves: every query's answer. -/
theorem final3 (c : Dev nD) : (dat3 V c).arrAt 9 cfg3.N = answers3 V c := by
  refine (dat3 V c).arrAt_eq_of_covers 9 _ (by decide +kernel) fun t hf y => ?_
  blk_simp
  rw [after3_9, blk3_3, blk3_4, blk3_5, blk3_6, blk3_7, blk3_8]
  have e : ∀ y : S128x10.Idx, ((win3_9.blk t).view.emb y) = ix2 (n0 := 1024) ⟨t.val * 128 + (y 0).val, by have := N3 t; have : (y 0).val < 128 := (y 0).isLt; omega⟩ (y 1) := by
    intro y
    blk_ext [idx3_9 t]
  have key : ∀ y : S128x10.Idx, out3_9 (iblk3 V c 0 t) (iblk3 V c 1 t) (iblk3 V c 2 t) (V c main_v34) (V c main_v42)
      (V c main_v41) (V c main_v43) (V c main_v44) (V c main_v45) y = answers3 V c ((win3_9.blk t).view.emb y) := by
    intro y
    rw [e y]
    idx_vars y
    exact step3 V c t y0 y1
  exact key y

end Cert.KernelIdeal.Run
-- ==== Proof.Ideal.GatherRows.lean ====
/- The blocks the gather body stores, read row by row. -/
module

public import proofs.«01_k».proof.Proof.Ideal.Gather
public import Idealize.ShloMosaic.Lib.Pipeline.ValueKit
public import Idealize.ShloMosaic.Lib.Pointwise
public import Idealize.ShloMosaic.Lib.Ring
public import Idealize.ShloMosaic.Lib.Tactic

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open scoped BigOperators

/-- The image rows as stored: the block reads row by row. -/
theorem out64_row (x : Fin 32 → Vec Ideal S1x3x32x32 .f32) (y : S32x3x32x32.Idx) :
    out0_64 x y = x (y 0) (ix4 (n0 := 1) 0 (y 1) (y 2) (y 3)) := by
  unfold out0_64
  refine View.canon_apply_of_pieces (fun y : S32x3x32x32.Idx => x (y 0) (ix4 (n0 := 1) 0 (y 1) (y 2) (y 3))) _ ?_ y (coverImg x y)
  intro p hp u
  obtain ⟨g, -, rfl⟩ := List.mem_map.mp hp
  have hv : ∀ u : S1x3x32x32.Idx, k0_pay2 (View.ld (x g) rImg) u = x g u := by
    intro u
    idx_vars u
    obtain rfl : u0 = 0 := Subsingleton.elim _ _
    pointwise [k0_pay2]
  have he : ∀ u : S1x3x32x32.Idx, (rowImg g).emb u = ix4 (n0 := 32) g (u 1) (u 2) (u 3) := by
    intro u
    idx_vars u
    blk_ext []
  have hu : ∀ u : S1x3x32x32.Idx, u = ix4 (n0 := 1) 0 (u 1) (u 2) (u 3) := by
    intro u
    idx_vars u
    obtain rfl : u0 = 0 := Subsingleton.elim _ _
    rfl
  refine (hv u).trans ?_
  refine ((congrArg (x g) (hu u)).trans ?_)
  have hG : ∀ (v : S32x3x32x32.Idx), v = ix4 (n0 := 32) g (u 1) (u 2) (u 3) → x g (ix4 (n0 := 1) 0 (u 1) (u 2) (u 3)) = x (v 0) (ix4 (n0 := 1) 0 (v 1) (v 2) (v 3)) := by
    intro v hv
    subst hv
    rfl
  exact hG _ (he u)

/-- The label rows as stored: the block reads row by row. -/
theorem out65_row (x : Fin 32 → Vec Ideal S1x1x10 .f32) (y : S32x1x10.Idx) :
    out0_65 x y = x (y 0) (ix3 (n0 := 1) (n1 := 1) 0 (y 1) (y 2)) := by
  unfold out0_65
  refine View.canon_apply_of_pieces (fun y : S32x1x10.Idx => x (y 0) (ix3 (n0 := 1) (n1 := 1) 0 (y 1) (y 2))) _ ?_ y (coverLab x y)
  intro p hp u
  obtain ⟨g, -, rfl⟩ := List.mem_map.mp hp
  have hv : ∀ u : S1x1x10.Idx, k0_pay1 (k0_pay71 (View.ld (x g) rLab)) u = x g u := by
    intro u
    idx_vars u
    obtain rfl : u0 = 0 := Subsingleton.elim _ _
    obtain rfl : u1 = 0 := Subsingleton.elim _ _
    pointwise [k0_pay1, k0_pay71]
  have he : ∀ u : S1x1x10.Idx, (rowLab g).emb u = ix3 (n0 := 32) g (u 1) (u 2) := by
    intro u
    idx_vars u
    blk_ext []
  have hu : ∀ u : S1x1x10.Idx, u = ix3 (n0 := 1) (n1 := 1) 0 (u 1) (u 2) := by
    intro u
    idx_vars u
    obtain rfl : u0 = 0 := Subsingleton.elim _ _
    obtain rfl : u1 = 0 := Subsingleton.elim _ _
    rfl
  refine (hv u).trans ?_
  refine ((congrArg (x g) (hu u)).trans ?_)
  have hG : ∀ (v : S32x1x10.Idx), v = ix3 (n0 := 32) g (u 1) (u 2) → x g (ix3 (n0 := 1) (n1 := 1) 0 (u 1) (u 2)) = x (v 0) (ix3 (n0 := 1) (n1 := 1) 0 (v 1) (v 2)) := by
    intro v hv
    subst hv
    rfl
  exact hG _ (he u)

end Cert.KernelIdeal.Run
-- ==== Proof.Ideal.GatherVal.lean ====
/- The arrays the gather call leaves, read entry by entry. -/
module

public import proofs.«01_k».proof.Proof.Ideal.Gather
public import Idealize.ShloMosaic.Lib.Pipeline.ValueKit
public import Idealize.ShloMosaic.Lib.Pointwise
public import Idealize.ShloMosaic.Lib.Ring
public import Idealize.ShloMosaic.Lib.Tactic

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open scoped BigOperators

variable (a : (pcfg0 (F := Ideal)).Adm) (V : (c : Dev nD) → (b : Ref sig .tc) → Buf (Elt Ideal) ((c : Thread nD τ).loc b))

/-- The gather has 256 grid points. -/
theorem N0 (t : Fin (cfg0 a).N) : t.val < 256 := lt_of_lt_of_eq t.isLt (by decide +kernel : grid0.N = 256)

/-- The word the `g`-th window of grid point `t` is chosen by: entry `32 t + g` of the table. -/
def ref (t : Fin (cfg0 a).N) (g : Fin 32) : BitVec 32 := a.1 0 (ix1 (n0 := 8192) ⟨t.val * 32 + g.val, by have := N0 a t; omega⟩)

/-- A grid point's place in the table, as a number. -/
theorem off_eq : ∀ (t : Fin grid0.N) (g : Fin 32), k0_off1 (grid0.coords t) (BitVec.ofNat 32 g.val) = ![t.val * 32 + g.val] := by
  intro t g
  have h0 : ∀ t : Fin grid0.N, ((grid0.coords t) 0).val = t.val := by decide +kernel
  have ht : t.val < 256 := lt_of_lt_of_eq t.isLt (by decide +kernel : grid0.N = 256)
  have hg := g.isLt
  unfold k0_off1
  funext x
  fin_cases x
  show (Scalar.indexCast (Scalar.addi (Scalar.muli (BitVec.ofNat 32 ((grid0.coords t) 0).val) 32#32) (BitVec.ofNat 32 g.val))).toNat = t.val * 32 + g.val
  rw [h0]
  simp only [Scalar.indexCast, Scalar.addi, Scalar.muli, IntOp.addi, IntOp.muli, BitVec.toNat_add, BitVec.toNat_mul, BitVec.toNat_ofNat]
  omega

/-- The table's entry as the windows' index maps read it. -/
theorem at_eq (t : Fin (cfg0 a).N) (g : Fin 32) (inb : ∀ x, (k0_off1 (grid0.coords t) (BitVec.ofNat 32 g.val)) x + S1.size x ≤ S8192.size x) (h1 : S1.numel = 1) :
    (a.1.at 0 (Rect.unit (s := S8192) (k0_off1 (grid0.coords t) (BitVec.ofNat 32 g.val)) S1.size inb) h1 : BitVec 32) = ref a t g := by
  unfold Pipeline.Prefetch.Contents.at ref
  refine congrArg (a.1 0) (funext fun x => Fin.ext ?_)
  fin_cases x
  show k0_off1 (grid0.coords t) (BitVec.ofNat 32 g.val) 0 + 1 * 0 = t.val * 32 + g.val
  rw [off_eq]
  rfl

/-- A block index with only its first coordinate set, at an entry of an image row. -/
theorem coord_img (idx : Fin 4 → Nat) (v : Nat) (hv : v < 50000) (hidx : idx = ![v, 0, 0, 0]) (k : Fin 3) (h w : Fin 32) (x : Fin 4) :
    idx x * S1x3x32x32.size x + (ix4 (n0 := 1) 0 k h w x).val = (ix4 (n0 := 50000) ⟨v, hv⟩ k h w x).val := by
  subst hidx
  fin_cases x
  · show v * 1 + 0 = v
    omega
  · show 0 * 3 + k.val = k.val
    omega
  · show 0 * 32 + h.val = h.val
    omega
  · show 0 * 32 + w.val = w.val
    omega

/-- A statement about each of the 32 rows, from its 32 instances. -/
theorem all_rows {P : Fin 32 → Prop} (h0 : P 0) (h1 : P 1) (h2 : P 2) (h3 : P 3) (h4 : P 4) (h5 : P 5) (h6 : P 6) (h7 : P 7) (h8 : P 8) (h9 : P 9) (h10 : P 10) (h11 : P 11) (h12 : P 12) (h13 : P 13) (h14 : P 14) (h15 : P 15) (h16 : P 16) (h17 : P 17) (h18 : P 18) (h19 : P 19) (h20 : P 20) (h21 : P 21) (h22 : P 22) (h23 : P 23) (h24 : P 24) (h25 : P 25) (h26 : P 26) (h27 : P 27) (h28 : P 28) (h29 : P 29) (h30 : P 30) (h31 : P 31) : ∀ g, P g
  | ⟨0, _⟩ => h0
  | ⟨1, _⟩ => h1
  | ⟨2, _⟩ => h2
  | ⟨3, _⟩ => h3
  | ⟨4, _⟩ => h4
  | ⟨5, _⟩ => h5
  | ⟨6, _⟩ => h6
  | ⟨7, _⟩ => h7
  | ⟨8, _⟩ => h8
  | ⟨9, _⟩ => h9
  | ⟨10, _⟩ => h10
  | ⟨11, _⟩ => h11
  | ⟨12, _⟩ => h12
  | ⟨13, _⟩ => h13
  | ⟨14, _⟩ => h14
  | ⟨15, _⟩ => h15
  | ⟨16, _⟩ => h16
  | ⟨17, _⟩ => h17
  | ⟨18, _⟩ => h18
  | ⟨19, _⟩ => h19
  | ⟨20, _⟩ => h20
  | ⟨21, _⟩ => h21
  | ⟨22, _⟩ => h22
  | ⟨23, _⟩ => h23
  | ⟨24, _⟩ => h24
  | ⟨25, _⟩ => h25
  | ⟨26, _⟩ => h26
  | ⟨27, _⟩ => h27
  | ⟨28, _⟩ => h28
  | ⟨29, _⟩ => h29
  | ⟨30, _⟩ => h30
  | ⟨31, _⟩ => h31
  | ⟨_ + 32, h⟩ => absurd h (by omega)

/-- A grid point's place in the table lies in the table. -/
theorem inb_off (t : Fin (cfg0 a).N) (g : Fin 32) : ∀ x, (k0_off1 (grid0.coords t) (BitVec.ofNat 32 g.val)) x + S1.size x ≤ S8192.size x := by
  rw [off_eq]
  intro x
  have := N0 a t
  have := g.isLt
  fin_cases x
  show t.val * 32 + g.val + 1 ≤ 8192
  omega

/-- The block index of an image window, as its index map computes it from the table. -/
def want4 (t : Fin (cfg0 a).N) (g : Fin 32) : Fin 4 → Nat :=
  ![BitVec.toNat (a.1.at 0 (Rect.unit (s := S8192) (k0_off1 (grid0.coords t) (BitVec.ofNat 32 g.val)) S1.size (inb_off a t g)) (by rfl)), (0#32).toNat, (0#32).toNat, (0#32).toNat]

/-- The block index of a label window, as its index map computes it from the table. -/
def want3 (t : Fin (cfg0 a).N) (g : Fin 32) : Fin 3 → Nat :=
  ![BitVec.toNat (a.1.at 0 (Rect.unit (s := S8192) (k0_off1 (grid0.coords t) (BitVec.ofNat 32 g.val)) S1.size (inb_off a t g)) (by rfl)), (0#32).toNat, (0#32).toNat]

/-- The image window's block index is the table's entry. -/
theorem idx_img (t : Fin (cfg0 a).N) (g : Fin 32) : (![(ref a t g).toNat, 0, 0, 0] : Fin 4 → Nat) = want4 a t g :=
  congrArg (fun v : BitVec 32 => (![v.toNat, 0, 0, 0] : Fin 4 → Nat)) (at_eq a t g _ _).symm

/-- The label window's block index is the table's entry. -/
theorem idx_lab (t : Fin (cfg0 a).N) (g : Fin 32) : (![(ref a t g).toNat, 0, 0] : Fin 3 → Nat) = want3 a t g :=
  congrArg (fun v : BitVec 32 => (![v.toNat, 0, 0] : Fin 3 → Nat)) (at_eq a t g _ _).symm

/-- The same as `coord_img` for a label row. -/
theorem coord_lab (idx : Fin 3 → Nat) (v : Nat) (hv : v < 50000) (hidx : idx = ![v, 0, 0]) (k : Fin 10) (x : Fin 3) :
    idx x * S1x1x10.size x + (ix3 (n0 := 1) (n1 := 1) 0 0 k x).val = (ix3 (n0 := 50000) (n1 := 1) ⟨v, hv⟩ 0 k x).val := by
  subst hidx
  fin_cases x
  · show v * 1 + 0 = v
    omega
  · show 0 * 1 + 0 = 0
    omega
  · show 0 * 10 + k.val = k.val
    omega

set_option maxHeartbeats 4000000 in
/-- The block the `g`-th image window is given: the image the table names. -/
theorem img_blk (c : Dev nD) (t : Fin (cfg0 a).N) (k : Fin 3) (h w : Fin 32) (H : ∀ j : S8192.Idx, (a.1 0 j : BitVec 32).toNat < 50000) :
    ∀ g : Fin 32, xs0 a V c t g (ix4 (n0 := 1) 0 k h w) = V c main_arg1 (ix4 (n0 := 50000) ⟨(ref a t g).toNat, H _⟩ k h w) := by
  apply all_rows
  all_goals
    change V c main_arg1 _ = _
    refine congrArg (V c main_arg1) (funext fun x => Fin.ext ?_)
    refine (Pipeline.Window.rect_emb_val _ _ _ _).trans ?_
    refine coord_img _ _ _ ?_ k h w x
    rw [idx_img a t]
    exact rfl

set_option maxHeartbeats 4000000 in
/-- The block the `g`-th label window is given: the label row the table names. -/
theorem lab_blk (c : Dev nD) (t : Fin (cfg0 a).N) (k : Fin 10) (H : ∀ j : S8192.Idx, (a.1 0 j : BitVec 32).toNat < 50000) :
    ∀ g : Fin 32, ys0 a V c t g (ix3 (n0 := 1) (n1 := 1) 0 0 k) = V c main_v47 (ix3 (n0 := 50000) (n1 := 1) ⟨(ref a t g).toNat, H _⟩ 0 k) := by
  apply all_rows
  all_goals
    change V c main_v47 _ = _
    refine congrArg (V c main_v47) (funext fun x => Fin.ext ?_)
    refine (Pipeline.Window.rect_emb_val _ _ _ _).trans ?_
    refine coord_lab _ _ _ ?_ k x
    rw [idx_lab a t]
    exact rfl

end Cert.KernelIdeal.Run
-- ==== Proof.Ideal.GatherFin.lean ====
/- The arrays the gather call leaves. -/
module

public import proofs.«01_k».proof.Proof.Ideal.GatherRows
public import proofs.«01_k».proof.Proof.Ideal.GatherVal
public import proofs.«01_k».proof.Proof.Ideal.Table
public import Idealize.ShloMosaic.Lib.Pointwise
public import Idealize.ShloMosaic.Lib.Ring
public import Idealize.ShloMosaic.Lib.Tactic

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open scoped BigOperators

/-- A table of zeros: the output windows are placed without looking at the table, so their facts are decided on it. -/
def zeros : (pcfg0 (F := Ideal)).Adm := ⟨fun k => fun _ => match k with | 0 => (0#32 : BitVec 32), ok_of_lt _ (fun _ => by show (0#32 : BitVec 32).toNat < 50000; decide)⟩

variable (a : (pcfg0 (F := Ideal)).Adm) (V : (c : Dev nD) → (b : Ref sig .tc) → Buf (Elt Ideal) ((c : Thread nD τ).loc b))

/-- The grid's blocks cover the gathered images. -/
theorem cov64 : ((cfg0 a).win (64 : Fin 66)).Covers := (by decide +kernel : ((cfg0 zeros).win (64 : Fin 66)).Covers)
/-- The grid's blocks cover the gathered label rows. -/
theorem cov65 : ((cfg0 a).win (65 : Fin 66)).Covers := (by decide +kernel : ((cfg0 zeros).win (65 : Fin 66)).Covers)
/-- The gathered images' block index is the grid point. -/
theorem idx64 : ∀ t : Fin (cfg0 a).N, ((cfg0 a).win (64 : Fin 66)).index t = ![t.val, 0, 0, 0] :=
  (by decide +kernel : ∀ t : Fin grid0.N, ((cfg0 zeros).win (64 : Fin 66)).index t = ![t.val, 0, 0, 0])
/-- The gathered label rows' block index is the grid point. -/
theorem idx65 : ∀ t : Fin (cfg0 a).N, ((cfg0 a).win (65 : Fin 66)).index t = ![t.val, 0, 0] :=
  (by decide +kernel : ∀ t : Fin grid0.N, ((cfg0 zeros).win (65 : Fin 66)).index t = ![t.val, 0, 0])

/-- The gathered images. -/
def gImg (c : Dev nD) (H : ∀ j : S8192.Idx, (a.1 0 j : BitVec 32).toNat < 50000) : Vec Ideal S8192x3x32x32 .f32 :=
  fun i => (V c main_arg1 (ix4 (n0 := 50000) ⟨(a.1 0 (ix1 (n0 := 8192) (i 0)) : BitVec 32).toNat, H _⟩ (i 1) (i 2) (i 3)) : EReal)
/-- The gathered label rows. -/
def gLab (c : Dev nD) (H : ∀ j : S8192.Idx, (a.1 0 j : BitVec 32).toNat < 50000) : Vec Ideal S8192x1x10 .f32 :=
  fun i => (V c main_v47 (ix3 (n0 := 50000) (n1 := 1) ⟨(a.1 0 (ix1 (n0 := 8192) (i 0)) : BitVec 32).toNat, H _⟩ 0 (i 2)) : EReal)

/-- A gather step stores the image rows its table entries name. -/
theorem step_img (c : Dev nD) (H : ∀ j : S8192.Idx, (a.1 0 j : BitVec 32).toNat < 50000) (t : Fin (cfg0 a).N) (y : S32x3x32x32.Idx) :
    out0_64 (xs0 a V c t) y = gImg a V c H (ix4 (n0 := 8192) ⟨t.val * 32 + (y 0).val, by have := N0 a t; have : (y 0).val < 32 := (y 0).isLt; omega⟩ (y 1) (y 2) (y 3)) := by
  exact (out64_row _ y).trans (img_blk a V c t (y 1) (y 2) (y 3) H (y 0))

/-- A gather step stores the label rows its table entries name. -/
theorem step_lab (c : Dev nD) (H : ∀ j : S8192.Idx, (a.1 0 j : BitVec 32).toNat < 50000) (t : Fin (cfg0 a).N) (y : S32x1x10.Idx) :
    out0_65 (ys0 a V c t) y = gLab a V c H (ix3 (n0 := 8192) ⟨t.val * 32 + (y 0).val, by have := N0 a t; have : (y 0).val < 32 := (y 0).isLt; omega⟩ (y 1) (y 2)) := by
  idx_vars y
  obtain rfl : y1 = 0 := Subsingleton.elim _ _
  exact (out65_row _ _).trans (lab_blk a V c t y2 H y0)

set_option maxHeartbeats 1000000 in
/-- What the gather call leaves of the images: row `i` is the image the table names there. -/
theorem final0_img (c : Dev nD) (H : ∀ j : S8192.Idx, (a.1 0 j : BitVec 32).toNat < 50000) :
    (dat0 a V c).arrAt (64 : Fin 66) (cfg0 a).N = gImg a V c H := by
  refine (dat0 a V c).arrAt_eq_of_covers (64 : Fin 66) _ (cov64 a) fun t hf y => ?_
  rw [after0_64]
  have e : ∀ y : S32x3x32x32.Idx, ((((cfg0 a).win (64 : Fin 66)).blk t).view.emb y) = ix4 (n0 := 8192) ⟨t.val * 32 + (y 0).val, by have := N0 a t; have : (y 0).val < 32 := (y 0).isLt; omega⟩ (y 1) (y 2) (y 3) := by
    intro y
    blk_ext [idx64 a t]
  exact (step_img a V c H t y).trans (by rw [e y]; rfl)

set_option maxHeartbeats 1000000 in
/-- What the gather call leaves of the labels: row `i` is the label row the table names there. -/
theorem final0_lab (c : Dev nD) (H : ∀ j : S8192.Idx, (a.1 0 j : BitVec 32).toNat < 50000) :
    (dat0 a V c).arrAt (65 : Fin 66) (cfg0 a).N = gLab a V c H := by
  refine (dat0 a V c).arrAt_eq_of_covers (65 : Fin 66) _ (cov65 a) fun t hf y => ?_
  rw [after0_65]
  have e : ∀ y : S32x1x10.Idx, ((((cfg0 a).win (65 : Fin 66)).blk t).view.emb y) = ix3 (n0 := 8192) ⟨t.val * 32 + (y 0).val, by have := N0 a t; have : (y 0).val < 32 := (y 0).isLt; omega⟩ (y 1) (y 2) := by
    intro y
    blk_ext [idx65 a t]
  exact (step_lab a V c H t y).trans (by rw [e y]; rfl)

end Cert.KernelIdeal.Run
-- ==== Proof.Total.lean ====
/- The whole answer of one query and class, from images, weights and neighbours, written as plain functions. -/
module

public import proofs.«01_k».proof.Proof.Band

@[expose] public section

noncomputable section

namespace Cert.Spec

open Idealize.ShloMosaic
open scoped BigOperators

/-- An image's features in the order channel, row, column. -/
def flat (f : Fin 16 → Fin 5 → Fin 5 → EReal) (k : Fin 400) : EReal := f ⟨k.val / 25, by omega⟩ ⟨k.val % 25 / 5, by omega⟩ ⟨k.val % 5, by omega⟩

/-- A linear head's output of an image's features. -/
def head (f : Fin 16 → Fin 5 → Fin 5 → EReal) (W : Fin 400 → EReal) (b : EReal) : EReal := (∑ k : Fin 400, flat f k * W k) + b

/-- One class of one query's answer: `x` the query's image, `z s` the neighbours' images, `y s` the neighbours' labels. -/
def total (x : Fin 3 → Fin 32 → Fin 32 → EReal) (z : Fin 8 → Fin 3 → Fin 32 → Fin 32 → EReal) (y : Fin 8 → Fin 10 → EReal)
    (w1 : Fin 6 → Fin 3 → Fin 5 → Fin 5 → EReal) (b1 : Fin 6 → EReal) (w2 : Fin 16 → Fin 6 → Fin 5 → Fin 5 → EReal) (b2 : Fin 16 → EReal)
    (Wf : Fin 12 → Fin 400 → EReal) (bf : Fin 12 → EReal) (Wg : Fin 120 → Fin 400 → EReal) (bg : Fin 120 → EReal)
    (Wm : Fin 10 → Fin 10 → EReal) (bm : Fin 10 → EReal) (k : Fin 10) : EReal :=
  answer (fun s h => head (feat x w1 b1 w2 b2) (Wf h) (bf h) - head (feat (z s) w1 b1 w2 b2) (Wf h) (bf h))
    (fun h => head (feat x w1 b1 w2 b2) (Wg ⟨h.val * 10 + k.val, by omega⟩) (bg ⟨h.val * 10 + k.val, by omega⟩))
    (fun s => (∑ j : Fin 10, y s j * Wm k j) + bm k)

/-- The kernel's order of the features: the sum over rows and lanes is the head's sum. -/
theorem lin_head (f : Fin 16 → Fin 5 → Fin 5 → EReal) (G H : Fin 5 → Fin 80 → EReal) (W : Fin 400 → EReal) (b : EReal)
    (hG : ∀ (r : Fin 5) (o : Fin 16) (j : Fin 5), G r ⟨o.val * 5 + j.val, by omega⟩ = f o r j)
    (hH : ∀ (i : Fin 5) (q : Fin 80), H i q = W ⟨q.val / 5 * 25 + i.val * 5 + q.val % 5, by omega⟩) :
    lin G H + b = head f W b := by
  rw [head, sum_lanes]
  refine congrArg (· + b) (Finset.sum_congr rfl fun i _ => Finset.sum_congr rfl fun q _ => ?_)
  rw [hH]
  have e : (⟨q.val / 5 * 5 + q.val % 5, by omega⟩ : Fin 80) = q := Fin.ext (by show q.val / 5 * 5 + q.val % 5 = q.val; omega)
  have g := hG i ⟨q.val / 5, by omega⟩ ⟨q.val % 5, by omega⟩
  have e1 : (⟨(q.val / 5 * 25 + i.val * 5 + q.val % 5) / 25, by omega⟩ : Fin 16) = ⟨q.val / 5, by omega⟩ := Fin.ext (by show _ / 25 = _ / 5; omega)
  have e2 : (⟨(q.val / 5 * 25 + i.val * 5 + q.val % 5) % 25 / 5, by omega⟩ : Fin 5) = i := Fin.ext (by show _ % 25 / 5 = _; omega)
  have e3 : (⟨(q.val / 5 * 25 + i.val * 5 + q.val % 5) % 5, by omega⟩ : Fin 5) = ⟨q.val % 5, by omega⟩ := Fin.ext (by show _ % 5 = _ % 5; omega)
  simp only [flat, e1, e2, e3]
  rw [← g]
  exact congrArg (fun t => G i t * _) e.symm

end Cert.Spec
-- ==== Proof.Ideal.Answer.lean ====
/- The kernel's result, entry by entry. -/
module

public import proofs.«01_k».proof.Proof.Ideal.HostVal2
public import proofs.«01_k».proof.Proof.Ideal.HostVal3
public import proofs.«01_k».proof.Proof.Ideal.RegionVal3
public import proofs.«01_k».proof.Proof.Ideal.GatherFin
public import proofs.«01_k».proof.Proof.Ideal.Table
public import proofs.«01_k».proof.Proof.Total
public import Idealize.ShloMosaic.Lib.Pointwise
public import Idealize.ShloMosaic.Lib.Ring
public import Idealize.ShloMosaic.Lib.Tactic

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open scoped BigOperators

variable (m : (ℓ : Loc nD τ sig) → Buf (Elt Ideal) ℓ) (ρ : Dev nD → PrngReg) (a : (pcfg0 (F := Ideal)).Adm) (c : Dev nD)

/-- The images' arguments as arrays. -/
abbrev a0 : Vec Ideal S1024x3x32x32 .f32 := m ((c : Thread nD τ).loc main_arg0)
abbrev a1 : Vec Ideal S50000x3x32x32 .f32 := m ((c : Thread nD τ).loc main_arg1)

/-- The layers' weights and biases as plain functions. -/
abbrev k1w : Fin 6 → Fin 3 → Fin 5 → Fin 5 → EReal := fun o i d D => a3 m c (ix4 o i d D)
abbrev k1b : Fin 6 → EReal := fun o => a4 m c (ix1 o)
abbrev k2w : Fin 16 → Fin 6 → Fin 5 → Fin 5 → EReal := fun o i d D => a5 m c (ix4 o i d D)
abbrev k2b : Fin 16 → EReal := fun o => a6 m c (ix1 o)

/-- What the host code prepares and the calls only read. -/
abbrev hostRefs : List (Ref sig .tc) := [main_v10, main_v15, main_v21, main_v27, main_v34, main_v41, main_v42, main_v43, main_v44, main_v45]

/-- The gather writes none of the prepared arrays. -/
theorem hostIn0 : ∀ r ∈ hostRefs, ∀ w : Fin 66, Pipeline.arrRef spec0 w = r → (spec0 w).isOut = false :=
  ListAll.forall_mem_of_all_decide (by decide +kernel)
/-- The first featurize call writes none of the prepared arrays. -/
theorem hostIn1 : ∀ r ∈ hostRefs, ∀ w : Fin cfg1.W, Pipeline.arrRef spec1 w = r → (cfg1.win w).isOut = false :=
  ListAll.forall_mem_of_all_decide (by decide +kernel)
/-- The second featurize call writes none of the prepared arrays. -/
theorem hostIn2 : ∀ r ∈ hostRefs, ∀ w : Fin cfg2.W, Pipeline.arrRef spec2 w = r → (cfg2.win w).isOut = false :=
  ListAll.forall_mem_of_all_decide (by decide +kernel)

/-- After the gather a prepared array is as it was prepared. -/
theorem host2 (r : Ref sig .tc) (hr : r ∈ hostRefs) : W2 m ρ a c (Proc.devRef .tc r) = W1 m ρ c (Proc.devRef .tc r) :=
  W2_of m ρ a c r (hostIn0 r hr)
/-- After the first featurize call a prepared array is as it was prepared. -/
theorem host3 (r : Ref sig .tc) (hr : r ∈ hostRefs) : W3 m ρ a c (Proc.devRef .tc r) = W1 m ρ c (Proc.devRef .tc r) :=
  (W3_of m ρ a c r (hostIn1 r hr)).trans (host2 m ρ a c r hr)
/-- After the second featurize call a prepared array is as it was prepared. -/
theorem host4 (r : Ref sig .tc) (hr : r ∈ hostRefs) : W4 m ρ a c (Proc.devRef .tc r) = W1 m ρ c (Proc.devRef .tc r) :=
  (W4_of m ρ a c r (hostIn2 r hr)).trans (host3 m ρ a c r hr)

/-- With the prepared tables, the kernel's features are the two layers' features. -/
theorem feats_of {N : Nat} (x x' : Vec Ideal ⟨4, ![N, 3, 32, 32]⟩ .f32) (hx : x = x') (T : Vec Ideal S15x32x168 .f32) (hT : T = W1 m ρ c main_v10)
    (b : Vec Ideal S1x168 .f32) (hb : b = W1 m ρ c main_v21) (T2 : Vec Ideal S30x14x160 .f32) (hT2 : T2 = W1 m ρ c main_v15)
    (b2 : Vec Ideal S1x160 .f32) (hb2 : b2 = W1 m ρ c main_v27) (n : Fin N) (r : Fin 5) (o : Fin 16) (j : Fin 5) :
    feats x T b T2 b2 n r ⟨o.val * 5 + j.val, by omega⟩ = Cert.Spec.feat (fun i h w => x' (ix4 n i h w)) (k1w m c) (k1b m c) (k2w m c) (k2b m c) o r j := by
  subst hx hT hb hT2 hb2
  exact Cert.Spec.bandPool2_pool _ _ _ _ (k2w m c) (k2b m c)
    (fun i h w => Cert.Spec.bandPool1_pool _ _ _ (k1w m c) (k1b m c) (band1_lanes m ρ c) (bias1_lanes m ρ c) h i w)
    (band2_lanes m ρ c) (bias2_lanes m ρ c) r o j

/-- The queries' features, as the first featurize call leaves them. -/
theorem img_feats (n : Fin 1024) (r : Fin 5) (o : Fin 16) (j : Fin 5) :
    (W4 m ρ a c main_v49 : Vec Ideal S1024x5x80 .f32) (ix3 (n2 := 80) n r ⟨o.val * 5 + j.val, by omega⟩)
      = Cert.Spec.feat (fun i h w => a0 m c (ix4 n i h w)) (k1w m c) (k1b m c) (k2w m c) (k2b m c) o r j := by
  have e := (W4_of m ρ a c main_v49 (by decide +kernel)).trans ((W3_arr m ρ a c 5).trans (final1 (V2 m ρ a) c))
  refine (congrFun e _).trans ?_
  exact feats_of m ρ c _ _ (W2_args m ρ a c main_arg0 (by decide)) _ (host2 m ρ a c _ (by decide)) _ (host2 m ρ a c _ (by decide))
    _ (host2 m ρ a c _ (by decide)) _ (host2 m ρ a c _ (by decide)) n r o j

variable (H : ∀ j : S8192.Idx, (a.1 0 j : BitVec 32).toNat < 50000)

/-- The row a neighbour is read from. -/
def place (q : Fin 8192) : Fin 50000 := ⟨(a.1 0 (ix1 (n0 := 8192) q) : BitVec 32).toNat, H _⟩

/-- The row is the table's entry. -/
theorem place_val (q : Fin 8192) : (place a H q).val = (a.1 0 (ix1 (n0 := 8192) q) : BitVec 32).toNat := by
  simp only [place]

/-- The neighbours' features, as the second featurize call leaves them. -/
theorem sup_feats (n : Fin 8192) (r : Fin 5) (o : Fin 16) (j : Fin 5) :
    (W4 m ρ a c main_v50 : Vec Ideal S8192x5x80 .f32) (ix3 (n2 := 80) n r ⟨o.val * 5 + j.val, by omega⟩)
      = Cert.Spec.feat (fun i h w => a1 m c (ix4 (place a H n) i h w)) (k1w m c) (k1b m c) (k2w m c) (k2b m c) o r j := by
  have e := (W4_arr m ρ a c 5).trans (final2 (V3 m ρ a) c)
  have g := (W3_of m ρ a c main_v48_0 (by decide +kernel)).trans ((W2_arr m ρ a c (64 : Fin 66)).trans (final0_img a (V1 m ρ) c H))
  refine (congrFun e _).trans ?_
  refine (feats_of m ρ c _ _ g _ (host3 m ρ a c _ (by decide)) _ (host3 m ρ a c _ (by decide))
    _ (host3 m ρ a c _ (by decide)) _ (host3 m ρ a c _ (by decide)) n r o j).trans ?_
  have k := W1_args m ρ c main_arg1 (by decide)
  refine congrArg (fun X : Vec Ideal S50000x3x32x32 .f32 => Cert.Spec.feat (fun i h w => X (ix4 (place a H n) i h w)) (k1w m c) (k1b m c) (k2w m c) (k2b m c) o r j) k

/-- The neighbours' label rows, as the gather leaves them. -/
theorem sup_labels (n : Fin 8192) (j : Fin 10) :
    (W4 m ρ a c main_v48_1 : Vec Ideal S8192x1x10 .f32) (ix3 (n1 := 1) n 0 j) = a2 m c (ix2 (place a H n) j) := by
  have g := (W4_of m ρ a c main_v48_1 (by decide +kernel)).trans ((W3_of m ρ a c main_v48_1 (by decide +kernel)).trans
    ((W2_arr m ρ a c (65 : Fin 66)).trans (final0_lab a (V1 m ρ) c H)))
  exact (congrFun g _).trans (labels_at m ρ c (place a H n) j)

/-- The kernel's result, entry by entry. -/
theorem result_at (n : Fin 1024) (k : Fin 10) :
    (W5 m ρ a c main_v51 : Vec Ideal S1024x10 .f32) (ix2 n k)
      = Cert.Spec.total (fun i h w => a0 m c (ix4 n i h w)) (fun s i h w => a1 m c (ix4 (place a H ⟨n.val * 8 + s.val, by omega⟩) i h w))
        (fun s j => a2 m c (ix2 (place a H ⟨n.val * 8 + s.val, by omega⟩) j)) (k1w m c) (k1b m c) (k2w m c) (k2b m c)
        (fun h i => a7 m c (ix2 h i)) (fun h => a8 m c (ix1 h)) (fun h i => a9 m c (ix2 h i)) (fun h => a10 m c (ix1 h))
        (fun k j => a11 m c (ix2 k j)) (fun k => a12 m c (ix1 k)) k := by
  have e := (W5_arr m ρ a c 9).trans (final3 (V4 m ρ a) c)
  refine (congrFun e _).trans ?_
  have h34 := host4 m ρ a c main_v34 (by decide)
  have h41 := host4 m ρ a c main_v41 (by decide)
  have h42 := host4 m ρ a c main_v42 (by decide)
  have h43 := host4 m ρ a c main_v43 (by decide)
  have h44 := host4 m ρ a c main_v44 (by decide)
  have h45 := host4 m ρ a c main_v45 (by decide)
  have b42 : ∀ h : Fin 12, (W4 m ρ a c main_v42 : Vec Ideal S1x12 .f32) (ix2 (n0 := 1) 0 h) = a8 m c (ix1 h) := fun h => (congrFun h42 _).trans (head1_bias m ρ c h)
  have b43 : ∀ h : Fin 120, (W4 m ρ a c main_v43 : Vec Ideal S1x120 .f32) (ix2 (n0 := 1) 0 h) = a10 m c (ix1 h) := fun h => (congrFun h43 _).trans (head2_bias m ρ c h)
  have b44 : ∀ j k : Fin 10, (W4 m ρ a c main_v44 : Vec Ideal S10x10 .f32) (ix2 j k) = a11 m c (ix2 k j) := fun j k => (congrFun h44 _).trans (label_weights m ρ c j k)
  have b45 : ∀ k : Fin 10, (W4 m ρ a c main_v45 : Vec Ideal S1x10 .f32) (ix2 (n0 := 1) 0 k) = a12 m c (ix1 k) := fun k => (congrFun h45 _).trans (label_bias m ρ c k)
  have q1 := fun h : Fin 12 => Cert.Spec.lin_head _ (fun i q => (W4 m ρ a c main_v49 : Vec Ideal S1024x5x80 .f32) (ix3 n i q)) (fun i q => (W4 m ρ a c main_v34 : Vec Ideal S5x80x12 .f32) (ix3 i q h)) (fun i => a7 m c (ix2 h i)) (a8 m c (ix1 h))
    (img_feats m ρ a c n) (fun i q => (congrFun h34 _).trans (head1_at m ρ c i q h))
  have q2 := fun (s : Fin 8) (h : Fin 12) => Cert.Spec.lin_head _ (fun i q => (W4 m ρ a c main_v50 : Vec Ideal S8192x5x80 .f32) (ix3 (n0 := 8192) ⟨n.val * 8 + s.val, by omega⟩ i q)) (fun i q => (W4 m ρ a c main_v34 : Vec Ideal S5x80x12 .f32) (ix3 i q h)) (fun i => a7 m c (ix2 h i)) (a8 m c (ix1 h))
    (sup_feats m ρ a c H _) (fun i q => (congrFun h34 _).trans (head1_at m ρ c i q h))
  have q3 := fun h : Fin 120 => Cert.Spec.lin_head _ (fun i q => (W4 m ρ a c main_v49 : Vec Ideal S1024x5x80 .f32) (ix3 n i q)) (fun i q => (W4 m ρ a c main_v41 : Vec Ideal S5x80x120 .f32) (ix3 i q h)) (fun i => a9 m c (ix2 h i)) (a10 m c (ix1 h))
    (img_feats m ρ a c n) (fun i q => (congrFun h41 _).trans (head2_at m ρ c i q h))
  show answers (W4 m ρ a c main_v49) (W4 m ρ a c main_v50) (W4 m ρ a c main_v48_1) (W4 m ρ a c main_v34) (W4 m ρ a c main_v42)
    (W4 m ρ a c main_v41) (W4 m ρ a c main_v43) (W4 m ρ a c main_v44) (W4 m ρ a c main_v45) n k = _
  unfold answers Cert.Spec.total
  have d1 : ∀ (D D' : Fin 8 → Fin 12 → EReal) (G G' : Fin 12 → EReal) (M M' : Fin 8 → EReal), D = D' → G = G' → M = M' →
      Cert.Spec.answer D G M = Cert.Spec.answer D' G' M' := by
    rintro D _ G _ M _ rfl rfl rfl
    rfl
  refine d1 _ _ _ _ _ _ (funext fun s => funext fun h => ?_) (funext fun h => ?_) (funext fun s => ?_)
  · rw [b42, q1, q2]
  · rw [b43, q3]
  · rw [b45]
    refine congrArg (· + a12 m c (ix1 k)) (Finset.sum_congr rfl fun j _ => ?_)
    rw [b44, sup_labels m ρ a c H]

end Cert.KernelIdeal.Run
-- ==== Proof.ConvRef.lean ====
/- The plain convolution's operations read at an index: windows stacked along a new axis, the product over channel and window, the
   two-by-two pooling. Stated once for any batch and layer size. -/
module

public import proofs.«01_k».proof.Proof.Band
public import Idealize.ShloMosaic.Lib.Pointwise
public import Idealize.ShloMosaic.Lib.Tactic

@[expose] public section

noncomputable section

namespace Cert.Spec

open Idealize.ShloMosaic Idealize.ShloMosaic.TcCoe Idealize.ShloMosaic.Tactic
open scoped BigOperators

variable {N C S R : Nat}

/-- Along an axis of one entry the first entry is every entry. -/
theorem first_or {n : Nat} (i : Fin n) (hz : n = 1 → 0 < n) : (if h : n = 1 then (⟨0, hz h⟩ : Fin n) else i).val = i.val := by
  split <;> omega

/-- Five row-shifted slices of a batch of images, stacked along a new third axis. -/
def rows5 (x : FVec Ideal ⟨4, ![N, C, S, S]⟩ .f32) (h0 : (⟨4, ![N, C, S, S]⟩ : Shape).Slices ![0, 0, 0, 0] ⟨4, ![N, C, R, S]⟩)
    (h1 : (⟨4, ![N, C, S, S]⟩ : Shape).Slices ![0, 0, 1, 0] ⟨4, ![N, C, R, S]⟩) (h2 : (⟨4, ![N, C, S, S]⟩ : Shape).Slices ![0, 0, 2, 0] ⟨4, ![N, C, R, S]⟩)
    (h3 : (⟨4, ![N, C, S, S]⟩ : Shape).Slices ![0, 0, 3, 0] ⟨4, ![N, C, R, S]⟩) (h4 : (⟨4, ![N, C, S, S]⟩ : Shape).Slices ![0, 0, 4, 0] ⟨4, ![N, C, R, S]⟩)
    (hb : (⟨4, ![N, C, R, S]⟩ : Shape).BroadcastsInDim ⟨5, ![N, C, 1, R, S]⟩ (![0, 1, 3, 4] : Fin 4 → Fin 5))
    (hc : Shape.Concatenates [⟨5, ![N, C, 1, R, S]⟩, ⟨5, ![N, C, 1, R, S]⟩, ⟨5, ![N, C, 1, R, S]⟩, ⟨5, ![N, C, 1, R, S]⟩, ⟨5, ![N, C, 1, R, S]⟩] ⟨5, ![N, C, 5, R, S]⟩ 2) :
    FVec Ideal ⟨5, ![N, C, 5, R, S]⟩ .f32 :=
  concatenate ⟨5, ![N, C, 5, R, S]⟩ 2 [⟨⟨5, ![N, C, 1, R, S]⟩, broadcastInDim ⟨5, ![N, C, 1, R, S]⟩ ![0, 1, 3, 4] hb (extractStridedSlice ⟨4, ![N, C, R, S]⟩ ![0, 0, 0, 0] x h0)⟩,
    ⟨⟨5, ![N, C, 1, R, S]⟩, broadcastInDim ⟨5, ![N, C, 1, R, S]⟩ ![0, 1, 3, 4] hb (extractStridedSlice ⟨4, ![N, C, R, S]⟩ ![0, 0, 1, 0] x h1)⟩,
    ⟨⟨5, ![N, C, 1, R, S]⟩, broadcastInDim ⟨5, ![N, C, 1, R, S]⟩ ![0, 1, 3, 4] hb (extractStridedSlice ⟨4, ![N, C, R, S]⟩ ![0, 0, 2, 0] x h2)⟩,
    ⟨⟨5, ![N, C, 1, R, S]⟩, broadcastInDim ⟨5, ![N, C, 1, R, S]⟩ ![0, 1, 3, 4] hb (extractStridedSlice ⟨4, ![N, C, R, S]⟩ ![0, 0, 3, 0] x h3)⟩,
    ⟨⟨5, ![N, C, 1, R, S]⟩, broadcastInDim ⟨5, ![N, C, 1, R, S]⟩ ![0, 1, 3, 4] hb (extractStridedSlice ⟨4, ![N, C, R, S]⟩ ![0, 0, 4, 0] x h4)⟩] hc

/-- The stacked row slices read at an entry: the image shifted down by the slice's number. -/
theorem rows5_at (x : FVec Ideal ⟨4, ![N, C, S, S]⟩ .f32) (h0 h1 h2 h3 h4) (hb : (⟨4, ![N, C, R, S]⟩ : Shape).BroadcastsInDim ⟨5, ![N, C, 1, R, S]⟩ (![0, 1, 3, 4] : Fin 4 → Fin 5)) (hc) (hS : R + 4 ≤ S)
    (n : Fin N) (c : Fin C) (d : Fin 5) (h : Fin R) (w : Fin S) :
    rows5 x h0 h1 h2 h3 h4 hb hc (ix5 n c d h w) = x (ix4 (n2 := S) n c ⟨d.val + h.val, by omega⟩ w) := by
  pointwise [rows5]
  repeat' split
  all_goals
    refine congrArg x ?_
    funext a
    refine Fin.ext ?_
    fin_cases a
  all_goals
    simp [Shape.Idx.norm]
  all_goals
    have hn := n.isLt
    have hc := c.isLt
    have hh := h.isLt
    have hw := w.isLt
    have hd := d.isLt
    first
      | exact first_or _ _
      | (refine (first_or _ _).trans ?_; omega)
      | (refine (congrArg (_ + ·) (first_or _ _)).trans ?_; omega)

/-- Five column-shifted slices of a stack of row windows, stacked along a new fourth axis. -/
def cols5 (x : FVec Ideal ⟨5, ![N, C, 5, R, S]⟩ .f32) (h0 : (⟨5, ![N, C, 5, R, S]⟩ : Shape).Slices ![0, 0, 0, 0, 0] ⟨5, ![N, C, 5, R, R]⟩)
    (h1 : (⟨5, ![N, C, 5, R, S]⟩ : Shape).Slices ![0, 0, 0, 0, 1] ⟨5, ![N, C, 5, R, R]⟩) (h2 : (⟨5, ![N, C, 5, R, S]⟩ : Shape).Slices ![0, 0, 0, 0, 2] ⟨5, ![N, C, 5, R, R]⟩)
    (h3 : (⟨5, ![N, C, 5, R, S]⟩ : Shape).Slices ![0, 0, 0, 0, 3] ⟨5, ![N, C, 5, R, R]⟩) (h4 : (⟨5, ![N, C, 5, R, S]⟩ : Shape).Slices ![0, 0, 0, 0, 4] ⟨5, ![N, C, 5, R, R]⟩)
    (hb : (⟨5, ![N, C, 5, R, R]⟩ : Shape).BroadcastsInDim ⟨6, ![N, C, 5, 1, R, R]⟩ (![0, 1, 2, 4, 5] : Fin 5 → Fin 6))
    (hc : Shape.Concatenates [⟨6, ![N, C, 5, 1, R, R]⟩, ⟨6, ![N, C, 5, 1, R, R]⟩, ⟨6, ![N, C, 5, 1, R, R]⟩, ⟨6, ![N, C, 5, 1, R, R]⟩, ⟨6, ![N, C, 5, 1, R, R]⟩] ⟨6, ![N, C, 5, 5, R, R]⟩ 3) :
    FVec Ideal ⟨6, ![N, C, 5, 5, R, R]⟩ .f32 :=
  concatenate ⟨6, ![N, C, 5, 5, R, R]⟩ 3 [⟨⟨6, ![N, C, 5, 1, R, R]⟩, broadcastInDim ⟨6, ![N, C, 5, 1, R, R]⟩ ![0, 1, 2, 4, 5] hb (extractStridedSlice ⟨5, ![N, C, 5, R, R]⟩ ![0, 0, 0, 0, 0] x h0)⟩,
    ⟨⟨6, ![N, C, 5, 1, R, R]⟩, broadcastInDim ⟨6, ![N, C, 5, 1, R, R]⟩ ![0, 1, 2, 4, 5] hb (extractStridedSlice ⟨5, ![N, C, 5, R, R]⟩ ![0, 0, 0, 0, 1] x h1)⟩,
    ⟨⟨6, ![N, C, 5, 1, R, R]⟩, broadcastInDim ⟨6, ![N, C, 5, 1, R, R]⟩ ![0, 1, 2, 4, 5] hb (extractStridedSlice ⟨5, ![N, C, 5, R, R]⟩ ![0, 0, 0, 0, 2] x h2)⟩,
    ⟨⟨6, ![N, C, 5, 1, R, R]⟩, broadcastInDim ⟨6, ![N, C, 5, 1, R, R]⟩ ![0, 1, 2, 4, 5] hb (extractStridedSlice ⟨5, ![N, C, 5, R, R]⟩ ![0, 0, 0, 0, 3] x h3)⟩,
    ⟨⟨6, ![N, C, 5, 1, R, R]⟩, broadcastInDim ⟨6, ![N, C, 5, 1, R, R]⟩ ![0, 1, 2, 4, 5] hb (extractStridedSlice ⟨5, ![N, C, 5, R, R]⟩ ![0, 0, 0, 0, 4] x h4)⟩] hc

/-- The stacked column slices read at an entry: the row slices shifted right by the slice's number. -/
theorem cols5_at (x : FVec Ideal ⟨5, ![N, C, 5, R, S]⟩ .f32) (h0 h1 h2 h3 h4) (hb : (⟨5, ![N, C, 5, R, R]⟩ : Shape).BroadcastsInDim ⟨6, ![N, C, 5, 1, R, R]⟩ (![0, 1, 2, 4, 5] : Fin 5 → Fin 6)) (hc) (hS : R + 4 ≤ S)
    (n : Fin N) (c : Fin C) (d D : Fin 5) (h j : Fin R) :
    cols5 x h0 h1 h2 h3 h4 hb hc (ix6 n c d D h j) = x (ix5 (n4 := S) n c d h ⟨D.val + j.val, by omega⟩) := by
  pointwise [cols5]
  repeat' split
  all_goals
    refine congrArg x ?_
    funext a
    refine Fin.ext ?_
    fin_cases a
  all_goals
    simp [Shape.Idx.norm]
  all_goals
    have hn := n.isLt
    have hc := c.isLt
    have hh := h.isLt
    have hw := j.isLt
    have hd := D.isLt
    first
      | exact first_or _ _
      | (refine (first_or _ _).trans ?_; omega)
      | (refine (congrArg (_ + ·) (first_or _ _)).trans ?_; omega)

/-- The product over both window axes and the channels, for any batch and layer size. -/
abbrev convDot (N O C R : Nat) (wf : DotDims.WF ⟨4, ![O, C, 5, 5]⟩ ⟨6, ![N, C, 5, 5, R, R]⟩ ⟨4, ![O, N, R, R]⟩ [2, 3, 1] [2, 3, 1] [0] [0, 4, 5] [] []) :
    DotDims ⟨4, ![O, C, 5, 5]⟩ ⟨6, ![N, C, 5, 5, R, R]⟩ ⟨4, ![O, N, R, R]⟩ where
  lhsContracting := [2, 3, 1]
  rhsContracting := [2, 3, 1]
  lhsNonContracting := [0]
  rhsNonContracting := [0, 4, 5]
  lhsBatch := []
  rhsBatch := []
  wf := wf

/-- The indices summed over: window row, window column, channel. -/
def windows {O : Nat} (wf) : Fin 5 × Fin 5 × Fin C ≃ (convDot N O C R wf).contr.Idx where
  toFun p := fun (a : Fin 3) => match a with
    | ⟨0, _⟩ => (p.1 : Fin 5)
    | ⟨1, _⟩ => (p.2.1 : Fin 5)
    | ⟨2, _⟩ => (p.2.2 : Fin C)
  invFun k := (k (0 : Fin 3), k (1 : Fin 3), k (2 : Fin 3))
  left_inv p := rfl
  right_inv k := by
    funext a
    match (a : Fin 3) with
    | ⟨0, _⟩ => rfl
    | ⟨1, _⟩ => rfl
    | ⟨2, _⟩ => rfl

/-- The contraction of weights and windows read at an entry: the sum over channels, kernel rows and kernel columns. -/
theorem convDot_at {O : Nat} (wf) (w : FVec Ideal ⟨4, ![O, C, 5, 5]⟩ .f32) (x : FVec Ideal ⟨6, ![N, C, 5, 5, R, R]⟩ .f32) (o : Fin O) (n : Fin N) (h j : Fin R) :
    Host.dotGeneral (φ₁ := .f32) (φ₂ := .f32) (convDot N O C R wf) none w x (ix4 o n h j)
      = ∑ c : Fin C, ∑ d : Fin 5, ∑ D : Fin 5, w (ix4 o c d D) * x (ix6 n c d D h j) := by
  unfold Host.dotGeneral
  rw [Ideal.dotGeneral_apply, ← Equiv.sum_comp (windows wf), Fintype.sum_prod_type]
  have e : ∀ (d D : Fin 5) (c : Fin C), w ((convDot N O C R wf).lhsIdx (ix4 o n h j) (windows wf (d, D, c))) * x ((convDot N O C R wf).rhsIdx (ix4 o n h j) (windows wf (d, D, c)))
      = w (ix4 o c d D) * x (ix6 n c d D h j) := by
    intro d D c
    congr 1
    · refine congrArg w ?_
      funext a
      match a with
      | ⟨0, _⟩ => rfl
      | ⟨1, _⟩ => rfl
      | ⟨2, _⟩ => rfl
      | ⟨3, _⟩ => rfl
    · refine congrArg x ?_
      funext a
      match a with
      | ⟨0, _⟩ => rfl
      | ⟨1, _⟩ => rfl
      | ⟨2, _⟩ => rfl
      | ⟨3, _⟩ => rfl
      | ⟨4, _⟩ => rfl
      | ⟨5, _⟩ => rfl
  have s : ∀ d : Fin 5, (∑ p : Fin 5 × Fin C, w ((convDot N O C R wf).lhsIdx (ix4 o n h j) (windows wf (d, p))) * x ((convDot N O C R wf).rhsIdx (ix4 o n h j) (windows wf (d, p))))
      = ∑ c : Fin C, ∑ D : Fin 5, w (ix4 o c d D) * x (ix6 n c d D h j) := by
    intro d
    rw [Fintype.sum_prod_type, Finset.sum_comm]
    exact Finset.sum_congr rfl fun c _ => Finset.sum_congr rfl fun D _ => e d D c
  rw [Finset.sum_congr rfl fun d _ => s d, Finset.sum_comm]

variable {Q : Nat}

/-- A maximum over four entries, from the bottom. -/
theorem fold_four (f : Fin 2 × Fin 2 → EReal) : Finset.univ.fold max lo f = max (max (f (0, 0)) (f (0, 1))) (max (f (1, 0)) (f (1, 1))) := by
  rw [lo_eq]
  apply le_antisymm
  · rw [Finset.fold_max_le]
    refine ⟨bot_le, fun k _ => ?_⟩
    obtain ⟨p, q⟩ := k
    fin_cases p <;> fin_cases q <;> simp
  · have h : ∀ k, f k ≤ Finset.univ.fold max ⊥ f := fun k => (Finset.le_fold_max _).2 (Or.inr ⟨k, Finset.mem_univ _, le_rfl⟩)
    exact max_le (max_le (h _) (h _)) (max_le (h _) (h _))

/-- Splitting both pixel axes in halves of pairs. -/
theorem split_at {O : Nat} (a : FVec Ideal ⟨4, ![N, O, R, R]⟩ .f32) (hR : Q * 2 = R) (hs : (⟨4, ![N, O, R, R]⟩ : Shape).ShapeCasts ⟨6, ![N, O, Q, 2, Q, 2]⟩)
    (n : Fin N) (o : Fin O) (r : Fin Q) (p : Fin 2) (j : Fin Q) (q : Fin 2) :
    shapeCast ⟨6, ![N, O, Q, 2, Q, 2]⟩ a hs (ix6 n o r p j q) = a (ix4 (n2 := R) (n3 := R) n o ⟨r.val * 2 + p.val, by omega⟩ ⟨j.val * 2 + q.val, by omega⟩) := by
  refine shapeCast_apply a hs _ _ ?_
  rw [rowMajor_val4 _ _ _ _ rfl rfl rfl, rowMajor_val6 _ _ _ _ _ _ rfl rfl rfl rfl rfl]
  subst hR
  simp
  ring

/-- The two-by-two pooling of a batch of layers. -/
theorem pool_at {O : Nat} (a : FVec Ideal ⟨4, ![N, O, R, R]⟩ .f32) (hR : Q * 2 = R) (hs : (⟨4, ![N, O, R, R]⟩ : Shape).ShapeCasts ⟨6, ![N, O, Q, 2, Q, 2]⟩)
    (hr : (⟨6, ![N, O, Q, 2, Q, 2]⟩ : Shape).ReducesTo [3, 5] ⟨4, ![N, O, Q, Q]⟩) (hu : 0 < (⟨0, ![]⟩ : Shape).numel) (n : Fin N) (o : Fin O) (r j : Fin Q) :
    Host.reduce (FloatOps.maximumf (F := Ideal) (φ := .f32)) (shapeCast ⟨6, ![N, O, Q, 2, Q, 2]⟩ a hs) (constant (F := Ideal) ⟨0, ![]⟩ .f32 0xFF800000#32) hr hu (ix4 n o r j)
      = pool (by omega) (fun h w => a (ix4 n o h w)) r j := by
  rw [Host.reduce_eq_fold, Finset.fold_filter_eq_fold_of_fiber _ _ (fun k : Fin 2 × Fin 2 => (ix6 n o r k.1 j k.2 : (⟨6, ![N, O, Q, 2, Q, 2]⟩ : Shape).Idx))
    (fun k k' e => Prod.ext (congrFun e 3) (congrFun e 5)) ?_]
  · refine (fold_four _).trans ?_
    simp only [split_at a hR]
    rfl
  · intro i
    constructor
    · intro e
      refine ⟨(i 3, i 5), ?_⟩
      funext a
      match a with
      | ⟨0, _⟩ => exact (congrFun e 0).symm
      | ⟨1, _⟩ => exact (congrFun e 1).symm
      | ⟨2, _⟩ => exact (congrFun e 2).symm
      | ⟨3, _⟩ => rfl
      | ⟨4, _⟩ => exact (congrFun e 3).symm
      | ⟨5, _⟩ => rfl
    · rintro ⟨k, rfl⟩
      funext b
      match b with
      | ⟨0, _⟩ => rfl
      | ⟨1, _⟩ => rfl
      | ⟨2, _⟩ => rfl
      | ⟨3, _⟩ => rfl

end Cert.Spec
-- ==== Proof.LayerRef.lean ====
/- One layer of the plain network, from its images to its pooled channels, as the arithmetic of the specification. -/
module

public import proofs.«01_k».proof.Proof.ConvRef

@[expose] public section

noncomputable section

namespace Cert.Spec

open Idealize.ShloMosaic Idealize.ShloMosaic.TcCoe Idealize.ShloMosaic.Tactic
open scoped BigOperators

variable {N C S R O Q : Nat}

/-- A layer before its pooling: the product with its axes put in order, the bias, the positive part. -/
def pre (y : FVec Ideal ⟨4, ![O, N, R, R]⟩ .f32) (b : FVec Ideal ⟨1, ![O]⟩ .f32) (ht : (⟨4, ![O, N, R, R]⟩ : Shape).Transposes [1, 0, 2, 3] ⟨4, ![N, O, R, R]⟩)
    (hb1 : (⟨1, ![O]⟩ : Shape).BroadcastsInDim ⟨4, ![1, O, 1, 1]⟩ (![1] : Fin 1 → Fin 4))
    (hb2 : (⟨4, ![1, O, 1, 1]⟩ : Shape).BroadcastsInDim ⟨4, ![N, O, R, R]⟩ (![0, 1, 2, 3] : Fin 4 → Fin 4))
    (hb0 : (⟨0, ![]⟩ : Shape).BroadcastsInDim ⟨4, ![N, O, R, R]⟩ (![] : Fin 0 → Fin 4)) : FVec Ideal ⟨4, ![N, O, R, R]⟩ .f32 :=
  maximumf (addf (transpose ⟨4, ![N, O, R, R]⟩ [1, 0, 2, 3] y ht)
    (broadcastInDim ⟨4, ![N, O, R, R]⟩ ![0, 1, 2, 3] hb2 (broadcastInDim ⟨4, ![1, O, 1, 1]⟩ ![1] hb1 b)))
    (broadcastInDim ⟨4, ![N, O, R, R]⟩ ![] hb0 (constant (F := Ideal) ⟨0, ![]⟩ .f32 0x00000000#32))

/-- Choosing twice between the first index and a given one, when there is only one index to choose from. -/
theorem first_or_twice {O : Nat} (o : Fin O) (p q : O = 1 → 0 < O) :
    (if h : O = 1 then (⟨0, p h⟩ : Fin O) else if h : O = 1 then ⟨0, q h⟩ else o).val = o.val := by
  split_ifs with h
  · show 0 = o.val
    omega
  · rfl

/-- The bias and the positive part, read at an entry. -/
theorem pre_at (y : FVec Ideal ⟨4, ![O, N, R, R]⟩ .f32) (b : FVec Ideal ⟨1, ![O]⟩ .f32) (ht hb1 hb2 hb0) (n : Fin N) (o : Fin O) (h j : Fin R) :
    pre y b ht hb1 hb2 hb0 (ix4 n o h j) = max (y (ix4 o n h j) + b (ix1 o)) 0 := by
  pointwise [pre]
  refine congrArg₂ max (congrArg₂ (· + ·) (congrArg y ?_) (congrArg b ?_)) rfl
  · funext a
    match a with
    | ⟨0, _⟩ => rfl
    | ⟨1, _⟩ => rfl
    | ⟨2, _⟩ => rfl
    | ⟨3, _⟩ => rfl
  · funext a
    refine Fin.ext ?_
    fin_cases a
    simp [Shape.Idx.norm]
    exact first_or_twice o _ _

/-- A whole layer read at an entry: the pooled convolution. -/
theorem layer_at (w : FVec Ideal ⟨4, ![O, C, 5, 5]⟩ .f32) (b : FVec Ideal ⟨1, ![O]⟩ .f32) (X : FVec Ideal ⟨6, ![N, C, 5, 5, R, R]⟩ .f32) (wf ht hb1 hb2 hb0)
    (hR : Q * 2 = R) (hs) (hr : (⟨6, ![N, O, Q, 2, Q, 2]⟩ : Shape).ReducesTo [3, 5] ⟨4, ![N, O, Q, Q]⟩) (hu : 0 < (⟨0, ![]⟩ : Shape).numel)
    (hS : R + 4 ≤ S) (x : Fin N → Fin C → Fin S → Fin S → EReal)
    (hX : ∀ n c d D h j, X (ix6 n c d D h j) = x n c ⟨d.val + h.val, by omega⟩ ⟨D.val + j.val, by omega⟩) (n : Fin N) (o : Fin O) (r j : Fin Q) :
    Host.reduce (FloatOps.maximumf (F := Ideal) (φ := .f32))
        (shapeCast ⟨6, ![N, O, Q, 2, Q, 2]⟩ (pre (Host.dotGeneral (φ₁ := .f32) (φ₂ := .f32) (convDot N O C R wf) none w X) b ht hb1 hb2 hb0) hs)
        (constant (F := Ideal) ⟨0, ![]⟩ .f32 0xFF800000#32) hr hu (ix4 n o r j)
      = pool (by omega) (conv hS (x n) (fun o c d D => w (ix4 o c d D)) (fun o => b (ix1 o)) o) r j := by
  rw [pool_at _ hR]
  refine congrArg (fun a => pool _ a r j) ?_
  funext h k
  rw [pre_at, convDot_at]
  simp only [hX]
  rfl

/-- Channel, row and column of a feature are its place among the four hundred. -/
theorem flat_pos {N : Nat} (n : Fin N) (k : Fin 400) :
    ((⟨4, ![N, 16, 5, 5]⟩ : Shape).rowMajor (ix4 (n0 := N) (n1 := 16) (n2 := 5) (n3 := 5) n ⟨k.val / 25, by omega⟩ ⟨k.val % 25 / 5, by omega⟩ ⟨k.val % 5, by omega⟩)).val
      = ((⟨2, ![N, 400]⟩ : Shape).rowMajor (ix2 n k)).val := by
  refine (rowMajor_val4 _ _ _ _ rfl rfl rfl).trans (Eq.trans ?_ (rowMajor_val2 _ _ rfl).symm)
  show n.val * (16 * (5 * 5)) + k.val / 25 * (5 * 5) + k.val % 25 / 5 * 5 + k.val % 5 = n.val * 400 + k.val
  omega

end Cert.Spec
-- ==== Proof.RefFeat.lean ====
/- The reference's features of the queries, entry by entry. -/
module

public import proofs.«01_k».proof.Proof.LayerRef
public import proofs.«01_k».proof.Proof.Total
public import proofs.«01_k».proof.Proof.Gen.ReferenceIdeal.Run

@[expose] public section

set_option maxRecDepth 16384

noncomputable section

namespace Cert.ReferenceIdeal.Value

open Cert.ReferenceIdeal Cert.ReferenceIdeal.Gen
open Idealize.ShloMosaic Idealize.ShloMosaic.TcCoe Idealize.ShloMosaic.Tactic
open scoped BigOperators

variable (V0 : Valuation τ sig (Elt Ideal))

/-- The reference's arguments as arrays. -/
abbrev r0 : Vec Ideal S1024x3x32x32 .f32 := V0 (Proc.devRef .tc main_arg0)
abbrev r1 : Vec Ideal S50000x3x32x32 .f32 := V0 (Proc.devRef .tc main_arg1)
abbrev r2 : Vec Ideal S50000x10 .f32 := V0 (Proc.devRef .tc main_arg2)
abbrev r3 : Vec Ideal S6x3x5x5 .f32 := V0 (Proc.devRef .tc main_arg3)
abbrev r4 : Vec Ideal S6 .f32 := V0 (Proc.devRef .tc main_arg4)
abbrev r5 : Vec Ideal S16x6x5x5 .f32 := V0 (Proc.devRef .tc main_arg5)
abbrev r6 : Vec Ideal S16 .f32 := V0 (Proc.devRef .tc main_arg6)
abbrev r7 : Vec Ideal S12x400 .f32 := V0 (Proc.devRef .tc main_arg7)
abbrev r8 : Vec Ideal S12 .f32 := V0 (Proc.devRef .tc main_arg8)
abbrev r9 : Vec Ideal S120x400 .f32 := V0 (Proc.devRef .tc main_arg9)
abbrev r10 : Vec Ideal S120 .f32 := V0 (Proc.devRef .tc main_arg10)
abbrev r11 : Vec Ideal S10x10 .f32 := V0 (Proc.devRef .tc main_arg11)
abbrev r12 : Vec Ideal S10 .f32 := V0 (Proc.devRef .tc main_arg12)
abbrev r14 : Vec Ideal S1024x8 .i32 := V0 (Proc.devRef .tc main_arg14)

/-- The first layer's weights and bias, and the second's, as plain functions. -/
abbrev c1w : Fin 6 → Fin 3 → Fin 5 → Fin 5 → EReal := fun o c d D => r3 V0 (ix4 o c d D)
abbrev c1b : Fin 6 → EReal := fun o => r4 V0 (ix1 o)
abbrev c2w : Fin 16 → Fin 6 → Fin 5 → Fin 5 → EReal := fun o c d D => r5 V0 (ix4 o c d D)
abbrev c2b : Fin 16 → EReal := fun o => r6 V0 (ix1 o)

/-- The queries' windows: the image shifted down. -/
theorem rows_img (n : Fin 1024) (c : Fin 3) (d : Fin 5) (h : Fin 28) (w : Fin 32) :
    (res_main_v10 V0 : Vec Ideal S1024x3x5x28x32 .f32) (ix5 n c d h w) = r0 V0 (ix4 (n2 := 32) n c ⟨d.val + h.val, by omega⟩ w) := by
  exact Cert.Spec.rows5_at (N := 1024) (C := 3) (R := 28) (S := 32) (r0 V0) _ _ _ _ _ _ _ (by omega) n c d h w

/-- The queries' first layer. -/
theorem layer1_img (n : Fin 1024) (o : Fin 6) (r j : Fin 14) :
    (res_main_v30 V0 : Vec Ideal S1024x6x14x14 .f32) (ix4 n o r j)
      = Cert.Spec.pool (R := 28) (by omega) (Cert.Spec.conv (S := 32) (by omega) (fun c h w => r0 V0 (ix4 n c h w)) (c1w V0) (c1b V0) o) r j := by
  exact Cert.Spec.layer_at (N := 1024) (C := 3) (O := 6) (R := 28) (S := 32) (Q := 14) (r3 V0) (r4 V0)
    (Cert.Spec.cols5 (N := 1024) (C := 3) (R := 28) (S := 32) (res_main_v10 V0) _ _ _ _ _ _ _) _ _ _ _ _ (by omega) _ _ _ (by omega)
    (fun n c h w => r0 V0 (ix4 n c h w))
    (fun n c d D h j => (Cert.Spec.cols5_at (N := 1024) (C := 3) (R := 28) (S := 32) (res_main_v10 V0) _ _ _ _ _ _ _ (by omega) n c d D h j).trans (rows_img V0 n c d h _)) n o r j

/-- The windows of the queries' pooled first layer. -/
theorem rows_img2 (n : Fin 1024) (c : Fin 6) (d : Fin 5) (h : Fin 10) (w : Fin 14) :
    (res_main_v41 V0 : Vec Ideal S1024x6x5x10x14 .f32) (ix5 n c d h w)
      = Cert.Spec.pool (R := 28) (by omega) (Cert.Spec.conv (S := 32) (by omega) (fun c h w => r0 V0 (ix4 n c h w)) (c1w V0) (c1b V0) c) ⟨d.val + h.val, by omega⟩ w := by
  exact (Cert.Spec.rows5_at (N := 1024) (C := 6) (R := 10) (S := 14) (res_main_v30 V0) _ _ _ _ _ _ _ (by omega) n c d h w).trans (layer1_img V0 n c _ w)

/-- The queries' features. -/
theorem feat_img (n : Fin 1024) (k : Fin 400) :
    (res_main_v62 V0 : Vec Ideal S1024x400 .f32) (ix2 n k)
      = Cert.Spec.flat (Cert.Spec.feat (fun c h w => r0 V0 (ix4 n c h w)) (c1w V0) (c1b V0) (c2w V0) (c2b V0)) k := by
  refine (shapeCast_apply _ _ _ (ix4 (n0 := 1024) (n1 := 16) (n2 := 5) (n3 := 5) n ⟨k.val / 25, by omega⟩ ⟨k.val % 25 / 5, by omega⟩ ⟨k.val % 5, by omega⟩) ?_).trans ?_
  · exact Cert.Spec.flat_pos n k
  · exact Cert.Spec.layer_at (N := 1024) (C := 6) (O := 16) (R := 10) (S := 14) (Q := 5) (r5 V0) (r6 V0)
      (Cert.Spec.cols5 (N := 1024) (C := 6) (R := 10) (S := 14) (res_main_v41 V0) _ _ _ _ _ _ _) _ _ _ _ _ (by omega) _ _ _ (by omega)
      (fun n c h w => Cert.Spec.pool (R := 28) (by omega) (Cert.Spec.conv (S := 32) (by omega) (fun c h w => r0 V0 (ix4 n c h w)) (c1w V0) (c1b V0) c) h w)
      (fun n c d D h j => (Cert.Spec.cols5_at (N := 1024) (C := 6) (R := 10) (S := 14) (res_main_v41 V0) _ _ _ _ _ _ _ (by omega) n c d D h j).trans (rows_img2 V0 n c d h _)) n _ _ _

end Cert.ReferenceIdeal.Value
-- ==== Proof.RefFeat2.lean ====
/- The reference's features of the neighbours and the distances, entry by entry. -/
module

public import proofs.«01_k».proof.Proof.RefFeat
public import proofs.«01_k».proof.Proof.GatherRef

@[expose] public section

set_option maxRecDepth 16384

noncomputable section

namespace Cert.ReferenceIdeal.Value

open Cert.ReferenceIdeal Cert.ReferenceIdeal.Gen
open Idealize.ShloMosaic Idealize.ShloMosaic.TcCoe Idealize.ShloMosaic.Tactic
open scoped BigOperators

variable (V0 : Valuation τ sig (Elt Ideal)) (H : ∀ n s, (r14 V0 (ix2 n s)).toNat < 50000)

/-- The row a neighbour is read from: its reference number. -/
def row (q : Fin 8192) : Fin 50000 := ⟨(r14 V0 (ix2 (n0 := 1024) (n1 := 8) ⟨q.val / 8, by omega⟩ ⟨q.val % 8, by omega⟩)).toNat, H _ _⟩

/-- The row is the reference number at its query and neighbour. -/
theorem row_val (q : Fin 8192) : (row V0 H q).val = (r14 V0 (ix2 (n0 := 1024) (n1 := 8) ⟨q.val / 8, by omega⟩ ⟨q.val % 8, by omega⟩)).toNat := by
  simp only [row]

/-- A number below fifty thousand is not negative, so the reference's choice leaves it, and read as a signed number it is itself. -/
theorem choice_at (b : BitVec 32) (hb : b.toNat < 50000) (d : BitVec 32) :
    (Scalar.select (IntOp.cmpi .slt b 0#32) d b : BitVec 32).toInt.toNat = b.toNat := by
  have h1 : b.toInt = b.toNat := by
    rw [BitVec.toInt_eq_toNat_of_lt]
    omega
  have h2 : b.slt 0#32 = false := by
    rw [BitVec.slt]
    simp [h1]
  simp [Scalar.select, IntOp.cmpi, h1, h2]

/-- The neighbours' numbers, in one line, chosen as the reference does. -/
theorem number_at (q : Fin 8192) (z : Fin 1) :
    ((broadcastInDim S8192x1 ![0] bcast_S8192_S8192x1_0 (select (cmpi .slt (res_main_v68 V0) (broadcastInDim S8192 ![] bcast_S_S8192 (constantI S_ 32 0#32))) (addi (res_main_v68 V0) (broadcastInDim S8192 ![] bcast_S_S8192 (constantI S_ 32 50000#32))) (res_main_v68 V0)) : Vec Ideal S8192x1 .i32) (ix2 q z)).toInt.toNat = (row V0 H q).val := by
  have e : (res_main_v68 V0 : Vec Ideal S8192 .i32) (ix1 q) = r14 V0 (ix2 (n0 := 1024) (n1 := 8) ⟨q.val / 8, by omega⟩ ⟨q.val % 8, by omega⟩) := by
    pointwise [res_main_v68]
  pointwise
  rw [e]
  exact choice_at _ (H _ _) _

/-- The neighbours' images. -/
theorem sup_at (q : Fin 8192) (c : Fin 3) (h w : Fin 32) :
    (res_main_v75 V0 : Vec Ideal S8192x3x32x32 .f32) (ix4 q c h w) = r1 V0 (ix4 (row V0 H q) c h w) := by
  exact Cert.Spec.rows4_at _ _ _ q c h w (row V0 H q) (number_at V0 H q 0)

/-- The neighbours' windows: the image shifted down. -/
theorem rows_sup (n : Fin 8192) (c : Fin 3) (d : Fin 5) (h : Fin 28) (w : Fin 32) :
    (res_main_v86 V0 : Vec Ideal S8192x3x5x28x32 .f32) (ix5 n c d h w) = r1 V0 (ix4 (n2 := 32) (row V0 H n) c ⟨d.val + h.val, by omega⟩ w) := by
  exact (Cert.Spec.rows5_at (N := 8192) (C := 3) (R := 28) (S := 32) (res_main_v75 V0) _ _ _ _ _ _ _ (by omega) n c d h w).trans (sup_at V0 H n c _ w)

/-- The neighbours' first layer. -/
theorem layer1_sup (n : Fin 8192) (o : Fin 6) (r j : Fin 14) :
    (res_main_v106 V0 : Vec Ideal S8192x6x14x14 .f32) (ix4 n o r j)
      = Cert.Spec.pool (R := 28) (by omega) (Cert.Spec.conv (S := 32) (by omega) (fun c h w => r1 V0 (ix4 (row V0 H n) c h w)) (c1w V0) (c1b V0) o) r j := by
  exact Cert.Spec.layer_at (N := 8192) (C := 3) (O := 6) (R := 28) (S := 32) (Q := 14) (r3 V0) (r4 V0)
    (Cert.Spec.cols5 (N := 8192) (C := 3) (R := 28) (S := 32) (res_main_v86 V0) _ _ _ _ _ _ _) _ _ _ _ _ (by omega) _ _ _ (by omega)
    (fun n c h w => r1 V0 (ix4 (row V0 H n) c h w))
    (fun n c d D h j => (Cert.Spec.cols5_at (N := 8192) (C := 3) (R := 28) (S := 32) (res_main_v86 V0) _ _ _ _ _ _ _ (by omega) n c d D h j).trans (rows_sup V0 H n c d h _)) n o r j

/-- The windows of the neighbours' pooled first layer. -/
theorem rows_sup2 (n : Fin 8192) (c : Fin 6) (d : Fin 5) (h : Fin 10) (w : Fin 14) :
    (res_main_v117 V0 : Vec Ideal S8192x6x5x10x14 .f32) (ix5 n c d h w)
      = Cert.Spec.pool (R := 28) (by omega) (Cert.Spec.conv (S := 32) (by omega) (fun c h w => r1 V0 (ix4 (row V0 H n) c h w)) (c1w V0) (c1b V0) c) ⟨d.val + h.val, by omega⟩ w := by
  exact (Cert.Spec.rows5_at (N := 8192) (C := 6) (R := 10) (S := 14) (res_main_v106 V0) _ _ _ _ _ _ _ (by omega) n c d h w).trans (layer1_sup V0 H n c _ w)

/-- The differences of the first head, over the neighbours' features `G`. -/
def diff (A : FVec Ideal S1024x400 .f32) (G : FVec Ideal S8192x400 .f32) (W : FVec Ideal S12x400 .f32) (b : FVec Ideal S12 .f32) : FVec Ideal S1024x8x12 .f32 :=
  subf (φ := .f32) (broadcastInDim S1024x8x12 ![0, 1, 2] bcast_S1024x1x12_S1024x8x12_0_1_2 (broadcastInDim S1024x1x12 ![0, 2] bcast_S1024x12_S1024x1x12_0_2 (addf (Host.dotGeneral (φ₁ := .f32) (φ₂ := .f32) dot_S1024x400_S400x12_S1024x12_1_0_0_1_n_n none A (transpose S400x12 [1, 0] W transposes_S12x400_S400x12_1_0)) (broadcastInDim S1024x12 ![0, 1] bcast_S1x12_S1024x12_0_1 (broadcastInDim S1x12 ![1] bcast_S12_S1x12_1 b)))))
    (shapeCast S1024x8x12 (addf (Host.dotGeneral (φ₁ := .f32) (φ₂ := .f32) dot_S8192x400_S400x12_S8192x12_1_0_0_1_n_n none G (transpose S400x12 [1, 0] W transposes_S12x400_S400x12_1_0)) (broadcastInDim S8192x12 ![0, 1] bcast_S1x12_S8192x12_0_1 (broadcastInDim S1x12 ![1] bcast_S12_S1x12_1 b))) shapeCasts_S8192x12_S1024x8x12)

/-- A difference is the query's head output less the neighbour's. -/
theorem diff_at (A : FVec Ideal S1024x400 .f32) (G : FVec Ideal S8192x400 .f32) (W : FVec Ideal S12x400 .f32) (b : FVec Ideal S12 .f32) (n : Fin 1024) (s : Fin 8) (h : Fin 12) :
    diff A G W b (ix3 n s h) = ((∑ k : Fin 400, A (ix2 n k) * W (ix2 h k)) + b (ix1 h)) - ((∑ k : Fin 400, G (ix2 (n0 := 8192) ⟨n.val * 8 + s.val, by omega⟩ k) * W (ix2 h k)) + b (ix1 h)) := by
  pointwise [diff]

/-- The reference's differences are those of a table of neighbours' features. -/
theorem diff_ref : ∃ G : FVec Ideal S8192x400 .f32, res_main_v147 V0 = diff (res_main_v62 V0) G (r7 V0) (r8 V0) ∧
    ∀ (n : Fin 8192) (k : Fin 400), G (ix2 n k)
      = Cert.Spec.flat (Cert.Spec.feat (fun c h w => r1 V0 (ix4 (row V0 H n) c h w)) (c1w V0) (c1b V0) (c2w V0) (c2b V0)) k := by
  refine ⟨_, rfl, fun n k => ?_⟩
  refine (shapeCast_apply _ _ _ (ix4 (n0 := 8192) (n1 := 16) (n2 := 5) (n3 := 5) n ⟨k.val / 25, by omega⟩ ⟨k.val % 25 / 5, by omega⟩ ⟨k.val % 5, by omega⟩) ?_).trans ?_
  · exact Cert.Spec.flat_pos n k
  · exact Cert.Spec.layer_at (N := 8192) (C := 6) (O := 16) (R := 10) (S := 14) (Q := 5) (r5 V0) (r6 V0)
      (Cert.Spec.cols5 (N := 8192) (C := 6) (R := 10) (S := 14) (res_main_v117 V0) _ _ _ _ _ _ _) _ _ _ _ _ (by omega) _ _ _ (by omega)
      (fun n c h w => Cert.Spec.pool (R := 28) (by omega) (Cert.Spec.conv (S := 32) (by omega) (fun c h w => r1 V0 (ix4 (row V0 H n) c h w)) (c1w V0) (c1b V0) c) h w)
      (fun n c d D h j => (Cert.Spec.cols5_at (N := 8192) (C := 6) (R := 10) (S := 14) (res_main_v117 V0) _ _ _ _ _ _ _ (by omega) n c d D h j).trans (rows_sup2 V0 H n c d h _)) n _ _ _

/-- The difference of one neighbour's and the query's first head. -/
theorem dist_at (n : Fin 1024) (s : Fin 8) (h : Fin 12) :
    (res_main_v147 V0 : Vec Ideal S1024x8x12 .f32) (ix3 n s h)
      = (Cert.Spec.head (Cert.Spec.feat (fun c h w => r0 V0 (ix4 n c h w)) (c1w V0) (c1b V0) (c2w V0) (c2b V0)) (fun k => r7 V0 (ix2 h k)) (r8 V0 (ix1 h))
        - Cert.Spec.head (Cert.Spec.feat (fun c h w => r1 V0 (ix4 (row V0 H ⟨n.val * 8 + s.val, by omega⟩) c h w)) (c1w V0) (c1b V0) (c2w V0) (c2b V0)) (fun k => r7 V0 (ix2 h k)) (r8 V0 (ix1 h)) : EReal) := by
  obtain ⟨G, e, hG⟩ := diff_ref V0 H
  rw [e, diff_at]
  simp only [hG, feat_img]
  rfl

end Cert.ReferenceIdeal.Value
-- ==== Proof.RefHead.lean ====
/- The reference's heads, weights and weighted sum, entry by entry. -/
module

public import proofs.«01_k».proof.Proof.RefFeat2

@[expose] public section

set_option maxRecDepth 16384

noncomputable section

namespace Cert.ReferenceIdeal.Value

open Cert.ReferenceIdeal Cert.ReferenceIdeal.Gen
open Idealize.ShloMosaic Idealize.ShloMosaic.TcCoe Idealize.ShloMosaic.Tactic
open scoped BigOperators

variable (V0 : Valuation τ sig (Elt Ideal)) (H : ∀ n s, (r14 V0 (ix2 n s)).toNat < 50000)

/-- Minus the distance of each neighbour. -/
def scores (D : FVec Ideal S1024x8x12 .f32) : FVec Ideal S1024x8 .f32 :=
  Host.negf (Host.sqrt (Host.reduceAdd (mulf D D) (constant S_ .f32 0x00000000#32) reducesTo_S1024x8x12_S1024x8_d2 h_S_))

/-- A score is minus the root of the sum of squared differences. -/
theorem scores_at (D : FVec Ideal S1024x8x12 .f32) (n : Fin 1024) (s : Fin 8) :
    scores D (ix2 n s) = 0 - Ideal.sqrt (∑ h : Fin 12, D (ix3 n s h) * D (ix3 n s h)) := by
  pointwise [scores]
  exact (zero_sub _).symm

/-- The exponentials of the scores, shifted by their maximum. -/
def powers (N : FVec Ideal S1024x8 .f32) : FVec Ideal S1024x8 .f32 :=
  Host.exp (subf N (broadcastInDim S1024x8 ![0, 1] bcast_S1024x1_S1024x8_0_1 (broadcastInDim S1024x1 ![0] bcast_S1024_S1024x1_0 (maximumf (broadcastInDim S1024 ![] bcast_S_S1024 (constant S_ .f32 0xFF800000#32)) (Host.reduce FloatOps.maximumf N (constant S_ .f32 0xFF800000#32) reducesTo_S1024x8_S1024_d1 h_S_)))))

/-- A power is the exponential of the score less the largest of the eight scores. -/
theorem powers_at (N : FVec Ideal S1024x8 .f32) (n : Fin 1024) (s : Fin 8) :
    powers N (ix2 n s) = Ideal.exp (N (ix2 n s) - Finset.univ.fold max Cert.Spec.lo fun t : Fin 8 => N (ix2 n t)) := by
  pointwise [powers]
  refine congrArg (fun t => Ideal.exp (N (ix2 n s) - t)) (max_eq_right ?_)
  exact (le_of_eq Cert.Spec.lo_eq).trans bot_le

/-- The weights of the neighbours. -/
def shares (E : FVec Ideal S1024x8 .f32) : FVec Ideal S1024x8 .f32 :=
  Host.divf E (broadcastInDim S1024x8 ![0, 1] bcast_S1024x1_S1024x8_0_1 (broadcastInDim S1024x1 ![0] bcast_S1024_S1024x1_0 (Host.reduceAdd E (constant S_ .f32 0x00000000#32) reducesTo_S1024x8_S1024_d1 h_S_)))

/-- A share is a power over the sum of the eight powers. -/
theorem shares_at (E : FVec Ideal S1024x8 .f32) (n : Fin 1024) (s : Fin 8) :
    shares E (ix2 n s) = Ideal.div (E (ix2 n s)) (∑ t : Fin 8, E (ix2 n t)) := by
  pointwise [shares]

/-- The label scores of the neighbours and their corrections. -/
def values (L : FVec Ideal S1024x8x10 .f32) (W : FVec Ideal S10x10 .f32) (b : FVec Ideal S10 .f32) (D : FVec Ideal S1024x8x12 .f32)
    (A : FVec Ideal S1024x400 .f32) (Wg : FVec Ideal S120x400 .f32) (bg : FVec Ideal S120 .f32) : FVec Ideal S1024x8x10 .f32 :=
  addf (addf (Host.dotGeneral (φ₁ := .f32) (φ₂ := .f32) dot_S1024x8x10_S10x10_S1024x8x10_2_0_01_1_n_n none L (transpose S10x10 [1, 0] W transposes_S10x10_S10x10_1_0)) (broadcastInDim S1024x8x10 ![0, 1, 2] bcast_S1x1x10_S1024x8x10_0_1_2 (broadcastInDim S1x1x10 ![2] bcast_S10_S1x1x10_2 b)))
    (Host.dotGeneral (φ₁ := .f32) (φ₂ := .f32) dot_S1024x8x12_S1024x12x10_S1024x8x10_2_1_1_2_0_0 none D (shapeCast S1024x12x10 (addf (Host.dotGeneral (φ₁ := .f32) (φ₂ := .f32) dot_S1024x400_S400x120_S1024x120_1_0_0_1_n_n none A (transpose S400x120 [1, 0] Wg transposes_S120x400_S400x120_1_0)) (broadcastInDim S1024x120 ![0, 1] bcast_S1x120_S1024x120_0_1 (broadcastInDim S1x120 ![1] bcast_S120_S1x120_1 bg))) shapeCasts_S1024x120_S1024x12x10))

/-- A value is the neighbour's label score plus its differences times the query's gates. -/
theorem values_at (L : FVec Ideal S1024x8x10 .f32) (W : FVec Ideal S10x10 .f32) (b : FVec Ideal S10 .f32) (D : FVec Ideal S1024x8x12 .f32)
    (A : FVec Ideal S1024x400 .f32) (Wg : FVec Ideal S120x400 .f32) (bg : FVec Ideal S120 .f32) (n : Fin 1024) (s : Fin 8) (k : Fin 10) :
    values L W b D A Wg bg (ix3 n s k) = ((∑ j : Fin 10, L (ix3 n s j) * W (ix2 k j)) + b (ix1 k))
      + ∑ h : Fin 12, D (ix3 n s h) * ((∑ i : Fin 400, A (ix2 n i) * Wg (ix2 (n0 := 120) ⟨h.val * 10 + k.val, by omega⟩ i)) + bg (ix1 (n0 := 120) ⟨h.val * 10 + k.val, by omega⟩)) := by
  pointwise [values]

/-- The weighted sum over the neighbours and one further, empty, place. -/
def mixed (M : FVec Ideal S1024x8x10 .f32) (P : FVec Ideal S1024x8 .f32) : FVec Ideal S1024x10 .f32 :=
  Host.dotGeneral (φ₁ := .f32) (φ₂ := .f32) dot_S1024x9x10_S1024x9_S1024x10_1_1_2_n_0_0 none
    (concatenate S1024x9x10 1 [⟨S1024x8x10, M⟩, ⟨S1024x1x10, (broadcastInDim S1024x1x10 ![] bcast_S_S1024x1x10 (constant S_ .f32 0x00000000#32))⟩] concatenates_S1024x8x10_S1024x1x10_S1024x9x10_d1)
    (concatenate S1024x9 1 [⟨S1024x8, P⟩, ⟨S1024x1, (broadcastInDim S1024x1 ![] bcast_S_S1024x1 (constant S_ .f32 0x00000000#32))⟩] concatenates_S1024x8_S1024x1_S1024x9_d1)

/-- The ninth place adds nothing: the result is the sum over the eight neighbours. -/
theorem mixed_at (M : FVec Ideal S1024x8x10 .f32) (P : FVec Ideal S1024x8 .f32) (n : Fin 1024) (k : Fin 10) :
    mixed M P (ix2 n k) = ∑ s : Fin 8, M (ix3 n s k) * P (ix2 n s) := by
  pointwise [mixed]
  simp

/-- The neighbours' label rows. -/
def labels : FVec Ideal S1024x8x10 .f32 :=
  Host.gather gather_S50000x10_S1024x8x1_S1024x8x10_2_0_n_n_0_2_110 (r2 V0) (broadcastInDim S1024x8x1 ![0, 1] bcast_S1024x8_S1024x8x1_0_1 (select (cmpi .slt (r14 V0) (broadcastInDim S1024x8 ![] bcast_S_S1024x8 (constantI S_ 32 0#32))) (addi (r14 V0) (broadcastInDim S1024x8 ![] bcast_S_S1024x8 (constantI S_ 32 50000#32))) (r14 V0)))

/-- The neighbours' numbers by query and neighbour, chosen as the reference does. -/
theorem number2_at (n : Fin 1024) (s : Fin 8) (z : Fin 1) :
    ((broadcastInDim S1024x8x1 ![0, 1] bcast_S1024x8_S1024x8x1_0_1 (select (cmpi .slt (r14 V0) (broadcastInDim S1024x8 ![] bcast_S_S1024x8 (constantI S_ 32 0#32))) (addi (r14 V0) (broadcastInDim S1024x8 ![] bcast_S_S1024x8 (constantI S_ 32 50000#32))) (r14 V0)) : Vec Ideal S1024x8x1 .i32) (ix3 n s z)).toInt.toNat
      = (row V0 H ⟨n.val * 8 + s.val, by omega⟩).val := by
  have e : (row V0 H ⟨n.val * 8 + s.val, by omega⟩).val = (r14 V0 (ix2 n s)).toNat := by
    have e1 : (⟨(n.val * 8 + s.val) / 8, by omega⟩ : Fin 1024) = n := Fin.ext (by show _ / 8 = _; omega)
    have e2 : (⟨(n.val * 8 + s.val) % 8, by omega⟩ : Fin 8) = s := Fin.ext (by show _ % 8 = _; omega)
    simp only [row, e1, e2]
  rw [e]
  pointwise
  exact choice_at _ (H _ _) _

/-- A gathered label row is the row of the neighbour's number. -/
theorem labels_at (n : Fin 1024) (s : Fin 8) (j : Fin 10) :
    labels V0 (ix3 n s j) = r2 V0 (ix2 (row V0 H ⟨n.val * 8 + s.val, by omega⟩) j) := by
  exact Cert.Spec.rows2_at _ _ _ n s j _ (number2_at V0 H n s 0)

/-- What the reference computes. -/
def out : FVec Ideal S1024x10 .f32 :=
  mixed (values (labels V0) (r11 V0) (r12 V0) (res_main_v147 V0) (res_main_v62 V0) (r9 V0) (r10 V0)) (shares (res_main_v176 V0))

/-- The reference's result, entry by entry. -/
theorem out_at (n : Fin 1024) (k : Fin 10) :
    out V0 (ix2 n k) = Cert.Spec.total (fun c h w => r0 V0 (ix4 n c h w)) (fun s c h w => r1 V0 (ix4 (row V0 H ⟨n.val * 8 + s.val, by omega⟩) c h w))
      (fun s j => r2 V0 (ix2 (row V0 H ⟨n.val * 8 + s.val, by omega⟩) j)) (c1w V0) (c1b V0) (c2w V0) (c2b V0)
      (fun h i => r7 V0 (ix2 h i)) (fun h => r8 V0 (ix1 h)) (fun h i => r9 V0 (ix2 h i)) (fun h => r10 V0 (ix1 h))
      (fun k j => r11 V0 (ix2 k j)) (fun k => r12 V0 (ix1 k)) k := by
  have e1 : res_main_v176 V0 = powers (scores (res_main_v147 V0)) := rfl
  rw [out, mixed_at, e1]
  simp only [values_at, shares_at, powers_at, scores_at, labels_at V0 H, feat_img]
  simp only [dist_at V0 H]
  rfl

end Cert.ReferenceIdeal.Value
-- ==== Proof.Algebraic.lean ====
/- The kernel on the extended reals computes the reference's result. -/
module

public import proofs.«01_k».proof.Defs
public import proofs.«01_k».proof.Proof.Frames
public import proofs.«01_k».proof.Proof.Ideal.Answer
public import proofs.«01_k».proof.Proof.RefHead

@[expose] public section

set_option maxRecDepth 16384

noncomputable section

namespace Cert.Proof

open Idealize.ShloMosaic Idealize.ShloMosaic.TcCoe Idealize.ShloMosaic.Tactic Idealize.SL.Sem
open Cert.KernelIdeal.Run Cert.ReferenceIdeal.Value

variable (m : (ℓ : Loc Cert.KernelIdeal.nD Cert.KernelIdeal.τ Cert.KernelIdeal.sig) → Buf (Elt Ideal) ℓ) (g : Dev Cert.KernelIdeal.nD → PrngReg)

/-- The table's entry for a place in the line is the reference number at its query and neighbour. -/
theorem table_at (hpre : Cert.Pre_KernelIdeal (hPre_in_table := Cert.Pre_in_table.Gen.facts) m) (c : Dev Cert.KernelIdeal.nD) (q : Fin 8192) :
    ((tbl m g hpre).1 0 (ix1 (n0 := 8192) q) : BitVec 32)
      = (m ((c : Thread Cert.KernelIdeal.nD Cert.KernelIdeal.τ).loc Cert.KernelIdeal.main_arg14) : Vec Ideal Cert.KernelIdeal.S1024x8 .i32) (ix2 (n0 := 1024) (n1 := 8) ⟨q.val / 8, by omega⟩ ⟨q.val % 8, by omega⟩) := by
  obtain rfl : c = 0 := Subsingleton.elim _ _
  refine (congrFun (table_eq m g 0) (ix1 (n0 := 8192) q)).trans ?_
  refine shapeCast_apply _ _ _ _ ?_
  refine (rowMajor_val2 _ _ rfl).trans (Eq.trans ?_ (rowMajor_val1 _).symm)
  show q.val / 8 * 8 + q.val % 8 = q.val
  omega

/-- From memories that agree on the arguments, the reference's result is the kernel's. -/
theorem same_result (hpre : Cert.Pre_KernelIdeal (hPre_in_table := Cert.Pre_in_table.Gen.facts) m) (c : Dev Cert.KernelIdeal.nD)
    (V0 : Valuation Cert.ReferenceIdeal.τ Cert.ReferenceIdeal.sig (Elt Ideal))
    (h0 : r0 V0 = a0 m c) (h1 : r1 V0 = a1 m c) (h2 : r2 V0 = a2 m c) (h3 : r3 V0 = a3 m c) (h4 : r4 V0 = a4 m c) (h5 : r5 V0 = a5 m c) (h6 : r6 V0 = a6 m c)
    (h7 : r7 V0 = a7 m c) (h8 : r8 V0 = a8 m c) (h9 : r9 V0 = a9 m c) (h10 : r10 V0 = a10 m c) (h11 : r11 V0 = a11 m c) (h12 : r12 V0 = a12 m c)
    (h14 : r14 V0 = (m ((c : Thread Cert.KernelIdeal.nD Cert.KernelIdeal.τ).loc Cert.KernelIdeal.main_arg14) : Vec Ideal Cert.KernelIdeal.S1024x8 .i32)) :
    (out V0 : FVec Ideal Cert.ReferenceIdeal.S1024x10 .f32) = W5 m g (tbl m g hpre) c Cert.KernelIdeal.main_v51 := by
  have H : ∀ n s, (r14 V0 (ix2 n s)).toNat < 50000 := fun n s =>
    lt_of_eq_of_lt (congrArg BitVec.toNat (congrFun h14 (ix2 n s))) (refs_lt m hpre c (ix2 n s))
  have H' : ∀ j : Cert.KernelIdeal.S8192.Idx, ((tbl m g hpre).1 0 j : BitVec 32).toNat < 50000 := fun j => table_lt m g hpre 0 j
  have hrow : ∀ q, row V0 H q = place (tbl m g hpre) H' q := fun q => by
    have e : (r14 V0 (ix2 (n0 := 1024) (n1 := 8) ⟨q.val / 8, by omega⟩ ⟨q.val % 8, by omega⟩) : BitVec 32) = ((tbl m g hpre).1 0 (ix1 (n0 := 8192) q) : BitVec 32) :=
      (congrFun h14 _).trans (table_at m g hpre c q).symm
    have t : ∀ u v : BitVec 32, u = v → u.toNat = v.toNat := fun u v h => congrArg _ h
    have e2 := t _ _ e
    exact Fin.ext ((row_val V0 H q).trans (e2.trans (place_val (tbl m g hpre) H' q).symm))
  funext i
  have hi : i = ix2 (i 0) (i 1) := eq_ix2 i
  rw [hi]
  refine (out_at V0 H (i 0) (i 1)).trans (Eq.trans ?_ (result_at m g (tbl m g hpre) c H' (i 0) (i 1)).symm)
  simp only [hrow]
  unfold c1w c1b c2w c2b
  rw [h0, h1, h2, h3, h4, h5, h6, h7, h8, h9, h10, h11, h12]

/-- **The value claim**: the kernel on the extended reals and the reference end with equal results. -/
theorem same : Cert.algebraic_KernelIdeal_ReferenceIdeal (hKernelIdeal := Cert.KernelIdeal.Gen.facts) (hReferenceIdeal := Cert.ReferenceIdeal.Gen.facts) (hPre_in_table := Cert.Pre_in_table.Gen.facts) := by
  intro m g m' g' hpre hargs
  refine ⟨fun c => W5 m g (tbl m g hpre) c Cert.KernelIdeal.main_v51, ?_, ?_⟩
  · refine (θ_run _ _ _).mono (fun r h c => ?_) (ends m g hpre)
    have K := fun r hr hs => arg_kept m g hpre c _ (h.1 c) r hr hs
    exact ⟨h.1 c _ (by decide), K _ (by decide) (by decide), K _ (by decide) (by decide), K _ (by decide) (by decide), K _ (by decide) (by decide), K _ (by decide) (by decide), K _ (by decide) (by decide), K _ (by decide) (by decide), K _ (by decide) (by decide), K _ (by decide) (by decide), K _ (by decide) (by decide), K _ (by decide) (by decide), K _ (by decide) (by decide), K _ (by decide) (by decide), K _ (by decide) (by decide), K _ (by decide) (by decide)⟩
  · refine (θ_run _ _ _).mono (fun r h c => ⟨(h c).1.trans ?_, (h c).2⟩) (Cert.ReferenceIdeal.Value.run m' g')
    obtain ⟨e0, e1, e2, e3, e4, e5, e6, e7, e8, e9, e10, e11, e12, e13, e14⟩ := hargs c
    exact same_result m g hpre c (StableHlo.launchContents m' c) e0 e1 e2 e3 e4 e5 e6 e7 e8 e9 e10 e11 e12 e14

end Cert.Proof

end
-- ==== Proof.lean ====
/- The proof of the claim: the frames of the three programs, the idealization and the equality of the results. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_table
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- **The claim.** -/
theorem claim : Cert.Claim :=
  ⟨Cert.Kernel.Gen.facts, Cert.KernelIdeal.Gen.facts, Cert.ReferenceIdeal.Gen.facts, Cert.Pre_in_table.Gen.facts,
    frame_kernel, frame_ideal, frame_reference, frame_reference_pre, trivial, same⟩

end Cert.Proof

end
